-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_v247) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v12) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v12) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v6_0)) (v1 : (c : Dev Cert.KernelFfnIdeal.nD) → Buf (Elt Ideal) ((c.tc : Thread Cert.KernelFfnIdeal.nD Cert.KernelFfnIdeal.τ).loc Cert.KernelFfnIdeal.main_v6_1)) (v2 : (c : Dev Cert.KernelFfnIdeal.nD) → Buf (Elt Ideal) ((c.tc : Thread Cert.KernelFfnIdeal.nD Cert.KernelFfnIdeal.τ).loc Cert.KernelFfnIdeal.main_v6_2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6_0) = v0 c
          ∧ r.2.mem ((c.tc : Thread Cert.KernelFfnIdeal.nD Cert.KernelFfnIdeal.τ).loc Cert.KernelFfnIdeal.main_v6_1) = v1 c
          ∧ r.2.mem ((c.tc : Thread Cert.KernelFfnIdeal.nD Cert.KernelFfnIdeal.τ).loc Cert.KernelFfnIdeal.main_v6_2) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v78) = v0 c
          ∧ r.2.mem ((c.tc : Thread Cert.ReferenceFfnIdeal.nD Cert.ReferenceFfnIdeal.τ).loc Cert.ReferenceFfnIdeal.main_v80) = v1 c
          ∧ r.2.mem ((c.tc : Thread Cert.ReferenceFfnIdeal.nD Cert.ReferenceFfnIdeal.τ).loc Cert.ReferenceFfnIdeal.main_v81) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v5_0)) (v1 : (c : Dev Cert.KernelMixIdeal.nD) → Buf (Elt Ideal) ((c.tc : Thread Cert.KernelMixIdeal.nD Cert.KernelMixIdeal.τ).loc Cert.KernelMixIdeal.main_v5_1)) (v2 : (c : Dev Cert.KernelMixIdeal.nD) → Buf (Elt Ideal) ((c.tc : Thread Cert.KernelMixIdeal.nD Cert.KernelMixIdeal.τ).loc Cert.KernelMixIdeal.main_v5_2)) (v3 : (c : Dev Cert.KernelMixIdeal.nD) → Buf (Elt Ideal) ((c.tc : Thread Cert.KernelMixIdeal.nD Cert.KernelMixIdeal.τ).loc Cert.KernelMixIdeal.main_v5_3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v5_0) = v0 c
          ∧ r.2.mem ((c.tc : Thread Cert.KernelMixIdeal.nD Cert.KernelMixIdeal.τ).loc Cert.KernelMixIdeal.main_v5_1) = v1 c
          ∧ r.2.mem ((c.tc : Thread Cert.KernelMixIdeal.nD Cert.KernelMixIdeal.τ).loc Cert.KernelMixIdeal.main_v5_2) = v2 c
          ∧ r.2.mem ((c.tc : Thread Cert.KernelMixIdeal.nD Cert.KernelMixIdeal.τ).loc Cert.KernelMixIdeal.main_v5_3) = v3 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v16) = v0 c
          ∧ r.2.mem ((c.tc : Thread Cert.ReferenceMixIdeal.nD Cert.ReferenceMixIdeal.τ).loc Cert.ReferenceMixIdeal.main_v15) = v1 c
          ∧ r.2.mem ((c.tc : Thread Cert.ReferenceMixIdeal.nD Cert.ReferenceMixIdeal.τ).loc Cert.ReferenceMixIdeal.main_v30) = v2 c
          ∧ r.2.mem ((c.tc : Thread Cert.ReferenceMixIdeal.nD Cert.ReferenceMixIdeal.τ).loc Cert.ReferenceMixIdeal.main_v31) = v3 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v4_0)) (v1 : (c : Dev Cert.KernelProjIdeal.nD) → Buf (Elt Ideal) ((c.tc : Thread Cert.KernelProjIdeal.nD Cert.KernelProjIdeal.τ).loc Cert.KernelProjIdeal.main_v4_1)) (v2 : (c : Dev Cert.KernelProjIdeal.nD) → Buf (Elt Ideal) ((c.tc : Thread Cert.KernelProjIdeal.nD Cert.KernelProjIdeal.τ).loc Cert.KernelProjIdeal.main_v4_2)) (v3 : (c : Dev Cert.KernelProjIdeal.nD) → Buf (Elt Ideal) ((c.tc : Thread Cert.KernelProjIdeal.nD Cert.KernelProjIdeal.τ).loc Cert.KernelProjIdeal.main_v4_3)) (v4 : (c : Dev Cert.KernelProjIdeal.nD) → Buf (Elt Ideal) ((c.tc : Thread Cert.KernelProjIdeal.nD Cert.KernelProjIdeal.τ).loc Cert.KernelProjIdeal.main_v4_4)) (v5 : (c : Dev Cert.KernelProjIdeal.nD) → Buf (Elt Ideal) ((c.tc : Thread Cert.KernelProjIdeal.nD Cert.KernelProjIdeal.τ).loc Cert.KernelProjIdeal.main_v4_5)) (v6 : (c : Dev Cert.KernelProjIdeal.nD) → Buf (Elt Ideal) ((c.tc : Thread Cert.KernelProjIdeal.nD Cert.KernelProjIdeal.τ).loc Cert.KernelProjIdeal.main_v4_6)) (v7 : (c : Dev Cert.KernelProjIdeal.nD) → Buf (Elt Ideal) ((c.tc : Thread Cert.KernelProjIdeal.nD Cert.KernelProjIdeal.τ).loc Cert.KernelProjIdeal.main_v4_7)) (v8 : (c : Dev Cert.KernelProjIdeal.nD) → Buf (Elt Ideal) ((c.tc : Thread Cert.KernelProjIdeal.nD Cert.KernelProjIdeal.τ).loc Cert.KernelProjIdeal.main_v4_8)) (v9 : (c : Dev Cert.KernelProjIdeal.nD) → Buf (Elt Ideal) ((c.tc : Thread Cert.KernelProjIdeal.nD Cert.KernelProjIdeal.τ).loc Cert.KernelProjIdeal.main_v4_9)) (v10 : (c : Dev Cert.KernelProjIdeal.nD) → Buf (Elt Ideal) ((c.tc : Thread Cert.KernelProjIdeal.nD Cert.KernelProjIdeal.τ).loc Cert.KernelProjIdeal.main_v4_10)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v4_0) = v0 c
          ∧ r.2.mem ((c.tc : Thread Cert.KernelProjIdeal.nD Cert.KernelProjIdeal.τ).loc Cert.KernelProjIdeal.main_v4_1) = v1 c
          ∧ r.2.mem ((c.tc : Thread Cert.KernelProjIdeal.nD Cert.KernelProjIdeal.τ).loc Cert.KernelProjIdeal.main_v4_2) = v2 c
          ∧ r.2.mem ((c.tc : Thread Cert.KernelProjIdeal.nD Cert.KernelProjIdeal.τ).loc Cert.KernelProjIdeal.main_v4_3) = v3 c
          ∧ r.2.mem ((c.tc : Thread Cert.KernelProjIdeal.nD Cert.KernelProjIdeal.τ).loc Cert.KernelProjIdeal.main_v4_4) = v4 c
          ∧ r.2.mem ((c.tc : Thread Cert.KernelProjIdeal.nD Cert.KernelProjIdeal.τ).loc Cert.KernelProjIdeal.main_v4_5) = v5 c
          ∧ r.2.mem ((c.tc : Thread Cert.KernelProjIdeal.nD Cert.KernelProjIdeal.τ).loc Cert.KernelProjIdeal.main_v4_6) = v6 c
          ∧ r.2.mem ((c.tc : Thread Cert.KernelProjIdeal.nD Cert.KernelProjIdeal.τ).loc Cert.KernelProjIdeal.main_v4_7) = v7 c
          ∧ r.2.mem ((c.tc : Thread Cert.KernelProjIdeal.nD Cert.KernelProjIdeal.τ).loc Cert.KernelProjIdeal.main_v4_8) = v8 c
          ∧ r.2.mem ((c.tc : Thread Cert.KernelProjIdeal.nD Cert.KernelProjIdeal.τ).loc Cert.KernelProjIdeal.main_v4_9) = v9 c
          ∧ r.2.mem ((c.tc : Thread Cert.KernelProjIdeal.nD Cert.KernelProjIdeal.τ).loc Cert.KernelProjIdeal.main_v4_10) = v10 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v20) = v0 c
          ∧ r.2.mem ((c.tc : Thread Cert.ReferenceProjIdeal.nD Cert.ReferenceProjIdeal.τ).loc Cert.ReferenceProjIdeal.main_v21) = v1 c
          ∧ r.2.mem ((c.tc : Thread Cert.ReferenceProjIdeal.nD Cert.ReferenceProjIdeal.τ).loc Cert.ReferenceProjIdeal.main_v22) = v2 c
          ∧ r.2.mem ((c.tc : Thread Cert.ReferenceProjIdeal.nD Cert.ReferenceProjIdeal.τ).loc Cert.ReferenceProjIdeal.main_v24) = v3 c
          ∧ r.2.mem ((c.tc : Thread Cert.ReferenceProjIdeal.nD Cert.ReferenceProjIdeal.τ).loc Cert.ReferenceProjIdeal.main_v26) = v4 c
          ∧ r.2.mem ((c.tc : Thread Cert.ReferenceProjIdeal.nD Cert.ReferenceProjIdeal.τ).loc Cert.ReferenceProjIdeal.main_v28) = v5 c
          ∧ r.2.mem ((c.tc : Thread Cert.ReferenceProjIdeal.nD Cert.ReferenceProjIdeal.τ).loc Cert.ReferenceProjIdeal.main_v30) = v6 c
          ∧ r.2.mem ((c.tc : Thread Cert.ReferenceProjIdeal.nD Cert.ReferenceProjIdeal.τ).loc Cert.ReferenceProjIdeal.main_v32) = v7 c
          ∧ r.2.mem ((c.tc : Thread Cert.ReferenceProjIdeal.nD Cert.ReferenceProjIdeal.τ).loc Cert.ReferenceProjIdeal.main_v34) = v8 c
          ∧ r.2.mem ((c.tc : Thread Cert.ReferenceProjIdeal.nD Cert.ReferenceProjIdeal.τ).loc Cert.ReferenceProjIdeal.main_v17) = v9 c
          ∧ r.2.mem ((c.tc : Thread Cert.ReferenceProjIdeal.nD Cert.ReferenceProjIdeal.τ).loc Cert.ReferenceProjIdeal.main_v35) = v10 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelFfn : Cert.KernelFfn.Facts) (hKernelFfnIdeal : Cert.KernelFfnIdeal.Facts) (hReferenceFfnIdeal : Cert.ReferenceFfnIdeal.Facts) (hKernelMix : Cert.KernelMix.Facts) (hKernelMixIdeal : Cert.KernelMixIdeal.Facts) (hReferenceMixIdeal : Cert.ReferenceMixIdeal.Facts) (hKernelProj : Cert.KernelProj.Facts) (hKernelProjIdeal : Cert.KernelProjIdeal.Facts) (hReferenceProjIdeal : Cert.ReferenceProjIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMix_KernelMixIdeal
    ∧ algebraic_KernelMixIdeal_ReferenceMixIdeal (hKernelMixIdeal := hKernelMixIdeal) (hReferenceMixIdeal := hReferenceMixIdeal)
    ∧ preserves_KernelProj_KernelProjIdeal
    ∧ algebraic_KernelProjIdeal_ReferenceProjIdeal (hKernelProjIdeal := hKernelProjIdeal) (hReferenceProjIdeal := hReferenceProjIdeal)
-- ==== Pre_finite.lean ====
abbrev S8192x512 : Shape := ⟨2, ![8192, 512]⟩
abbrev S1x8x8192x64 : Shape := ⟨4, ![1, 8, 8192, 64]⟩
abbrev S1x8x8192 : Shape := ⟨3, ![1, 8, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x8x8192x64 : S_.BroadcastsInDim S1x8x8192x64 (![] : Fin 0 → Fin S1x8x8192x64.rank)
  reducesTo_S1x8x8192x64_S_d0_1_2_3 : S1x8x8192x64.ReducesTo [0, 1, 2, 3] S_
  bcast_S_S1x8x8192 : S_.BroadcastsInDim S1x8x8192 (![] : Fin 0 → Fin S1x8x8192.rank)
  reducesTo_S1x8x8192_S_d0_1_2 : S1x8x8192.ReducesTo [0, 1, 2] S_

variable [Facts]

def fn_part2 {F : FTy → Type} [FloatOps F] (main_arg7 : FVec F S1x8x8192 .f32) (main_v33 : IVec S_ 1) : IVec S_ 1 :=
  let main_v34 : FVec F S1x8x8192 .f32 := Host.absf main_arg7
  let main_cst_12 : FVec F S_ .f32 := constant S_ .f32 0x7F800000#32
  let main_v35 : FVec F S1x8x8192 .f32 := broadcastInDim S1x8x8192 ![] bcast_S_S1x8x8192 main_cst_12
  let main_v36 : IVec S1x8x8192 1 := cmpf .olt main_v34 main_v35
  let main_c_13 : IVec S_ 1 := constantI S_ 1 1#1
  let main_v37 : IVec S_ 1 := (fun x v => Host.reduce IntOp.andi x v reducesTo_S1x8x8192_S_d0_1_2 h_S_) main_v36 main_c_13
  let main_v38 : IVec S_ 1 := andi main_v33 main_v37
  main_v38

def fn_part1 {F : FTy → Type} [FloatOps F] (main_arg4 : FVec F S1x8x8192x64 .f32) (main_arg5 : FVec F S1x8x8192 .f32) (main_arg6 : FVec F S1x8x8192x64 .f32) (main_arg7 : FVec F S1x8x8192 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S1x8x8192x64 .f32 := Host.absf main_arg4
  let main_cst_6 : FVec F S_ .f32 := constant S_ .f32 0x7F800000#32
  let main_v20 : FVec F S1x8x8192x64 .f32 := broadcastInDim S1x8x8192x64 ![] bcast_S_S1x8x8192x64 main_cst_6
  let main_v21 : IVec S1x8x8192x64 1 := cmpf .olt main_v19 main_v20
  let main_c_7 : IVec S_ 1 := constantI S_ 1 1#1
  let main_v22 : IVec S_ 1 := (fun x v => Host.reduce IntOp.andi x v reducesTo_S1x8x8192x64_S_d0_1_2_3 h_S_) main_v21 main_c_7
  let main_v23 : IVec S_ 1 := andi main_v18 main_v22
  let main_v24 : FVec F S1x8x8192 .f32 := Host.absf main_arg5
  let main_cst_8 : FVec F S_ .f32 := constant S_ .f32 0x7F800000#32
  let main_v25 : FVec F S1x8x8192 .f32 := broadcastInDim S1x8x8192 ![] bcast_S_S1x8x8192 main_cst_8
  let main_v26 : IVec S1x8x8192 1 := cmpf .olt main_v24 main_v25
  let main_c_9 : IVec S_ 1 := constantI S_ 1 1#1
  let main_v27 : IVec S_ 1 := (fun x v => Host.reduce IntOp.andi x v reducesTo_S1x8x8192_S_d0_1_2 h_S_) main_v26 main_c_9
  let main_v28 : IVec S_ 1 := andi main_v23 main_v27
  let main_v29 : FVec F S1x8x8192x64 .f32 := Host.absf main_arg6
  let main_cst_10 : FVec F S_ .f32 := constant S_ .f32 0x7F800000#32
  let main_v30 : FVec F S1x8x8192x64 .f32 := broadcastInDim S1x8x8192x64 ![] bcast_S_S1x8x8192x64 main_cst_10
  let main_v31 : IVec S1x8x8192x64 1 := cmpf .olt main_v29 main_v30
  let main_c_11 : IVec S_ 1 := constantI S_ 1 1#1
  let main_v32 : IVec S_ 1 := (fun x v => Host.reduce IntOp.andi x v reducesTo_S1x8x8192x64_S_d0_1_2_3 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S1x8x8192x64 .f32) (main_arg5 : FVec F S1x8x8192 .f32) (main_arg6 : FVec F S1x8x8192x64 .f32) (main_arg7 : FVec F S1x8x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_v13 main_v16
-- ==== Kernel.lean ====
abbrev S8192x512 : Shape := ⟨2, ![8192, 512]⟩
abbrev S1x8x8192x64 : Shape := ⟨4, ![1, 8, 8192, 64]⟩
abbrev S1x8x8192 : Shape := ⟨3, ![1, 8, 8192]⟩
abbrev S_ : Shape := ⟨0, ![]⟩
abbrev S512x8192 : Shape := ⟨2, ![512, 8192]⟩
abbrev S1x8192x8x64 : Shape := ⟨4, ![1, 8192, 8, 64]⟩
abbrev S1x8x16x128x64 : Shape := ⟨5, ![1, 8, 16, 128, 64]⟩
abbrev S1x8x512x16x64 : Shape := ⟨5, ![1, 8, 512, 16, 64]⟩
abbrev S1x8x16x512x64 : Shape := ⟨5, ![1, 8, 16, 512, 64]⟩
abbrev S1x8x16x4x128x64 : Shape := ⟨6, ![1, 8, 16, 4, 128, 64]⟩
abbrev S1x8x16x640x64 : Shape := ⟨5, ![1, 8, 16, 640, 64]⟩
abbrev S1x8x16x4x256x64 : Shape := ⟨6, ![1, 8, 16, 4, 256, 64]⟩
abbrev S1x8x16x4x128x256 : Shape := ⟨6, ![1, 8, 16, 4, 128, 256]⟩
abbrev S4x128x256 : Shape := ⟨3, ![4, 128, 256]⟩
abbrev S1x8x16x4x128 : Shape := ⟨5, ![1, 8, 16, 4, 128]⟩
abbrev S1x8x16x4x128x1 : Shape := ⟨6, ![1, 8, 16, 4, 128, 1]⟩
abbrev S1x8x16x512 : Shape := ⟨4, ![1, 8, 16, 512]⟩
abbrev S1x8x512x16 : Shape := ⟨4, ![1, 8, 512, 16]⟩
abbrev S8192x8x1 : Shape := ⟨3, ![8192, 8, 1]⟩
abbrev S8192x8x16 : Shape := ⟨3, ![8192, 8, 16]⟩
abbrev S512x2048 : Shape := ⟨2, ![512, 2048]⟩
abbrev S128x8192 : Shape := ⟨2, ![128, 8192]⟩
abbrev S512x512 : Shape := ⟨2, ![512, 512]⟩
abbrev S128x512 : Shape := ⟨2, ![128, 512]⟩
abbrev S512x128 : Shape := ⟨2, ![512, 128]⟩
abbrev S1x128 : Shape := ⟨2, ![1, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S128x1 : Shape := ⟨2, ![128, 1]⟩
abbrev S256x1 : Shape := ⟨2, ![256, 1]⟩

abbrev nBuf : Space → Nat
  | .hbm => 128
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x8x8192x64, .f32⟩
  | .hbm, ⟨5, _⟩ => ⟨S1x8x8192, .f32⟩
  | .hbm, ⟨6, _⟩ => ⟨S1x8x8192x64, .f32⟩
  | .hbm, ⟨7, _⟩ => ⟨S1x8x8192, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S512x8192, .bf16⟩
  | .hbm, ⟨13, _⟩ => ⟨S1x8192x8x64, .f32⟩
  | .hbm, ⟨14, _⟩ => ⟨S1x8x8192x64, .f32⟩
  | .hbm, ⟨15, _⟩ => ⟨S1x8192x8x64, .f32⟩
  | .hbm, ⟨16, _⟩ => ⟨S1x8x8192x64, .f32⟩
  | .hbm, ⟨17, _⟩ => ⟨S1x8192x8x64, .f32⟩
  | .hbm, ⟨18, _⟩ => ⟨S1x8x8192x64, .f32⟩
  | .hbm, ⟨19, _⟩ => ⟨S_, .f32⟩
  | .hbm, ⟨20, _⟩ => ⟨S1x8x16x128x64, .f32⟩
  | .hbm, ⟨21, _⟩ => ⟨S1x8x512x16x64, .f32⟩
  | .hbm, ⟨22, _⟩ => ⟨S1x8x16x512x64, .f32⟩
  | .hbm, ⟨23, _⟩ => ⟨S1x8x16x4x128x64, .f32⟩
  | .hbm, ⟨24, _⟩ => ⟨S1x8x512x16x64, .f32⟩
  | .hbm, ⟨25, _⟩ => ⟨S1x8x16x512x64, .f32⟩
  | .hbm, ⟨26, _⟩ => ⟨S1x8x16x640x64, .f32⟩
  | .hbm, ⟨27, _⟩ => ⟨S1x8x16x512x64, .f32⟩
  | .hbm, ⟨28, _⟩ => ⟨S1x8x16x4x128x64, .f32⟩
  | .hbm, ⟨29, _⟩ => ⟨S1x8x16x512x64, .f32⟩
  | .hbm, ⟨30, _⟩ => ⟨S1x8x16x4x128x64, .f32⟩
  | .hbm, ⟨31, _⟩ => ⟨S1x8x16x4x256x64, .f32⟩
  | .hbm, ⟨32, _⟩ => ⟨S1x8x16x4x128x256, .f32⟩
  | .hbm, ⟨33, _⟩ => ⟨S_, .f32⟩
  | .hbm, ⟨34, _⟩ => ⟨S1x8x16x4x128x256, .f32⟩
  | .hbm, ⟨35, _⟩ => ⟨S1x8x16x4x128x256, .f32⟩
  | .hbm, ⟨36, _⟩ => ⟨S4x128x256, .i32⟩
  | .hbm, ⟨37, _⟩ => ⟨S4x128x256, .i32⟩
  | .hbm, ⟨38, _⟩ => ⟨S4x128x256, .i32⟩
  | .hbm, ⟨39, _⟩ => ⟨S_, .i32⟩
  | .hbm, ⟨40, _⟩ => ⟨S4x128x256, .i32⟩
  | .hbm, ⟨41, _⟩ => ⟨S4x128x256, .i1⟩
  | .hbm, ⟨42, _⟩ => ⟨S4x128x256, .i32⟩
  | .hbm, ⟨43, _⟩ => ⟨S4x128x256, .i1⟩
  | .hbm, ⟨44, _⟩ => ⟨S4x128x256, .i1⟩
  | .hbm, ⟨45, _⟩ => ⟨S4x128x256, .i32⟩
  | .hbm, ⟨46, _⟩ => ⟨S4x128x256, .i32⟩
  | .hbm, ⟨47, _⟩ => ⟨S4x128x256, .i1⟩
  | .hbm, ⟨48, _⟩ => ⟨S4x128x256, .i1⟩
  | .hbm, ⟨49, _⟩ => ⟨S_, .f32⟩
  | .hbm, ⟨50, _⟩ => ⟨S_, .f32⟩
  | .hbm, ⟨51, _⟩ => ⟨S1x8x16x4x128x256, .i1⟩
  | .hbm, ⟨52, _⟩ => ⟨S1x8x16x4x128x256, .f32⟩
  | .hbm, ⟨53, _⟩ => ⟨S1x8x16x4x128x256, .f32⟩
  | .hbm, ⟨54, _⟩ => ⟨S_, .f32⟩
  | .hbm, ⟨55, _⟩ => ⟨S1x8x16x4x128, .f32⟩
  | .hbm, ⟨56, _⟩ => ⟨S1x8x16x4x128x1, .f32⟩
  | .hbm, ⟨57, _⟩ => ⟨S1x8x16x4x128x256, .f32⟩
  | .hbm, ⟨58, _⟩ => ⟨S1x8x16x4x128x256, .f32⟩
  | .hbm, ⟨59, _⟩ => ⟨S1x8x16x4x128x256, .f32⟩
  | .hbm, ⟨60, _⟩ => ⟨S_, .f32⟩
  | .hbm, ⟨61, _⟩ => ⟨S1x8x16x4x128, .f32⟩
  | .hbm, ⟨62, _⟩ => ⟨S1x8x16x4x128x1, .f32⟩
  | .hbm, ⟨63, _⟩ => ⟨S1x8x512x16x64, .f32⟩
  | .hbm, ⟨64, _⟩ => ⟨S1x8x16x512x64, .f32⟩
  | .hbm, ⟨65, _⟩ => ⟨S1x8x16x640x64, .f32⟩
  | .hbm, ⟨66, _⟩ => ⟨S1x8x16x512x64, .f32⟩
  | .hbm, ⟨67, _⟩ => ⟨S1x8x16x4x128x64, .f32⟩
  | .hbm, ⟨68, _⟩ => ⟨S1x8x16x512x64, .f32⟩
  | .hbm, ⟨69, _⟩ => ⟨S1x8x16x4x128x64, .f32⟩
  | .hbm, ⟨70, _⟩ => ⟨S1x8x16x4x256x64, .f32⟩
  | .hbm, ⟨71, _⟩ => ⟨S1x8x16x4x128x64, .f32⟩
  | .hbm, ⟨72, _⟩ => ⟨S1x8x16x4x128x64, .f32⟩
  | .hbm, ⟨73, _⟩ => ⟨S1x8x16x4x128x64, .f32⟩
  | .hbm, ⟨74, _⟩ => ⟨S1x8x16x4x128x1, .f32⟩
  | .hbm, ⟨75, _⟩ => ⟨S1x8x16x4x128x1, .f32⟩
  | .hbm, ⟨76, _⟩ => ⟨S1x8x16x4x128, .f32⟩
  | .hbm, ⟨77, _⟩ => ⟨S1x8x16x512x64, .f32⟩
  | .hbm, ⟨78, _⟩ => ⟨S1x8x512x16x64, .f32⟩
  | .hbm, ⟨79, _⟩ => ⟨S1x8x8192x64, .f32⟩
  | .hbm, ⟨80, _⟩ => ⟨S1x8x16x512, .f32⟩
  | .hbm, ⟨81, _⟩ => ⟨S1x8x512x16, .f32⟩
  | .hbm, ⟨82, _⟩ => ⟨S1x8x8192, .f32⟩
  | .hbm, ⟨83, _⟩ => ⟨S1x8x8192, .f32⟩
  | .hbm, ⟨84, _⟩ => ⟨S1x8x8192, .f32⟩
  | .hbm, ⟨85, _⟩ => ⟨S1x8x8192, .f32⟩
  | .hbm, ⟨86, _⟩ => ⟨S1x8x8192, .f32⟩
  | .hbm, ⟨87, _⟩ => ⟨S1x8x8192, .f32⟩
  | .hbm, ⟨88, _⟩ => ⟨S1x8x8192, .f32⟩
  | .hbm, ⟨89, _⟩ => ⟨S1x8x8192, .f32⟩
  | .hbm, ⟨90, _⟩ => ⟨S1x8x8192, .f32⟩
  | .hbm, ⟨91, _⟩ => ⟨S1x8x8192, .f32⟩
  | .hbm, ⟨92, _⟩ => ⟨S1x8x8192, .f32⟩
  | .hbm, ⟨93, _⟩ => ⟨S1x8x8192, .f32⟩
  | .hbm, ⟨94, _⟩ => ⟨S1x8x8192x64, .f32⟩
  | .hbm, ⟨95, _⟩ => ⟨S1x8x8192, .f32⟩
  | .hbm, ⟨96, _⟩ => ⟨S1x8x8192x64, .f32⟩
  | .hbm, ⟨97, _⟩ => ⟨S1x8x8192, .f32⟩
  | .hbm, ⟨98, _⟩ => ⟨S1x8x8192x64, .f32⟩
  | .hbm, ⟨99, _⟩ => ⟨S1x8x8192x64, .f32⟩
  | .hbm, ⟨100, _⟩ => ⟨S1x8x8192x64, .f32⟩
  | .hbm, ⟨101, _⟩ => ⟨S1x8x8192x64, .f32⟩
  | .hbm, ⟨102, _⟩ => ⟨S1x8x8192x64, .f32⟩
  | .hbm, ⟨103, _⟩ => ⟨S1x8x8192x64, .f32⟩
  | .hbm, ⟨104, _⟩ => ⟨S1x8x8192, .f32⟩
  | .hbm, ⟨105, _⟩ => ⟨S1x8x8192, .f32⟩
  | .hbm, ⟨106, _⟩ => ⟨S1x8192x8x64, .f32⟩
  | .hbm, ⟨107, _⟩ => ⟨S1x8x8192x64, .f32⟩
  | .hbm, ⟨108, _⟩ => ⟨S1x8x8192x64, .f32⟩
  | .hbm, ⟨109, _⟩ => ⟨S_, .f32⟩
  | .hbm, ⟨110, _⟩ => ⟨S1x8x8192, .f32⟩
  | .hbm, ⟨111, _⟩ => ⟨S8192x512, .bf16⟩
  | .hbm, ⟨112, _⟩ => ⟨S512x8192, .bf16⟩
  | .hbm, ⟨113, _⟩ => ⟨S8192x512, .bf16⟩
  | .hbm, ⟨114, _⟩ => ⟨S512x8192, .bf16⟩
  | .hbm, ⟨115, _⟩ => ⟨S8192x512, .bf16⟩
  | .hbm, ⟨116, _⟩ => ⟨S512x8192, .bf16⟩
  | .hbm, ⟨117, _⟩ => ⟨S8192x8x1, .f32⟩
  | .hbm, ⟨118, _⟩ => ⟨S8192x8x16, .f32⟩
  | .hbm, ⟨119, _⟩ => ⟨S512x2048, .f32⟩
  | .hbm, ⟨120, _⟩ => ⟨S8192x8x1, .f32⟩
  | .hbm, ⟨121, _⟩ => ⟨S8192x8x16, .f32⟩
  | .hbm, ⟨122, _⟩ => ⟨S512x2048, .f32⟩
  | .hbm, ⟨123, _⟩ => ⟨S512x8192, .bf16⟩
  | .hbm, ⟨124, _⟩ => ⟨S512x8192, .bf16⟩
  | .hbm, ⟨125, _⟩ => ⟨S512x8192, .bf16⟩
  | .hbm, ⟨126, _⟩ => ⟨S128x8192, .bf16⟩
  | .hbm, ⟨127, _⟩ => ⟨S128x8192, .bf16⟩
  | .local _ .vmem, ⟨0, _⟩ => ⟨S512x512, .bf16⟩
  | .local _ .vmem, ⟨1, _⟩ => ⟨S512x512, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_5 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104_0 : Ref sig .tc := ⟨.hbm, 123, rfl⟩
abbrev main_v104_1 : Ref sig .tc := ⟨.hbm, 124, rfl⟩
abbrev main_v104_2 : Ref sig .tc := ⟨.hbm, 125, rfl⟩
abbrev main_v104_3 : Ref sig .tc := ⟨.hbm, 126, rfl⟩
abbrev main_v104_4 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x512 : Shape := ⟨2, ![8192, 512]⟩
abbrev S1x8x8192x64 : Shape := ⟨4, ![1, 8, 8192, 64]⟩
abbrev S1x8x8192 : Shape := ⟨3, ![1, 8, 8192]⟩
abbrev S1x8192x8x64 : Shape := ⟨4, ![1, 8192, 8, 64]⟩
abbrev S1x8x512x16x64 : Shape := ⟨5, ![1, 8, 512, 16, 64]⟩
abbrev S1x8x16x512x64 : Shape := ⟨5, ![1, 8, 16, 512, 64]⟩
abbrev S1x8x16x4x128x64 : Shape := ⟨6, ![1, 8, 16, 4, 128, 64]⟩
abbrev S_ : Shape := ⟨0, ![]⟩
abbrev S1x8x16x128x64 : Shape := ⟨5, ![1, 8, 16, 128, 64]⟩
abbrev S1x8x16x640x64 : Shape := ⟨5, ![1, 8, 16, 640, 64]⟩
abbrev S1x8x16x4x256x64 : Shape := ⟨6, ![1, 8, 16, 4, 256, 64]⟩
abbrev S1x8x16x4x128x256 : Shape := ⟨6, ![1, 8, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S4 : Shape := ⟨1, ![4]⟩
abbrev S4x1x1 : Shape := ⟨3, ![4, 1, 1]⟩
abbrev S128x256 : Shape := ⟨2, ![128, 256]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1x8x16x4x128 : Shape := ⟨5, ![1, 8, 16, 4, 128]⟩
abbrev S1x8x16x4x128x1 : Shape := ⟨6, ![1, 8, 16, 4, 128, 1]⟩
abbrev S1x8x16x512 : Shape := ⟨4, ![1, 8, 16, 512]⟩
abbrev S1x8x512x16 : Shape := ⟨4, ![1, 8, 512, 16]⟩
abbrev S1x1x8x8192 : Shape := ⟨4, ![1, 1, 8, 8192]⟩
abbrev S3x1x8x8192 : Shape := ⟨4, ![3, 1, 8, 8192]⟩
abbrev S3x1x8x8192x1 : Shape := ⟨5, ![3, 1, 8, 8192, 1]⟩
abbrev S1x1x8x8192x64 : Shape := ⟨5, ![1, 1, 8, 8192, 64]⟩
abbrev S3x1x8x8192x64 : Shape := ⟨5, ![3, 1, 8, 8192, 64]⟩
abbrev S3x8x8192 : Shape := ⟨3, ![3, 8, 8192]⟩
abbrev S8x8192 : Shape := ⟨2, ![8, 8192]⟩
abbrev S1x8x16x4x64x256 : Shape := ⟨6, ![1, 8, 16, 4, 64, 256]⟩
abbrev S8x16x4x128 : Shape := ⟨4, ![8, 16, 4, 128]⟩
abbrev S512x8192 : Shape := ⟨2, ![512, 8192]⟩

abbrev nBuf : Space → Nat
  | .hbm => 307
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x8x8192x64, .f32⟩
  | 5 => ⟨S1x8x8192, .f32⟩
  | 6 => ⟨S1x8x8192x64, .f32⟩
  | 7 => ⟨S1x8x8192, .f32⟩
  | 8 => ⟨S1x8192x8x64, .f32⟩
  | 9 => ⟨S1x8x8192x64, .f32⟩
  | 10 => ⟨S1x8192x8x64, .f32⟩
  | 11 => ⟨S1x8x8192x64, .f32⟩
  | 12 => ⟨S1x8192x8x64, .f32⟩
  | 13 => ⟨S1x8x8192x64, .f32⟩
  | 14 => ⟨S1x8x512x16x64, .f32⟩
  | 15 => ⟨S1x8x16x512x64, .f32⟩
  | 16 => ⟨S1x8x16x4x128x64, .f32⟩
  | 17 => ⟨S_, .f32⟩
  | 18 => ⟨S1x8x16x128x64, .f32⟩
  | 19 => ⟨S1x8x512x16x64, .f32⟩
  | 20 => ⟨S1x8x16x512x64, .f32⟩
  | 21 => ⟨S1x8x16x640x64, .f32⟩
  | 22 => ⟨S_, .f32⟩
  | 23 => ⟨S1x8x16x128x64, .f32⟩
  | 24 => ⟨S1x8x16x512x64, .f32⟩
  | 25 => ⟨S1x8x16x4x128x64, .f32⟩
  | 26 => ⟨S1x8x16x512x64, .f32⟩
  | 27 => ⟨S1x8x16x4x128x64, .f32⟩
  | 28 => ⟨S1x8x16x4x256x64, .f32⟩
  | 29 => ⟨S_, .f32⟩
  | 30 => ⟨S1x8x16x128x64, .f32⟩
  | 31 => ⟨S1x8x512x16x64, .f32⟩
  | 32 => ⟨S1x8x16x512x64, .f32⟩
  | 33 => ⟨S1x8x16x640x64, .f32⟩
  | 34 => ⟨S_, .f32⟩
  | 35 => ⟨S1x8x16x128x64, .f32⟩
  | 36 => ⟨S1x8x16x512x64, .f32⟩
  | 37 => ⟨S1x8x16x4x128x64, .f32⟩
  | 38 => ⟨S1x8x16x512x64, .f32⟩
  | 39 => ⟨S1x8x16x4x128x64, .f32⟩
  | 40 => ⟨S1x8x16x4x256x64, .f32⟩
  | 41 => ⟨S1x8x16x4x128x256, .f32⟩
  | 42 => ⟨S_, .f32⟩
  | 43 => ⟨S1x8x16x4x128x256, .f32⟩
  | 44 => ⟨S1x8x16x4x128x256, .f32⟩
  | 45 => ⟨S128, .i32⟩
  | 46 => ⟨S128x1, .i32⟩
  | 47 => ⟨S256, .i32⟩
  | 48 => ⟨S1x256, .i32⟩
  | 49 => ⟨S4, .i32⟩
  | 50 => ⟨S4x1x1, .i32⟩
  | 51 => ⟨S_, .i32⟩
  | 52 => ⟨S128x1, .i32⟩
  | 53 => ⟨S128x1, .i32⟩
  | 54 => ⟨S128x256, .i32⟩
  | 55 => ⟨S128x256, .i32⟩
  | 56 => ⟨S128x256, .i32⟩
  | 57 => ⟨S_, .i32⟩
  | 58 => ⟨S4x1x1, .i32⟩
  | 59 => ⟨S4x1x1, .i32⟩
  | 60 => ⟨S_, .i32⟩
  | 61 => ⟨S4x1x1, .i32⟩
  | 62 => ⟨S4x1x1, .i32⟩
  | 63 => ⟨S1x1x256, .i32⟩
  | 64 => ⟨S4x1x256, .i32⟩
  | 65 => ⟨S4x1x256, .i32⟩
  | 66 => ⟨S4x1x256, .i32⟩
  | 67 => ⟨S_, .i32⟩
  | 68 => ⟨S128x256, .i32⟩
  | 69 => ⟨S128x256, .i1⟩
  | 70 => ⟨S_, .i32⟩
  | 71 => ⟨S128x256, .i32⟩
  | 72 => ⟨S128x256, .i1⟩
  | 73 => ⟨S128x256, .i1⟩
  | 74 => ⟨S_, .i32⟩
  | 75 => ⟨S4x1x256, .i32⟩
  | 76 => ⟨S4x1x256, .i1⟩
  | 77 => ⟨S1x128x256, .i1⟩
  | 78 => ⟨S4x128x256, .i1⟩
  | 79 => ⟨S4x128x256, .i1⟩
  | 80 => ⟨S4x128x256, .i1⟩
  | 81 => ⟨S_, .f32⟩
  | 82 => ⟨S_, .f32⟩
  | 83 => ⟨S1x8x16x4x128x256, .i1⟩
  | 84 => ⟨S1x8x16x4x128x256, .f32⟩
  | 85 => ⟨S1x8x16x4x128x256, .f32⟩
  | 86 => ⟨S_, .f32⟩
  | 87 => ⟨S1x8x16x4x128x256, .f32⟩
  | 88 => ⟨S_, .f32⟩
  | 89 => ⟨S1x8x16x4x128, .f32⟩
  | 90 => ⟨S1x8x16x4x128x1, .f32⟩
  | 91 => ⟨S1x8x16x4x128x256, .f32⟩
  | 92 => ⟨S1x8x16x4x128x256, .i1⟩
  | 93 => ⟨S1x8x16x4x128x256, .f32⟩
  | 94 => ⟨S_, .f32⟩
  | 95 => ⟨S1x8x16x4x128, .f32⟩
  | 96 => ⟨S1x8x16x4x128x1, .f32⟩
  | 97 => ⟨S1x8x16x4x128x256, .f32⟩
  | 98 => ⟨S1x8x16x4x128x256, .f32⟩
  | 99 => ⟨S1x8x16x4x128x256, .f32⟩
  | 100 => ⟨S_, .f32⟩
  | 101 => ⟨S1x8x16x4x128, .f32⟩
  | 102 => ⟨S1x8x16x4x128x1, .f32⟩
  | 103 => ⟨S1x8x16x4x128x64, .f32⟩
  | 104 => ⟨S1x8x16x4x128x64, .f32⟩
  | 105 => ⟨S1x8x16x4x128x64, .f32⟩
  | 106 => ⟨S1x8x16x4x128x1, .f32⟩
  | 107 => ⟨S_, .f32⟩
  | 108 => ⟨S1x8x16x4x128x1, .f32⟩
  | 109 => ⟨S1x8x16x4x128x1, .f32⟩
  | 110 => ⟨S1x8x16x4x128x1, .f32⟩
  | 111 => ⟨S1x8x16x4x128x1, .f32⟩
  | 112 => ⟨S1x8x16x4x128, .f32⟩
  | 113 => ⟨S1x8x16x512x64, .f32⟩
  | 114 => ⟨S1x8x512x16x64, .f32⟩
  | 115 => ⟨S1x8x8192x64, .f32⟩
  | 116 => ⟨S1x8x16x512, .f32⟩
  | 117 => ⟨S1x8x512x16, .f32⟩
  | 118 => ⟨S1x8x8192, .f32⟩
  | 119 => ⟨S1x1x8x8192, .f32⟩
  | 120 => ⟨S1x1x8x8192, .f32⟩
  | 121 => ⟨S1x1x8x8192, .f32⟩
  | 122 => ⟨S3x1x8x8192, .f32⟩
  | 123 => ⟨S_, .f32⟩
  | 124 => ⟨S1x8x8192, .f32⟩
  | 125 => ⟨S_, .f32⟩
  | 126 => ⟨S1x8x8192, .f32⟩
  | 127 => ⟨S_, .f32⟩
  | _ => ⟨S8192x512, .f32⟩

abbrev hbmTy0_1 (i : Nat) : BufTy := match i % 128 with
  | 0 => ⟨S1x8x8192, .f32⟩
  | 1 => ⟨S1x1x8x8192, .f32⟩
  | 2 => ⟨S3x1x8x8192, .f32⟩
  | 3 => ⟨S3x1x8x8192, .i1⟩
  | 4 => ⟨S3x1x8x8192, .f32⟩
  | 5 => ⟨S_, .f32⟩
  | 6 => ⟨S1x8x8192, .f32⟩
  | 7 => ⟨S_, .f32⟩
  | 8 => ⟨S1x8x8192, .f32⟩
  | 9 => ⟨S1x8x8192, .f32⟩
  | 10 => ⟨S_, .f32⟩
  | 11 => ⟨S1x8x8192, .f32⟩
  | 12 => ⟨S1x8x8192, .i1⟩
  | 13 => ⟨S_, .f32⟩
  | 14 => ⟨S1x8x8192, .f32⟩
  | 15 => ⟨S1x8x8192, .i1⟩
  | 16 => ⟨S_, .f32⟩
  | 17 => ⟨S1x8x8192, .f32⟩
  | 18 => ⟨S_, .f32⟩
  | 19 => ⟨S1x8x8192, .f32⟩
  | 20 => ⟨S_, .f32⟩
  | 21 => ⟨S1x8x8192, .f32⟩
  | 22 => ⟨S1x8x8192, .f32⟩
  | 23 => ⟨S1x8x8192, .f32⟩
  | 24 => ⟨S1x1x8x8192, .f32⟩
  | 25 => ⟨S3x1x8x8192, .f32⟩
  | 26 => ⟨S3x1x8x8192, .f32⟩
  | 27 => ⟨S3x1x8x8192, .f32⟩
  | 28 => ⟨S_, .f32⟩
  | 29 => ⟨S1x8x8192, .f32⟩
  | 30 => ⟨S1x1x8x8192, .f32⟩
  | 31 => ⟨S3x1x8x8192, .f32⟩
  | 32 => ⟨S3x1x8x8192, .f32⟩
  | 33 => ⟨S1x1x8x8192, .f32⟩
  | 34 => ⟨S_, .f32⟩
  | 35 => ⟨S1x1x8x8192, .f32⟩
  | 36 => ⟨S1x1x8x8192, .f32⟩
  | 37 => ⟨S3x1x8x8192x1, .f32⟩
  | 38 => ⟨S1x1x8x8192x64, .f32⟩
  | 39 => ⟨S1x1x8x8192x64, .f32⟩
  | 40 => ⟨S1x1x8x8192x64, .f32⟩
  | 41 => ⟨S3x1x8x8192x64, .f32⟩
  | 42 => ⟨S_, .f32⟩
  | 43 => ⟨S1x8x8192x64, .f32⟩
  | 44 => ⟨S_, .f32⟩
  | 45 => ⟨S1x8x8192x64, .f32⟩
  | 46 => ⟨S3x1x8x8192x64, .f32⟩
  | 47 => ⟨S3x1x8x8192x64, .f32⟩
  | 48 => ⟨S_, .f32⟩
  | 49 => ⟨S1x8x8192x64, .f32⟩
  | 50 => ⟨S1x8192x8x64, .f32⟩
  | 51 => ⟨S8192x512, .f32⟩
  | 52 => ⟨S1x8192x8x64, .f32⟩
  | 53 => ⟨S1x8x8192x64, .f32⟩
  | 54 => ⟨S3x1x8x8192x64, .f32⟩
  | 55 => ⟨S3x1x8x8192x64, .f32⟩
  | 56 => ⟨S3x1x8x8192x64, .f32⟩
  | 57 => ⟨S3x1x8x8192x64, .f32⟩
  | 58 => ⟨S_, .f32⟩
  | 59 => ⟨S3x1x8x8192, .f32⟩
  | 60 => ⟨S3x1x8x8192x1, .f32⟩
  | 61 => ⟨S1x1x8x8192x64, .f32⟩
  | 62 => ⟨S1x8x8192x64, .f32⟩
  | 63 => ⟨S1x1x8x8192x64, .f32⟩
  | 64 => ⟨S1x8x8192x64, .f32⟩
  | 65 => ⟨S1x1x8x8192x64, .f32⟩
  | 66 => ⟨S1x8x8192x64, .f32⟩
  | 67 => ⟨S_, .f32⟩
  | 68 => ⟨S3x8x8192, .f32⟩
  | 69 => ⟨S3x1x8x8192, .f32⟩
  | 70 => ⟨S3x1x8x8192, .f32⟩
  | 71 => ⟨S3x1x8x8192, .f32⟩
  | 72 => ⟨S3x1x8x8192, .f32⟩
  | 73 => ⟨S_, .f32⟩
  | 74 => ⟨S1x8x8192, .f32⟩
  | 75 => ⟨S1x1x8x8192, .f32⟩
  | 76 => ⟨S1x1x8x8192, .f32⟩
  | 77 => ⟨S3x1x8x8192, .f32⟩
  | 78 => ⟨S3x1x8x8192, .f32⟩
  | 79 => ⟨S_, .f32⟩
  | 80 => ⟨S8x8192, .f32⟩
  | 81 => ⟨S1x8x8192, .f32⟩
  | 82 => ⟨S3x1x8x8192, .f32⟩
  | 83 => ⟨S3x1x8x8192, .f32⟩
  | 84 => ⟨S3x1x8x8192, .f32⟩
  | 85 => ⟨S1x1x8x8192, .f32⟩
  | 86 => ⟨S1x8x8192, .f32⟩
  | 87 => ⟨S1x1x8x8192, .f32⟩
  | 88 => ⟨S1x8x8192, .f32⟩
  | 89 => ⟨S1x1x8x8192, .f32⟩
  | 90 => ⟨S1x8x8192, .f32⟩
  | 91 => ⟨S1x8x512x16, .f32⟩
  | 92 => ⟨S1x8x16x512, .f32⟩
  | 93 => ⟨S1x8x16x4x128, .f32⟩
  | 94 => ⟨S1x8x512x16x64, .f32⟩
  | 95 => ⟨S1x8x16x512x64, .f32⟩
  | 96 => ⟨S1x8x16x4x128x64, .f32⟩
  | 97 => ⟨S1x8x16x4x128x1, .f32⟩
  | 98 => ⟨S1x8x16x4x128x1, .f32⟩
  | 99 => ⟨S1x8x16x4x128x64, .f32⟩
  | 100 => ⟨S1x8x16x4x128x64, .f32⟩
  | 101 => ⟨S1x8x16x4x128x64, .f32⟩
  | 102 => ⟨S_, .f32⟩
  | 103 => ⟨S1x8x16x4x128, .f32⟩
  | 104 => ⟨S1x8x16x4x128x1, .f32⟩
  | 105 => ⟨S1x8x16x4x128x1, .f32⟩
  | 106 => ⟨S1x8x16x4x128x1, .f32⟩
  | 107 => ⟨S1x8x16x4x128x64, .f32⟩
  | 108 => ⟨S1x8x16x4x128x64, .f32⟩
  | 109 => ⟨S1x8x16x4x64x256, .f32⟩
  | 110 => ⟨S1x8x16x4x256x64, .f32⟩
  | 111 => ⟨S1x8x16x4x128x256, .f32⟩
  | 112 => ⟨S_, .f32⟩
  | 113 => ⟨S8x16x4x128, .f32⟩
  | 114 => ⟨S1x8x16x4x128, .f32⟩
  | 115 => ⟨S1x8x16x4x128x256, .f32⟩
  | 116 => ⟨S1x8x16x4x128x256, .f32⟩
  | 117 => ⟨S1x8x16x4x128x256, .f32⟩
  | 118 => ⟨S1x8x16x4x128x256, .f32⟩
  | 119 => ⟨S_, .f32⟩
  | 120 => ⟨S1x8x16x4x128, .f32⟩
  | 121 => ⟨S1x8x16x4x128x1, .f32⟩
  | 122 => ⟨S1x8x16x4x128x1, .f32⟩
  | 123 => ⟨S_, .f32⟩
  | 124 => ⟨S8x16x4x128, .f32⟩
  | 125 => ⟨S1x8x16x4x128, .f32⟩
  | 126 => ⟨S1x8x16x4x128, .f32⟩
  | 127 => ⟨S1x8x16x4x128x256, .f32⟩
  | _ => ⟨S8192x512, .f32⟩

abbrev hbmTy0_2 (i : Nat) : BufTy := match i % 128 with
  | 0 => ⟨S1x8x16x4x128x256, .f32⟩
  | 1 => ⟨S1x8x16x4x128x256, .f32⟩
  | 2 => ⟨S_, .f32⟩
  | 3 => ⟨S1x8x16x4x128x256, .f32⟩
  | 4 => ⟨S1x8x16x4x128x256, .f32⟩
  | 5 => ⟨S_, .f32⟩
  | 6 => ⟨S1x8x16x4x128x256, .f32⟩
  | 7 => ⟨S1x8x16x4x128x256, .f32⟩
  | 8 => ⟨S1x8x16x4x256x64, .f32⟩
  | 9 => ⟨S1x8x16x4x128x64, .f32⟩
  | 10 => ⟨S1x8x16x4x128x64, .f32⟩
  | 11 => ⟨S1x8x16x4x128x64, .f32⟩
  | 12 => ⟨S1x8x16x512x64, .f32⟩
  | 13 => ⟨S_, .f32⟩
  | 14 => ⟨S1x8x16x640x64, .f32⟩
  | 15 => ⟨S1x8x16x512x64, .f32⟩
  | 16 => ⟨S_, .f32⟩
  | 17 => ⟨S1x8x16x640x64, .f32⟩
  | 18 => ⟨S1x8x16x640x64, .f32⟩
  | 19 => ⟨S1x8x16x128x64, .f32⟩
  | 20 => ⟨S1x8x16x512x64, .f32⟩
  | 21 => ⟨S1x8x512x16x64, .f32⟩
  | 22 => ⟨S1x8x8192x64, .f32⟩
  | 23 => ⟨S1x8x16x4x128x64, .f32⟩
  | 24 => ⟨S1x8x16x4x128x64, .f32⟩
  | 25 => ⟨S1x8x16x512x64, .f32⟩
  | 26 => ⟨S_, .f32⟩
  | 27 => ⟨S1x8x16x640x64, .f32⟩
  | 28 => ⟨S1x8x16x512x64, .f32⟩
  | 29 => ⟨S_, .f32⟩
  | 30 => ⟨S1x8x16x640x64, .f32⟩
  | 31 => ⟨S1x8x16x640x64, .f32⟩
  | 32 => ⟨S1x8x16x128x64, .f32⟩
  | 33 => ⟨S1x8x16x512x64, .f32⟩
  | 34 => ⟨S1x8x512x16x64, .f32⟩
  | 35 => ⟨S1x8x8192x64, .f32⟩
  | 36 => ⟨S1x8x16x512x64, .f32⟩
  | 37 => ⟨S1x8x512x16x64, .f32⟩
  | 38 => ⟨S1x8x8192x64, .f32⟩
  | 39 => ⟨S1x8192x8x64, .f32⟩
  | 40 => ⟨S8192x512, .f32⟩
  | 41 => ⟨S1x8192x8x64, .f32⟩
  | 42 => ⟨S8192x512, .f32⟩
  | 43 => ⟨S1x8192x8x64, .f32⟩
  | 44 => ⟨S8192x512, .f32⟩
  | 45 => ⟨S8192x512, .bf16⟩
  | 46 => ⟨S512x8192, .bf16⟩
  | 47 => ⟨S8192x512, .bf16⟩
  | 48 => ⟨S512x8192, .bf16⟩
  | 49 => ⟨S8192x512, .bf16⟩
  | 50 => ⟨S512x8192, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_6 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_call0_v0 : Ref sig .tc := ⟨.hbm, 82, rfl⟩
abbrev main_v62_1 : Ref sig .tc := ⟨.hbm, 83, rfl⟩
abbrev main_call0_v2 : Ref sig .tc := ⟨.hbm, 84, rfl⟩
abbrev main_v62_0 : Ref sig .tc := ⟨.hbm, 85, rfl⟩
abbrev main_call0_cst : Ref sig .tc := ⟨.hbm, 86, rfl⟩
abbrev main_v62_2 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_14 : Ref sig .tc := ⟨.hbm, 123, rfl⟩
abbrev main_v94 : Ref sig .tc := ⟨.hbm, 124, rfl⟩
abbrev main_cst_15 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_v103 : Ref sig .tc := ⟨.hbm, 137, rfl⟩
abbrev main_cst_19 : Ref sig .tc := ⟨.hbm, 138, rfl⟩
abbrev main_v104 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_v107 : Ref sig .tc := ⟨.hbm, 143, rfl⟩
abbrev main_cst_21 : Ref sig .tc := ⟨.hbm, 144, rfl⟩
abbrev main_v108 : Ref sig .tc := ⟨.hbm, 145, rfl⟩
abbrev main_cst_22 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_24 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_25 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_26 : Ref sig .tc := ⟨.hbm, 170, rfl⟩
abbrev main_v129 : Ref sig .tc := ⟨.hbm, 171, rfl⟩
abbrev main_cst_27 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_28 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_30 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_31 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_32 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_33 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_34 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_cst_35 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_36 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_call1_cst : Ref sig .tc := ⟨.hbm, 258, rfl⟩
abbrev main_call1_v0 : Ref sig .tc := ⟨.hbm, 259, rfl⟩
abbrev main_v206 : Ref sig .tc := ⟨.hbm, 260, rfl⟩
abbrev main_cst_37 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_38 : Ref sig .tc := ⟨.hbm, 269, rfl⟩
abbrev main_v214 : Ref sig .tc := ⟨.hbm, 270, rfl⟩
abbrev main_v215 : Ref sig .tc := ⟨.hbm, 271, rfl⟩
abbrev main_cst_39 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_40 : Ref sig .tc := ⟨.hbm, 282, rfl⟩
abbrev main_v225 : Ref sig .tc := ⟨.hbm, 283, rfl⟩
abbrev main_v226 : Ref sig .tc := ⟨.hbm, 284, rfl⟩
abbrev main_cst_41 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩

abbrev nD : Nat := 1
abbrev τ : Topo := Topo.v7x

variable {F : FTy → Type} [FloatOps F]
-- ==== KernelUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1x1024x1408, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S1x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S8192x1024 : Shape := ⟨2, ![8192, 1024]⟩
abbrev S8192x2048 : Shape := ⟨2, ![8192, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S4x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelFfn.lean ====
abbrev S8192x5632 : Shape := ⟨2, ![8192, 5632]⟩
abbrev S3x5632 : Shape := ⟨2, ![3, 5632]⟩
abbrev S1024x5632 : Shape := ⟨2, ![1024, 5632]⟩
abbrev S8192x1024 : Shape := ⟨2, ![8192, 1024]⟩
abbrev S1024 : Shape := ⟨1, ![1024]⟩
abbrev S1024x4x1408 : Shape := ⟨3, ![1024, 4, 1408]⟩
abbrev S4x1024x1408 : Shape := ⟨3, ![4, 1024, 1408]⟩
abbrev S3x1x5632 : Shape := ⟨3, ![3, 1, 5632]⟩
abbrev S1x1024 : Shape := ⟨2, ![1, 1024]⟩
abbrev S256x5632 : Shape := ⟨2, ![256, 5632]⟩
abbrev S8x5632 : Shape := ⟨2, ![8, 5632]⟩
abbrev S256x1024 : Shape := ⟨2, ![256, 1024]⟩
abbrev S8x1408 : Shape := ⟨2, ![8, 1408]⟩
abbrev S256x1408 : Shape := ⟨2, ![256, 1408]⟩
abbrev S264x1408 : Shape := ⟨2, ![264, 1408]⟩
abbrev S1x1x1408 : Shape := ⟨3, ![1, 1, 1408]⟩
abbrev S1x1408 : Shape := ⟨2, ![1, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S8192x5632, .bf16⟩
  | .hbm, ⟨10, _⟩ => ⟨S3x1x5632, .f32⟩
  | .hbm, ⟨11, _⟩ => ⟨S1x1024, .f32⟩
  | .hbm, ⟨12, _⟩ => ⟨S8192x5632, .bf16⟩
  | .hbm, ⟨13, _⟩ => ⟨S8192x1024, .bf16⟩
  | .hbm, ⟨14, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S8x5632, .bf16⟩
  | .local _ .vmem, ⟨3, _⟩ => ⟨S8x5632, .bf16⟩
  | .local _ .vmem, ⟨4, _⟩ => ⟨S3x1x5632, .f32⟩
  | .local _ .vmem, ⟨5, _⟩ => ⟨S4x1024x1408, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFfnIdeal.lean ====
abbrev S8192x5632 : Shape := ⟨2, ![8192, 5632]⟩
abbrev S3x5632 : Shape := ⟨2, ![3, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 103
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1024x5632, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S_, .f32⟩
  | .hbm, ⟨28, _⟩ => ⟨S2x5632, .f32⟩
  | .hbm, ⟨29, _⟩ => ⟨S8194x5632, .f32⟩
  | .hbm, ⟨30, _⟩ => ⟨S_, .f32⟩
  | .hbm, ⟨31, _⟩ => ⟨S2x5632, .f32⟩
  | .hbm, ⟨32, _⟩ => ⟨S8192x5632, .f32⟩
  | .hbm, ⟨33, _⟩ => ⟨S1x5632, .f32⟩
  | .hbm, ⟨34, _⟩ => ⟨S5632, .f32⟩
  | .hbm, ⟨35, _⟩ => ⟨S1x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S1x5632, .f32⟩
  | .hbm, ⟨50, _⟩ => ⟨S5632, .f32⟩
  | .hbm, ⟨51, _⟩ => ⟨S1x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S_, .f32⟩
  | .hbm, ⟨60, _⟩ => ⟨S8194x5632, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8194x5632, .f32⟩
  | .hbm, ⟨65, _⟩ => ⟨S8194x5632, .f32⟩
  | .hbm, ⟨66, _⟩ => ⟨S8192x5632, .f32⟩
  | .hbm, ⟨67, _⟩ => ⟨S8192x5632, .f32⟩
  | .hbm, ⟨68, _⟩ => ⟨S_, .f32⟩
  | .hbm, ⟨69, _⟩ => ⟨S8194x5632, .f32⟩
  | .hbm, ⟨70, _⟩ => ⟨S8194x5632, .f32⟩
  | .hbm, ⟨71, _⟩ => ⟨S2x5632, .f32⟩
  | .hbm, ⟨72, _⟩ => ⟨S8192x5632, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x5632, .bf16⟩
  | .hbm, ⟨100, _⟩ => ⟨S8192x1024, .f32⟩
  | .hbm, ⟨101, _⟩ => ⟨S8192x1024, .bf16⟩
  | .hbm, ⟨102, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== KernelMix.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x512, .bf16⟩
  | .hbm, ⟨7, _⟩ => ⟨S8192x512, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== KernelProj.lean ====
abbrev S8192x1024 : Shape := ⟨2, ![8192, 1024]⟩
abbrev S1024 : Shape := ⟨1, ![1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S8192x512 : Shape := ⟨2, ![8192, 512]⟩
abbrev S2048x2048 : Shape := ⟨2, ![2048, 2048]⟩
abbrev S512x8192 : Shape := ⟨2, ![512, 8192]⟩
abbrev S512x1024 : Shape := ⟨2, ![512, 1024]⟩
abbrev S512x512 : Shape := ⟨2, ![512, 512]⟩
abbrev S128x2048 : Shape := ⟨2, ![128, 2048]⟩
abbrev S32x8192 : Shape := ⟨2, ![32, 8192]⟩
abbrev S512x128 : Shape := ⟨2, ![512, 128]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S128x128 : Shape := ⟨2, ![128, 128]⟩
abbrev S32x128 : Shape := ⟨2, ![32, 128]⟩

abbrev nBuf : Space → Nat
  | .hbm => 18
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S1x1024, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S512x8192, .bf16⟩
  | .hbm, ⟨14, _⟩ => ⟨S512x8192, .bf16⟩
  | .hbm, ⟨15, _⟩ => ⟨S512x8192, .bf16⟩
  | .hbm, ⟨16, _⟩ => ⟨S8192x512, .f32⟩
  | .hbm, ⟨17, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S32x8192, .bf16⟩
  | .local _ .vmem, ⟨17, _⟩ => ⟨S32x8192, .bf16⟩
  | .local _ .vmem, ⟨18, _⟩ => ⟨S32x8192, .bf16⟩
  | .local _ .vmem, ⟨19, _⟩ => ⟨S32x8192, .bf16⟩
  | .local _ .vmem, ⟨20, _⟩ => ⟨S32x8192, .bf16⟩
  | .local _ .vmem, ⟨21, _⟩ => ⟨S32x8192, .bf16⟩
  | .local _ .vmem, ⟨22, _⟩ => ⟨S512x512, .f32⟩
  | .local _ .vmem, ⟨23, _⟩ => ⟨S512x512, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev main_v4_9 : Ref sig .tc := ⟨.hbm, 16, rfl⟩
abbrev main_v4_10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceProjIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x512 : Shape := ⟨2, ![8192, 512]⟩
abbrev S2048x2048 : Shape := ⟨2, ![2048, 2048]⟩
abbrev S512x8192 : Shape := ⟨2, ![512, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .bf16⟩
  | .hbm, ⟨28, _⟩ => ⟨S8192x512, .bf16⟩
  | .hbm, ⟨29, _⟩ => ⟨S8192x512, .bf16⟩
  | .hbm, ⟨30, _⟩ => ⟨S2048x2048, .f32⟩
  | .hbm, ⟨31, _⟩ => ⟨S2048x2048, .bf16⟩
  | .hbm, ⟨32, _⟩ => ⟨S2048x2048, .f32⟩
  | .hbm, ⟨33, _⟩ => ⟨S2048x2048, .bf16⟩
  | .hbm, ⟨34, _⟩ => ⟨S2048x2048, .f32⟩
  | .hbm, ⟨35, _⟩ => ⟨S2048x2048, .bf16⟩
  | .hbm, ⟨36, _⟩ => ⟨S512x8192, .f32⟩
  | .hbm, ⟨37, _⟩ => ⟨S512x8192, .bf16⟩
  | .hbm, ⟨38, _⟩ => ⟨S512x8192, .f32⟩
  | .hbm, ⟨39, _⟩ => ⟨S512x8192, .bf16⟩
  | .hbm, ⟨40, _⟩ => ⟨S512x8192, .f32⟩
  | .hbm, ⟨41, _⟩ => ⟨S512x8192, .bf16⟩
  | .hbm, ⟨42, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Proof.RowMath.lean ====
/-
  One query row of the mixed attention over the reals (untrusted): the softmax over the row's keys and the two other
  patterns' log-sums, its output, and the gradient with respect to the scores. Nothing here speaks of a program: the row's
  scores, the keys it may look at, and the value rows are variables. `ds_of_stages` is the identity that the backward
  pass rests on: the chain rule through the pattern's own softmax, its log-sum and the mixture's weights gives
  `prob * (dp - delta)`, whatever constants the two softmaxes subtract.
-/
module

public import Idealize.ShloMosaic.PureOps.Ideal

@[expose] public section

noncomputable section

namespace Cert.MixAttn

open Idealize.ShloMosaic

/-! ## Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (hy : y ≠ 0) : Ideal.div (x : EReal) (y : EReal) = ((x / y : ℝ) : EReal) := by
  rw [Ideal.div_coe hy, ← EReal.coe_mul, one_div, div_eq_mul_inv]

theorem log_real (x : ℝ) (hx : 0 < x) : Ideal.log (x : EReal) = ((Real.log x : ℝ) : EReal) := by
  rw [Ideal.log_coe, if_neg (not_le.mpr hx)]

theorem max_real (x y : ℝ) : max (x : EReal) (y : EReal) = ((max x y : ℝ) : EReal) :=
  (EReal.coe_strictMono.monotone.map_max).symm

theorem eighth : Ideal.ofBits .f32 0x3E000000#32 = ((1 / 8 : ℝ) : EReal) := by
  simp [Ideal.ofBits, Ideal.ieee, -EReal.coe_mul]; norm_num

theorem minus_infinity : Ideal.ofBits .f32 0xFF800000#32 = (⊥ : EReal) := by
  simp [Ideal.ofBits, Ideal.ieee]

/-- The greatest of finitely many extended reals, none of them `⊤` and one of them real, is real. -/
theorem fold_max_real {ι : Type} (s : Finset ι) (f : ι → EReal) (htop : ∀ i ∈ s, f i ≠ ⊤) (hbot : ∃ i ∈ s, f i ≠ ⊥) :
    ((s.fold max (⊥ : EReal) f).toReal : EReal) = s.fold max (⊥ : EReal) f := by
  apply EReal.coe_toReal
  · intro h
    have := (Finset.fold_max_lt (s := s) (b := (⊥ : EReal)) (f := f) (⊤ : EReal)).2
      ⟨bot_lt_top, fun i hi => lt_top_iff_ne_top.2 (htop i hi)⟩
    exact absurd h this.ne
  · intro h
    obtain ⟨i, hi, hb⟩ := hbot
    have := (Finset.le_fold_max (s := s) (b := (⊥ : EReal)) (f := f) (f i)).2 (Or.inr ⟨i, hi, le_rfl⟩)
    rw [h, le_bot_iff] at this
    exact hb this

/-! ## A row -/

/-- One query row: the scores of its keys, which of them it looks at, their value rows, the output's cotangent, and the
    two other patterns' outputs and log-sums. -/
structure Row where
  sc : Fin 256 → ℝ
  ok : Fin 256 → Prop
  dec : ∀ j, Decidable (ok j)
  vv : Fin 256 → Fin 64 → ℝ
  g : Fin 64 → ℝ
  o1 : Fin 64 → ℝ
  o4 : Fin 64 → ℝ
  l1 : ℝ
  l4 : ℝ

namespace Row

instance (R : Row) (j : Fin 256) : Decidable (R.ok j) := R.dec j

variable (R : Row)

/-- The exponential of a score, zero at a key the row does not look at. -/
def pe (j : Fin 256) : ℝ := if R.ok j then Real.exp (R.sc j) else 0
/-- The softmax's denominator over all three patterns. -/
def tot : ℝ := Real.exp R.l1 + Real.exp R.l4 + ∑ j, R.pe j
/-- The probability of a key. -/
def prob (j : Fin 256) : ℝ := R.pe j / R.tot
/-- The mixed output. -/
def attn (d : Fin 64) : ℝ := (Real.exp R.l1 * R.o1 d + Real.exp R.l4 * R.o4 d + ∑ j, R.pe j * R.vv j d) / R.tot
/-- The cotangent's product with the mixed output. -/
def delta : ℝ := ∑ d, R.g d * R.attn d
/-- The gradient with respect to a score. -/
def ds (j : Fin 256) : ℝ := R.prob j * ((∑ d, R.g d * R.vv j d) - R.delta)

/-! The stages, with `M` subtracted from the scores and `K` from the three log-sums. -/

def p (M : ℝ) (j : Fin 256) : ℝ := if R.ok j then Real.exp (R.sc j - M) else 0
def den (M : ℝ) : ℝ := ∑ j, R.p M j
def pv (M : ℝ) (d : Fin 64) : ℝ := ∑ j, R.p M j * R.vv j d
def out (M : ℝ) (d : Fin 64) : ℝ := R.pv M d / R.den M
def lse (M : ℝ) : ℝ := M + Real.log (R.den M)
/-- The three exponentials of the mixture's softmax. -/
def e1 (K : ℝ) : ℝ := Real.exp (R.l1 - K)
def e4 (K : ℝ) : ℝ := Real.exp (R.l4 - K)
def e16 (M K : ℝ) : ℝ := Real.exp (R.lse M - K)
def esum (M K : ℝ) : ℝ := R.e1 K + R.e4 K + R.e16 M K

theorem pe_nonneg (j : Fin 256) : 0 ≤ R.pe j := by
  unfold pe; split
  · exact (Real.exp_pos _).le
  · exact le_rfl

theorem tot_pos : 0 < R.tot :=
  add_pos_of_pos_of_nonneg (add_pos (Real.exp_pos _) (Real.exp_pos _)) (Finset.sum_nonneg fun j _ => R.pe_nonneg j)

theorem p_eq (M : ℝ) (j : Fin 256) : R.p M j = R.pe j * Real.exp (-M) := by
  unfold p pe; split
  · rw [← Real.exp_add, sub_eq_add_neg]
  · rw [zero_mul]

theorem den_eq (M : ℝ) : R.den M = (∑ j, R.pe j) * Real.exp (-M) := by
  rw [den, Finset.sum_mul]; exact Finset.sum_congr rfl fun j _ => R.p_eq M j

theorem pv_eq (M : ℝ) (d : Fin 64) : R.pv M d = (∑ j, R.pe j * R.vv j d) * Real.exp (-M) := by
  rw [pv, Finset.sum_mul]; exact Finset.sum_congr rfl fun j _ => by rw [R.p_eq M j]; ring

variable (hR : ∃ j, R.ok j)
include hR

theorem sum_pe_pos : 0 < ∑ j, R.pe j := by
  obtain ⟨j, hj⟩ := hR
  refine lt_of_lt_of_le ?_ (Finset.single_le_sum (fun i _ => R.pe_nonneg i) (Finset.mem_univ j))
  rw [pe, if_pos hj]; exact Real.exp_pos _

theorem den_pos (M : ℝ) : 0 < R.den M := by
  rw [den_eq]; exact mul_pos (R.sum_pe_pos hR) (Real.exp_pos _)

theorem e16_eq (M K : ℝ) : R.e16 M K = (∑ j, R.pe j) * Real.exp (-K) := by
  rw [e16, lse, den_eq, Real.log_mul (R.sum_pe_pos hR).ne' (Real.exp_pos _).ne', Real.log_exp,
    show M + (Real.log (∑ j, R.pe j) + -M) - K = Real.log (∑ j, R.pe j) + -K by ring, Real.exp_add,
    Real.exp_log (R.sum_pe_pos hR)]

theorem esum_eq (M K : ℝ) : R.esum M K = R.tot * Real.exp (-K) := by
  rw [esum, R.e16_eq hR, e1, e4, tot, sub_eq_add_neg, sub_eq_add_neg, Real.exp_add, Real.exp_add]; ring

theorem esum_pos (M K : ℝ) : 0 < R.esum M K := by
  rw [R.esum_eq hR]; exact mul_pos R.tot_pos (Real.exp_pos _)

/-- The log-sum over all three patterns does not depend on what is subtracted. -/
theorem lse_all (M K : ℝ) : K + Real.log (R.esum M K) = Real.log R.tot := by
  rw [R.esum_eq hR, Real.log_mul R.tot_pos.ne' (Real.exp_pos _).ne', Real.log_exp]; ring

/-- The mixture of the three outputs is the mixed output. -/
theorem mix_eq (M K : ℝ) (d : Fin 64) :
    R.e1 K / R.esum M K * R.o1 d + R.e4 K / R.esum M K * R.o4 d + R.e16 M K / R.esum M K * R.out M d = R.attn d := by
  have hk := (Real.exp_pos (-K)).ne'
  have hm := (Real.exp_pos (-M)).ne'
  have hz := (R.sum_pe_pos hR).ne'
  have ht := R.tot_pos.ne'
  rw [out, R.esum_eq hR, R.e16_eq hR, pv_eq, den_eq, e1, e4, attn, sub_eq_add_neg, sub_eq_add_neg, Real.exp_add, Real.exp_add]
  field_simp

/-- The probability of a key from the pattern's own softmax and its weight. -/
theorem prob_eq (M K : ℝ) (j : Fin 256) : R.e16 M K / R.esum M K * (R.p M j / R.den M) = R.prob j := by
  have hk := (Real.exp_pos (-K)).ne'
  have hm := (Real.exp_pos (-M)).ne'
  have hz := (R.sum_pe_pos hR).ne'
  have ht := R.tot_pos.ne'
  rw [R.esum_eq hR, R.e16_eq hR, p_eq, den_eq, prob]
  field_simp

omit hR in
/-- The probability of a key from the log-sum over all three patterns. -/
theorem prob_of_lse (j : Fin 256) : (if R.ok j then Real.exp (R.sc j - Real.log R.tot) else 0) = R.prob j := by
  unfold prob pe
  split
  · rw [Real.exp_sub, Real.exp_log R.tot_pos]
  · rw [zero_div]

/-! ### The backward stages -/

omit hR in
/-- The cotangent of a pattern's weight. -/
def dw (G : Fin 64 → ℝ) (o : Fin 64 → ℝ) : ℝ := ∑ d, G d * o d

/-- The cotangent of the pattern's own log-sum, as the mixture's chain rule gives it. -/
def dl (M K : ℝ) : ℝ :=
  (dw R.g (R.out M) / R.esum M K
    + -(dw R.g R.o1 * (1 / (R.esum M K * R.esum M K)) * R.e1 K + dw R.g R.o4 * (1 / (R.esum M K * R.esum M K)) * R.e4 K
        + dw R.g (R.out M) * (1 / (R.esum M K * R.esum M K)) * R.e16 M K)) * R.e16 M K

/-- The pattern's own output's cotangent. -/
def co (M K : ℝ) (d : Fin 64) : ℝ := R.e16 M K / R.esum M K * R.g d

/-- The cotangent of a score before the mask, the greatest score held fixed. -/
def dsRaw (M K : ℝ) (j : Fin 256) : ℝ :=
  ((∑ d, R.co M K d / R.den M * R.vv j d)
    + (R.dl M K / R.den M + -∑ d, R.co M K d * (1 / (R.den M * R.den M)) * R.pv M d)) * R.p M j

theorem sum_g_attn (M K : ℝ) : R.delta = R.e1 K / R.esum M K * dw R.g R.o1 + R.e4 K / R.esum M K * dw R.g R.o4
    + R.e16 M K / R.esum M K * dw R.g (R.out M) := by
  unfold delta dw
  rw [Finset.mul_sum, Finset.mul_sum, Finset.mul_sum, ← Finset.sum_add_distrib, ← Finset.sum_add_distrib]
  exact Finset.sum_congr rfl fun d _ => by rw [← R.mix_eq hR M K d]; ring

theorem dl_eq (M K : ℝ) : R.dl M K = R.e16 M K / R.esum M K * (dw R.g (R.out M) - R.delta) := by
  have h := (R.esum_pos hR M K).ne'
  rw [R.sum_g_attn hR M K, dl]
  field_simp
  ring

theorem sum_co_pv (M K : ℝ) : ∑ d, R.co M K d * (1 / (R.den M * R.den M)) * R.pv M d
    = R.e16 M K / R.esum M K * dw R.g (R.out M) / R.den M := by
  have h := (R.den_pos hR M).ne'
  unfold dw co out
  rw [Finset.mul_sum, Finset.sum_div]
  exact Finset.sum_congr rfl fun d _ => by field_simp

omit hR in
theorem sum_co_vv (M K : ℝ) (j : Fin 256) : ∑ d, R.co M K d / R.den M * R.vv j d
    = R.e16 M K / R.esum M K / R.den M * ∑ d, R.g d * R.vv j d := by
  unfold co
  rw [Finset.mul_sum]
  exact Finset.sum_congr rfl fun d _ => by ring

/-- The chain rule through the pattern's softmax, its log-sum and the mixture is `prob * (dp - delta)`. -/
theorem ds_of_stages (M K : ℝ) (j : Fin 256) : R.dsRaw M K j = R.ds j := by
  rw [dsRaw, R.sum_co_pv hR, sum_co_vv, R.dl_eq hR, ds, ← R.prob_eq hR M K]
  ring

omit hR in
theorem sum_pv_out (M : ℝ) : ∑ j, R.p M j * ∑ d, R.g d * R.vv j d = dw R.g (R.pv M) := by
  unfold dw pv
  simp only [Finset.mul_sum]
  rw [Finset.sum_comm]
  exact Finset.sum_congr rfl fun d _ => Finset.sum_congr rfl fun j _ => by ring

/-- The coefficient of the greatest score's gradient is zero: the softmax does not depend on what it subtracts. -/
theorem max_coefficient (M K : ℝ) : R.dl M K + ∑ j, -R.dsRaw M K j = 0 := by
  have h := (R.den_pos hR M).ne'
  have e : ∑ j, R.dsRaw M K j = R.dl M K := by
    unfold dsRaw
    rw [R.sum_co_pv hR]
    simp only [sum_co_vv, add_mul, Finset.sum_add_distrib]
    rw [← Finset.mul_sum, ← Finset.mul_sum, show (∑ i, R.p M i) = R.den M from rfl]
    have : ∑ i, R.e16 M K / R.esum M K / R.den M * (∑ d, R.g d * R.vv i d) * R.p M i
        = R.e16 M K / R.esum M K / R.den M * dw R.g (R.pv M) := by
      rw [← R.sum_pv_out, Finset.mul_sum]
      exact Finset.sum_congr rfl fun i _ => by ring
    rw [this]
    have : dw R.g (R.out M) = dw R.g (R.pv M) / R.den M := by
      unfold dw out; rw [Finset.sum_div]; exact Finset.sum_congr rfl fun d _ => by ring
    rw [this]
    field_simp
    ring
  rw [Finset.sum_neg_distrib, e, add_neg_cancel]

end Row

end Cert.MixAttn

end
-- ==== Proof.Rows.lean ====
/-
  The rows of the dilated attention (untrusted): which token and channel an element of a head is, the keys of a query
  block (zero before the first), and the row of `RowMath` at every head, residue, block and query.
-/
module

public import proofs.«01_k».proof.Proof.RowMath

@[expose] public section

noncomputable section

namespace Cert.MixAttn

/-- The token at residue `r` and position `n * 128 + a` within the residue. -/
def tok (r : Fin 16) (n : Fin 4) (a : Fin 128) : Fin 8192 := ⟨(n.val * 128 + a.val) * 16 + r.val, by omega⟩

/-- The channel `d` of head `h`. -/
def col (h : Fin 8) (d : Fin 64) : Fin 512 := ⟨h.val * 64 + d.val, by omega⟩

/-- The arguments as real arrays. -/
structure Args where
  q : Fin 8192 → Fin 512 → ℝ
  k : Fin 8192 → Fin 512 → ℝ
  v : Fin 8192 → Fin 512 → ℝ
  g : Fin 8192 → Fin 512 → ℝ
  o1 : Fin 8 → Fin 8192 → Fin 64 → ℝ
  l1 : Fin 8 → Fin 8192 → ℝ
  o4 : Fin 8 → Fin 8192 → Fin 64 → ℝ
  l4 : Fin 8 → Fin 8192 → ℝ

/-- Key `j` of block `n`: position `n * 128 + j - 128` of the residue, zero before the first. -/
def key (x : Fin 8192 → Fin 512 → ℝ) (h : Fin 8) (r : Fin 16) (n : Fin 4) (j : Fin 256) (d : Fin 64) : ℝ :=
  if hj : n.val * 128 + j.val < 128 then 0
  else x ⟨(n.val * 128 + j.val - 128) * 16 + r.val, by omega⟩ (col h d)

/-- The query at `a` looks at the key at `j`. -/
def sees (n : Fin 4) (a : Fin 128) (j : Fin 256) : Prop :=
  a.val ≤ j.val ∧ j.val ≤ a.val + 128 ∧ 128 ≤ n.val * 128 + j.val

instance (n : Fin 4) (a : Fin 128) (j : Fin 256) : Decidable (sees n a j) := by unfold sees; infer_instance

variable (X : Args)

/-- The row of a query. -/
def row (h : Fin 8) (r : Fin 16) (n : Fin 4) (a : Fin 128) : Row where
  sc j := (∑ d, X.q (tok r n a) (col h d) * key X.k h r n j d) * (1 / 8)
  ok j := sees n a j
  dec _ := inferInstance
  vv j d := key X.v h r n j d
  g d := X.g (tok r n a) (col h d)
  o1 d := X.o1 h (tok r n a) d
  o4 d := X.o4 h (tok r n a) d
  l1 := X.l1 h (tok r n a)
  l4 := X.l4 h (tok r n a)

theorem row_ok (h : Fin 8) (r : Fin 16) (n : Fin 4) (a : Fin 128) : ∃ j, (row X h r n a).ok j :=
  ⟨⟨a.val + 128, by omega⟩, by show sees _ _ _; unfold sees; simp only; omega⟩

/-- The gradient of a query's channel. -/
def dq (h : Fin 8) (r : Fin 16) (n : Fin 4) (a : Fin 128) (d : Fin 64) : ℝ :=
  (∑ j, (row X h r n a).ds j * key X.k h r n j d) * (1 / 8)

/-- What block `n`'s queries give to its key `j`. -/
def dkPart (h : Fin 8) (r : Fin 16) (n : Fin 4) (j : Fin 256) (d : Fin 64) : ℝ :=
  (∑ a, (row X h r n a).ds j * X.q (tok r n a) (col h d)) * (1 / 8)

/-- What block `n`'s queries give to its value row `j`. -/
def dvPart (h : Fin 8) (r : Fin 16) (n : Fin 4) (j : Fin 256) (d : Fin 64) : ℝ :=
  ∑ a, (row X h r n a).prob j * X.g (tok r n a) (col h d)

/-- A key's own block reads it as its second half; the next block, where there is one, as its first. -/
def both (f : Fin 4 → Fin 256 → Fin 64 → ℝ) (n : Fin 4) (b : Fin 128) (d : Fin 64) : ℝ :=
  f n ⟨128 + b.val, by omega⟩ d + if hn : n.val + 1 < 4 then f ⟨n.val + 1, hn⟩ ⟨b.val, by omega⟩ d else 0

def dk (h : Fin 8) (r : Fin 16) (n : Fin 4) (b : Fin 128) (d : Fin 64) : ℝ := both (dkPart X h r) n b d
def dv (h : Fin 8) (r : Fin 16) (n : Fin 4) (b : Fin 128) (d : Fin 64) : ℝ := both (dvPart X h r) n b d

end Cert.MixAttn

end
-- ==== Proof.Mask.lean ====
/-
  The mask of the dilated attention as the programs compute it, in words, and as a proposition (untrusted).
-/
module

public import proofs.«01_k».proof.Proof.Rows
public import Idealize.ShloMosaic.Lib.WordArith
public import Idealize.ShloMosaic.Lib.WordCmp
public import Idealize.ShloMosaic.Lib.Pointwise
@[expose] public section
noncomputable section
namespace Cert.MixAttn
open Idealize.ShloMosaic
theorem toInt_small (x : Nat) (hx : x < 2147483648) : (BitVec.ofNat 32 x).toInt = (x : Int) := by
  have e : (BitVec.ofNat 32 x).toNat = x := by rw [BitVec.toNat_ofNat]; omega
  rw [BitVec.toInt_eq_toNat_of_lt (by omega), e]
theorem mask_word (n : Fin 4) (a : Fin 128) (j : Fin 256) : IntOp.andi
      (IntOp.andi
        (IntOp.cmpi CmpIPredicate.sge (IntOp.subi (IntOp.addi (BitVec.ofNat 32 ↑a) 128#32) (BitVec.ofNat 32 ↑j)) 0#32)
        (IntOp.cmpi CmpIPredicate.sle (IntOp.subi (IntOp.addi (BitVec.ofNat 32 ↑a) 128#32) (BitVec.ofNat 32 ↑j))
          128#32))
      (IntOp.cmpi CmpIPredicate.sge
        (IntOp.addi (IntOp.subi (IntOp.muli (BitVec.ofNat 32 ↑n) 128#32) 128#32) (BitVec.ofNat 32 ↑j)) 0#32) =
    BitVec.ofBool (decide (sees n a j)) := by
  have e1 : (IntOp.subi (IntOp.addi (BitVec.ofNat 32 ↑a) 128#32) (BitVec.ofNat 32 ↑j)).toInt = (a.val : Int) + 128 - j.val := by
    rw [IntOp.subi, IntOp.addi, BitVec.toInt_sub, BitVec.toInt_add, toInt_small _ (by omega), toInt_small _ (by omega),
      toInt_small _ (by omega), Int.bmod_eq_of_le (n := (a.val : Int) + _) (by omega) (by omega), Int.bmod_eq_of_le (by omega) (by omega)]
    omega
  have e2 : (IntOp.addi (IntOp.subi (IntOp.muli (BitVec.ofNat 32 ↑n) 128#32) 128#32) (BitVec.ofNat 32 ↑j)).toInt = (n.val : Int) * 128 - 128 + j.val := by
    rw [IntOp.addi, IntOp.subi, IntOp.muli, BitVec.toInt_add, BitVec.toInt_sub, BitVec.toInt_mul, toInt_small _ (by omega),
      toInt_small _ (by omega), toInt_small _ (by omega), Int.bmod_eq_of_le (n := (n.val : Int) * _) (by omega) (by omega),
      Int.bmod_eq_of_le (n := (n.val : Int) * _ - _) (by omega) (by omega), Int.bmod_eq_of_le (by omega) (by omega)]
    omega
  rw [WordCmp.cmpi_sle_eq, WordCmp.cmpi_sge_eq, WordCmp.cmpi_sge_eq, WordArith.andi_ofBool, WordArith.andi_ofBool, e1, e2,
    ← Bool.decide_and, ← Bool.decide_and, show (0#32).toInt = 0 from rfl, show (128#32).toInt = 128 from rfl]
  exact congrArg BitVec.ofBool (decide_eq_decide.2 (by unfold sees; omega))

end Cert.MixAttn
-- ==== Proof.KerHost.lean ====
/-
  What the kernel's launch reads (untrusted): the arrays that the program's own lines compute before it, each a term of
  the arguments, stage by stage.
-/
module

public import proofs.«01_k».proof.Proof.Gen.KernelIdeal.Frame
public import Idealize.ShloMosaic.Lib.StableHlo.RunRead
public import proofs.«01_k».proof.Proof.Mask

@[expose] public section

set_option maxRecDepth 16384

noncomputable section

namespace Cert.MixAttn.Ker

open Idealize.ShloMosaic Idealize.ShloMosaic.TcCoe Idealize.SL.Sem Idealize.ShloMosaic.StableHlo
open Cert.KernelIdeal Cert.KernelIdeal.Gen

variable {F : FTy → Type} [FloatOps F]

def fn_main_v16 : (⟨S1x8x16x128x64, .f32⟩ : BufTy).Contents (Elt F) → (⟨S1x8x16x512x64, .f32⟩ : BufTy).Contents (Elt F) → (⟨S1x8x16x640x64, .f32⟩ : BufTy).Contents (Elt F) :=
  fun a b => concatenate S1x8x16x640x64 3 [⟨S1x8x16x128x64, a⟩, ⟨S1x8x16x512x64, b⟩] concatenates_S1x8x16x128x64_S1x8x16x512x64_S1x8x16x640x64_d3

def fn_main_v21 : (⟨S1x8x16x4x128x64, .f32⟩ : BufTy).Contents (Elt F) → (⟨S1x8x16x4x128x64, .f32⟩ : BufTy).Contents (Elt F) → (⟨S1x8x16x4x256x64, .f32⟩ : BufTy).Contents (Elt F) :=
  fun a b => concatenate S1x8x16x4x256x64 4 [⟨S1x8x16x4x128x64, a⟩, ⟨S1x8x16x4x128x64, b⟩] concatenates_S1x8x16x4x128x64_S1x8x16x4x128x64_S1x8x16x4x256x64_d4

def fn_main_v47 : (⟨S1x8x16x128x64, .f32⟩ : BufTy).Contents (Elt F) → (⟨S1x8x16x512x64, .f32⟩ : BufTy).Contents (Elt F) → (⟨S1x8x16x640x64, .f32⟩ : BufTy).Contents (Elt F) :=
  fun a b => concatenate S1x8x16x640x64 3 [⟨S1x8x16x128x64, a⟩, ⟨S1x8x16x512x64, b⟩] concatenates_S1x8x16x128x64_S1x8x16x512x64_S1x8x16x640x64_d3

def fn_main_v52 : (⟨S1x8x16x4x128x64, .f32⟩ : BufTy).Contents (Elt F) → (⟨S1x8x16x4x128x64, .f32⟩ : BufTy).Contents (Elt F) → (⟨S1x8x16x4x256x64, .f32⟩ : BufTy).Contents (Elt F) :=
  fun a b => concatenate S1x8x16x4x256x64 4 [⟨S1x8x16x4x128x64, a⟩, ⟨S1x8x16x4x128x64, b⟩] concatenates_S1x8x16x4x128x64_S1x8x16x4x128x64_S1x8x16x4x256x64_d4

/-- The lines before the launch. -/
abbrev lines : List (HloOp τ sig (Elt F)) :=
  [ StableHlo.nullary main_cst (constant S_ .f32 0x3E000000#32),
    StableHlo.unary main_cst main_v0 (broadcastInDim S8192x512 ![] bcast_S_S8192x512 : (⟨S_, .f32⟩ : BufTy).Contents (Elt F) → (⟨S8192x512, .f32⟩ : BufTy).Contents (Elt F)),
    StableHlo.binary main_arg0 main_v0 main_v1 (mulf : (⟨S8192x512, .f32⟩ : BufTy).Contents (Elt F) → (⟨S8192x512, .f32⟩ : BufTy).Contents (Elt F) → (⟨S8192x512, .f32⟩ : BufTy).Contents (Elt F)),
    StableHlo.unary main_v1 main_v2 ((truncf .bf16 · bitsLt_bf16_f32) : (⟨S8192x512, .f32⟩ : BufTy).Contents (Elt F) → (⟨S8192x512, .bf16⟩ : BufTy).Contents (Elt F)),
    StableHlo.reshape main_v2 main_v3 (rfl : (.bf16 : EltTy) = .bf16) shapeCasts_S8192x512_S512x8192,
    StableHlo.reshape main_arg0 main_v4 (rfl : (.f32 : EltTy) = .f32) shapeCasts_S8192x512_S1x8192x8x64,
    StableHlo.unary main_v4 main_v5 ((transpose S1x8x8192x64 [0, 2, 1, 3] · transposes_S1x8192x8x64_S1x8x8192x64_0_2_1_3) : (⟨S1x8192x8x64, .f32⟩ : BufTy).Contents (Elt F) → (⟨S1x8x8192x64, .f32⟩ : BufTy).Contents (Elt F)),
    StableHlo.reshape main_arg1 main_v6 (rfl : (.f32 : EltTy) = .f32) shapeCasts_S8192x512_S1x8192x8x64,
    StableHlo.unary main_v6 main_v7 ((transpose S1x8x8192x64 [0, 2, 1, 3] · transposes_S1x8192x8x64_S1x8x8192x64_0_2_1_3) : (⟨S1x8192x8x64, .f32⟩ : BufTy).Contents (Elt F) → (⟨S1x8x8192x64, .f32⟩ : BufTy).Contents (Elt F)),
    StableHlo.reshape main_arg2 main_v8 (rfl : (.f32 : EltTy) = .f32) shapeCasts_S8192x512_S1x8192x8x64,
    StableHlo.unary main_v8 main_v9 ((transpose S1x8x8192x64 [0, 2, 1, 3] · transposes_S1x8192x8x64_S1x8x8192x64_0_2_1_3) : (⟨S1x8192x8x64, .f32⟩ : BufTy).Contents (Elt F) → (⟨S1x8x8192x64, .f32⟩ : BufTy).Contents (Elt F)),
    StableHlo.nullary main_cst_0 (constant S_ .f32 0x00000000#32),
    StableHlo.unary main_cst_0 main_v10 (broadcastInDim S1x8x16x128x64 ![] bcast_S_S1x8x16x128x64 : (⟨S_, .f32⟩ : BufTy).Contents (Elt F) → (⟨S1x8x16x128x64, .f32⟩ : BufTy).Contents (Elt F)),
    StableHlo.reshape main_v5 main_v11 (rfl : (.f32 : EltTy) = .f32) shapeCasts_S1x8x8192x64_S1x8x512x16x64,
    StableHlo.unary main_v11 main_v12 ((transpose S1x8x16x512x64 [0, 1, 3, 2, 4] · transposes_S1x8x512x16x64_S1x8x16x512x64_0_1_3_2_4) : (⟨S1x8x512x16x64, .f32⟩ : BufTy).Contents (Elt F) → (⟨S1x8x16x512x64, .f32⟩ : BufTy).Contents (Elt F)),
    StableHlo.reshape main_v12 main_v13 (rfl : (.f32 : EltTy) = .f32) shapeCasts_S1x8x16x512x64_S1x8x16x4x128x64,
    StableHlo.reshape main_v7 main_v14 (rfl : (.f32 : EltTy) = .f32) shapeCasts_S1x8x8192x64_S1x8x512x16x64,
    StableHlo.unary main_v14 main_v15 ((transpose S1x8x16x512x64 [0, 1, 3, 2, 4] · transposes_S1x8x512x16x64_S1x8x16x512x64_0_1_3_2_4) : (⟨S1x8x512x16x64, .f32⟩ : BufTy).Contents (Elt F) → (⟨S1x8x16x512x64, .f32⟩ : BufTy).Contents (Elt F)),
    StableHlo.binary main_v10 main_v15 main_v16 fn_main_v16,
    StableHlo.unary main_v16 main_v17 ((extractStridedSlice S1x8x16x512x64 ![0, 0, 0, 0, 0] · slices_S1x8x16x640x64_S1x8x16x512x64_0_0_0_0_0) : (⟨S1x8x16x640x64, .f32⟩ : BufTy).Contents (Elt F) → (⟨S1x8x16x512x64, .f32⟩ : BufTy).Contents (Elt F)),
    StableHlo.reshape main_v17 main_v18 (rfl : (.f32 : EltTy) = .f32) shapeCasts_S1x8x16x512x64_S1x8x16x4x128x64,
    StableHlo.unary main_v16 main_v19 ((extractStridedSlice S1x8x16x512x64 ![0, 0, 0, 128, 0] · slices_S1x8x16x640x64_S1x8x16x512x64_0_0_0_128_0) : (⟨S1x8x16x640x64, .f32⟩ : BufTy).Contents (Elt F) → (⟨S1x8x16x512x64, .f32⟩ : BufTy).Contents (Elt F)),
    StableHlo.reshape main_v19 main_v20 (rfl : (.f32 : EltTy) = .f32) shapeCasts_S1x8x16x512x64_S1x8x16x4x128x64,
    StableHlo.binary main_v18 main_v20 main_v21 fn_main_v21,
    StableHlo.binary main_v13 main_v21 main_v22 ((fun l r => Host.dotGeneral dot_S1x8x16x4x128x64_S1x8x16x4x256x64_S1x8x16x4x128x256_5_5_4_4_0123_0123 none l r) : (⟨S1x8x16x4x128x64, .f32⟩ : BufTy).Contents (Elt F) → (⟨S1x8x16x4x256x64, .f32⟩ : BufTy).Contents (Elt F) → (⟨S1x8x16x4x128x256, .f32⟩ : BufTy).Contents (Elt F)),
    StableHlo.nullary main_cst_1 (constant S_ .f32 0x3E000000#32),
    StableHlo.unary main_cst_1 main_v23 (broadcastInDim S1x8x16x4x128x256 ![] bcast_S_S1x8x16x4x128x256 : (⟨S_, .f32⟩ : BufTy).Contents (Elt F) → (⟨S1x8x16x4x128x256, .f32⟩ : BufTy).Contents (Elt F)),
    StableHlo.binary main_v22 main_v23 main_v24 (mulf : (⟨S1x8x16x4x128x256, .f32⟩ : BufTy).Contents (Elt F) → (⟨S1x8x16x4x128x256, .f32⟩ : BufTy).Contents (Elt F) → (⟨S1x8x16x4x128x256, .f32⟩ : BufTy).Contents (Elt F)),
    StableHlo.nullary main_v25 (iotaInDim S4x128x256 32 0),
    StableHlo.nullary main_v26 (iotaInDim S4x128x256 32 1),
    StableHlo.nullary main_v27 (iotaInDim S4x128x256 32 2),
    StableHlo.nullary main_c (constantI S_ 32 128#32),
    StableHlo.unary main_c main_v28 (broadcastInDim S4x128x256 ![] bcast_S_S4x128x256 : (⟨S_, .i32⟩ : BufTy).Contents (Elt F) → (⟨S4x128x256, .i32⟩ : BufTy).Contents (Elt F)),
    StableHlo.binary main_v26 main_v27 main_v29 (cmpi .sle : (⟨S4x128x256, .i32⟩ : BufTy).Contents (Elt F) → (⟨S4x128x256, .i32⟩ : BufTy).Contents (Elt F) → (⟨S4x128x256, .i1⟩ : BufTy).Contents (Elt F)),
    StableHlo.binary main_v27 main_v26 main_v30 (subi : (⟨S4x128x256, .i32⟩ : BufTy).Contents (Elt F) → (⟨S4x128x256, .i32⟩ : BufTy).Contents (Elt F) → (⟨S4x128x256, .i32⟩ : BufTy).Contents (Elt F)),
    StableHlo.binary main_v30 main_v28 main_v31 (cmpi .sle : (⟨S4x128x256, .i32⟩ : BufTy).Contents (Elt F) → (⟨S4x128x256, .i32⟩ : BufTy).Contents (Elt F) → (⟨S4x128x256, .i1⟩ : BufTy).Contents (Elt F)),
    StableHlo.binary main_v29 main_v31 main_v32 (andi : (⟨S4x128x256, .i1⟩ : BufTy).Contents (Elt F) → (⟨S4x128x256, .i1⟩ : BufTy).Contents (Elt F) → (⟨S4x128x256, .i1⟩ : BufTy).Contents (Elt F)),
    StableHlo.binary main_v25 main_v28 main_v33 (muli : (⟨S4x128x256, .i32⟩ : BufTy).Contents (Elt F) → (⟨S4x128x256, .i32⟩ : BufTy).Contents (Elt F) → (⟨S4x128x256, .i32⟩ : BufTy).Contents (Elt F)),
    StableHlo.binary main_v33 main_v27 main_v34 (addi : (⟨S4x128x256, .i32⟩ : BufTy).Contents (Elt F) → (⟨S4x128x256, .i32⟩ : BufTy).Contents (Elt F) → (⟨S4x128x256, .i32⟩ : BufTy).Contents (Elt F)),
    StableHlo.binary main_v34 main_v28 main_v35 (cmpi .sge : (⟨S4x128x256, .i32⟩ : BufTy).Contents (Elt F) → (⟨S4x128x256, .i32⟩ : BufTy).Contents (Elt F) → (⟨S4x128x256, .i1⟩ : BufTy).Contents (Elt F)),
    StableHlo.binary main_v32 main_v35 main_v36 (andi : (⟨S4x128x256, .i1⟩ : BufTy).Contents (Elt F) → (⟨S4x128x256, .i1⟩ : BufTy).Contents (Elt F) → (⟨S4x128x256, .i1⟩ : BufTy).Contents (Elt F)),
    StableHlo.nullary main_cst_2 (constant S_ .f32 0xFF800000#32),
    StableHlo.TRef.unary (.of main_cst_2 : StableHlo.TRef sig ⟨S_, .f32⟩) (.of main_call0_v0 : StableHlo.TRef sig ⟨S_, .f32⟩) id,
    StableHlo.TRef.unary (.of main_v36 : StableHlo.TRef sig ⟨S4x128x256, .i1⟩) (.of main_call0_v1 : StableHlo.TRef sig ⟨S1x8x16x4x128x256, .i1⟩) (broadcastInDim S1x8x16x4x128x256 ![3, 4, 5] bcast_S4x128x256_S1x8x16x4x128x256_3_4_5),
    StableHlo.TRef.unary (.of main_call0_v0 : StableHlo.TRef sig ⟨S_, .f32⟩) (.of main_call0_v2 : StableHlo.TRef sig ⟨S1x8x16x4x128x256, .f32⟩) (broadcastInDim S1x8x16x4x128x256 ![] bcast_S_S1x8x16x4x128x256),
    StableHlo.TRef.ternary (.of main_call0_v1 : StableHlo.TRef sig ⟨S1x8x16x4x128x256, .i1⟩) (.of main_v24 : StableHlo.TRef sig ⟨S1x8x16x4x128x256, .f32⟩) (.of main_call0_v2 : StableHlo.TRef sig ⟨S1x8x16x4x128x256, .f32⟩) (.of main_v37 : StableHlo.TRef sig ⟨S1x8x16x4x128x256, .f32⟩) select,
    StableHlo.nullary main_cst_3 (constant S_ .f32 0xFF800000#32),
    StableHlo.binary main_v37 main_cst_3 main_v38 ((fun x v => Host.reduce FloatOps.maximumf x v reducesTo_S1x8x16x4x128x256_S1x8x16x4x128_d5 h_S_) : (⟨S1x8x16x4x128x256, .f32⟩ : BufTy).Contents (Elt F) → (⟨S_, .f32⟩ : BufTy).Contents (Elt F) → (⟨S1x8x16x4x128, .f32⟩ : BufTy).Contents (Elt F)),
    StableHlo.unary main_v38 main_v39 (broadcastInDim S1x8x16x4x128x1 ![0, 1, 2, 3, 4] bcast_S1x8x16x4x128_S1x8x16x4x128x1_0_1_2_3_4 : (⟨S1x8x16x4x128, .f32⟩ : BufTy).Contents (Elt F) → (⟨S1x8x16x4x128x1, .f32⟩ : BufTy).Contents (Elt F)),
    StableHlo.unary main_v39 main_v40 (broadcastInDim S1x8x16x4x128x256 ![0, 1, 2, 3, 4, 5] bcast_S1x8x16x4x128x1_S1x8x16x4x128x256_0_1_2_3_4_5 : (⟨S1x8x16x4x128x1, .f32⟩ : BufTy).Contents (Elt F) → (⟨S1x8x16x4x128x256, .f32⟩ : BufTy).Contents (Elt F)),
    StableHlo.binary main_v37 main_v40 main_v41 (subf : (⟨S1x8x16x4x128x256, .f32⟩ : BufTy).Contents (Elt F) → (⟨S1x8x16x4x128x256, .f32⟩ : BufTy).Contents (Elt F) → (⟨S1x8x16x4x128x256, .f32⟩ : BufTy).Contents (Elt F)),
    StableHlo.unary main_v41 main_v42 (Host.exp : (⟨S1x8x16x4x128x256, .f32⟩ : BufTy).Contents (Elt F) → (⟨S1x8x16x4x128x256, .f32⟩ : BufTy).Contents (Elt F)),
    StableHlo.nullary main_cst_4 (constant S_ .f32 0x00000000#32),
    StableHlo.binary main_v42 main_cst_4 main_v43 ((fun x v => Host.reduceAdd x v reducesTo_S1x8x16x4x128x256_S1x8x16x4x128_d5 h_S_) : (⟨S1x8x16x4x128x256, .f32⟩ : BufTy).Contents (Elt F) → (⟨S_, .f32⟩ : BufTy).Contents (Elt F) → (⟨S1x8x16x4x128, .f32⟩ : BufTy).Contents (Elt F)),
    StableHlo.unary main_v43 main_v44 (broadcastInDim S1x8x16x4x128x1 ![0, 1, 2, 3, 4] bcast_S1x8x16x4x128_S1x8x16x4x128x1_0_1_2_3_4 : (⟨S1x8x16x4x128, .f32⟩ : BufTy).Contents (Elt F) → (⟨S1x8x16x4x128x1, .f32⟩ : BufTy).Contents (Elt F)),
    StableHlo.reshape main_v9 main_v45 (rfl : (.f32 : EltTy) = .f32) shapeCasts_S1x8x8192x64_S1x8x512x16x64,
    StableHlo.unary main_v45 main_v46 ((transpose S1x8x16x512x64 [0, 1, 3, 2, 4] · transposes_S1x8x512x16x64_S1x8x16x512x64_0_1_3_2_4) : (⟨S1x8x512x16x64, .f32⟩ : BufTy).Contents (Elt F) → (⟨S1x8x16x512x64, .f32⟩ : BufTy).Contents (Elt F)),
    StableHlo.binary main_v10 main_v46 main_v47 fn_main_v47,
    StableHlo.unary main_v47 main_v48 ((extractStridedSlice S1x8x16x512x64 ![0, 0, 0, 0, 0] · slices_S1x8x16x640x64_S1x8x16x512x64_0_0_0_0_0) : (⟨S1x8x16x640x64, .f32⟩ : BufTy).Contents (Elt F) → (⟨S1x8x16x512x64, .f32⟩ : BufTy).Contents (Elt F)),
    StableHlo.reshape main_v48 main_v49 (rfl : (.f32 : EltTy) = .f32) shapeCasts_S1x8x16x512x64_S1x8x16x4x128x64,
    StableHlo.unary main_v47 main_v50 ((extractStridedSlice S1x8x16x512x64 ![0, 0, 0, 128, 0] · slices_S1x8x16x640x64_S1x8x16x512x64_0_0_0_128_0) : (⟨S1x8x16x640x64, .f32⟩ : BufTy).Contents (Elt F) → (⟨S1x8x16x512x64, .f32⟩ : BufTy).Contents (Elt F)),
    StableHlo.reshape main_v50 main_v51 (rfl : (.f32 : EltTy) = .f32) shapeCasts_S1x8x16x512x64_S1x8x16x4x128x64,
    StableHlo.binary main_v49 main_v51 main_v52 fn_main_v52,
    StableHlo.binary main_v42 main_v52 main_v53 ((fun l r => Host.dotGeneral dot_S1x8x16x4x128x256_S1x8x16x4x256x64_S1x8x16x4x128x64_5_4_4_5_0123_0123 none l r) : (⟨S1x8x16x4x128x256, .f32⟩ : BufTy).Contents (Elt F) → (⟨S1x8x16x4x256x64, .f32⟩ : BufTy).Contents (Elt F) → (⟨S1x8x16x4x128x64, .f32⟩ : BufTy).Contents (Elt F)),
    StableHlo.unary main_v44 main_v54 (broadcastInDim S1x8x16x4x128x64 ![0, 1, 2, 3, 4, 5] bcast_S1x8x16x4x128x1_S1x8x16x4x128x64_0_1_2_3_4_5 : (⟨S1x8x16x4x128x1, .f32⟩ : BufTy).Contents (Elt F) → (⟨S1x8x16x4x128x64, .f32⟩ : BufTy).Contents (Elt F)),
    StableHlo.binary main_v53 main_v54 main_v55 (Host.divf : (⟨S1x8x16x4x128x64, .f32⟩ : BufTy).Contents (Elt F) → (⟨S1x8x16x4x128x64, .f32⟩ : BufTy).Contents (Elt F) → (⟨S1x8x16x4x128x64, .f32⟩ : BufTy).Contents (Elt F)),
    StableHlo.unary main_v44 main_v56 (Host.log : (⟨S1x8x16x4x128x1, .f32⟩ : BufTy).Contents (Elt F) → (⟨S1x8x16x4x128x1, .f32⟩ : BufTy).Contents (Elt F)),
    StableHlo.binary main_v39 main_v56 main_v57 (addf : (⟨S1x8x16x4x128x1, .f32⟩ : BufTy).Contents (Elt F) → (⟨S1x8x16x4x128x1, .f32⟩ : BufTy).Contents (Elt F) → (⟨S1x8x16x4x128x1, .f32⟩ : BufTy).Contents (Elt F)),
    StableHlo.reshape main_v57 main_v58 (rfl : (.f32 : EltTy) = .f32) shapeCasts_S1x8x16x4x128x1_S1x8x16x4x128,
    StableHlo.reshape main_v55 main_v59 (rfl : (.f32 : EltTy) = .f32) shapeCasts_S1x8x16x4x128x64_S1x8x16x512x64,
    StableHlo.unary main_v59 main_v60 ((transpose S1x8x512x16x64 [0, 1, 3, 2, 4] · transposes_S1x8x16x512x64_S1x8x512x16x64_0_1_3_2_4) : (⟨S1x8x16x512x64, .f32⟩ : BufTy).Contents (Elt F) → (⟨S1x8x512x16x64, .f32⟩ : BufTy).Contents (Elt F)),
    StableHlo.reshape main_v60 main_v61 (rfl : (.f32 : EltTy) = .f32) shapeCasts_S1x8x512x16x64_S1x8x8192x64,
    StableHlo.reshape main_v58 main_v62 (rfl : (.f32 : EltTy) = .f32) shapeCasts_S1x8x16x4x128_S1x8x16x512,
    StableHlo.unary main_v62 main_v63 ((transpose S1x8x512x16 [0, 1, 3, 2] · transposes_S1x8x16x512_S1x8x512x16_0_1_3_2) : (⟨S1x8x16x512, .f32⟩ : BufTy).Contents (Elt F) → (⟨S1x8x512x16, .f32⟩ : BufTy).Contents (Elt F)),
    StableHlo.reshape main_v63 main_v64 (rfl : (.f32 : EltTy) = .f32) shapeCasts_S1x8x512x16_S1x8x8192,
    StableHlo.binary main_arg5 main_arg7 main_v65 (maximumf : (⟨S1x8x8192, .f32⟩ : BufTy).Contents (Elt F) → (⟨S1x8x8192, .f32⟩ : BufTy).Contents (Elt F) → (⟨S1x8x8192, .f32⟩ : BufTy).Contents (Elt F)),
    StableHlo.binary main_v65 main_v64 main_v66 (maximumf : (⟨S1x8x8192, .f32⟩ : BufTy).Contents (Elt F) → (⟨S1x8x8192, .f32⟩ : BufTy).Contents (Elt F) → (⟨S1x8x8192, .f32⟩ : BufTy).Contents (Elt F)),
    StableHlo.binary main_arg5 main_v66 main_v67 (subf : (⟨S1x8x8192, .f32⟩ : BufTy).Contents (Elt F) → (⟨S1x8x8192, .f32⟩ : BufTy).Contents (Elt F) → (⟨S1x8x8192, .f32⟩ : BufTy).Contents (Elt F)),
    StableHlo.unary main_v67 main_v68 (Host.exp : (⟨S1x8x8192, .f32⟩ : BufTy).Contents (Elt F) → (⟨S1x8x8192, .f32⟩ : BufTy).Contents (Elt F)),
    StableHlo.binary main_arg7 main_v66 main_v69 (subf : (⟨S1x8x8192, .f32⟩ : BufTy).Contents (Elt F) → (⟨S1x8x8192, .f32⟩ : BufTy).Contents (Elt F) → (⟨S1x8x8192, .f32⟩ : BufTy).Contents (Elt F)),
    StableHlo.unary main_v69 main_v70 (Host.exp : (⟨S1x8x8192, .f32⟩ : BufTy).Contents (Elt F) → (⟨S1x8x8192, .f32⟩ : BufTy).Contents (Elt F)),
    StableHlo.binary main_v64 main_v66 main_v71 (subf : (⟨S1x8x8192, .f32⟩ : BufTy).Contents (Elt F) → (⟨S1x8x8192, .f32⟩ : BufTy).Contents (Elt F) → (⟨S1x8x8192, .f32⟩ : BufTy).Contents (Elt F)),
    StableHlo.unary main_v71 main_v72 (Host.exp : (⟨S1x8x8192, .f32⟩ : BufTy).Contents (Elt F) → (⟨S1x8x8192, .f32⟩ : BufTy).Contents (Elt F)),
    StableHlo.binary main_v68 main_v70 main_v73 (addf : (⟨S1x8x8192, .f32⟩ : BufTy).Contents (Elt F) → (⟨S1x8x8192, .f32⟩ : BufTy).Contents (Elt F) → (⟨S1x8x8192, .f32⟩ : BufTy).Contents (Elt F)),
    StableHlo.binary main_v73 main_v72 main_v74 (addf : (⟨S1x8x8192, .f32⟩ : BufTy).Contents (Elt F) → (⟨S1x8x8192, .f32⟩ : BufTy).Contents (Elt F) → (⟨S1x8x8192, .f32⟩ : BufTy).Contents (Elt F)),
    StableHlo.binary main_v68 main_v74 main_v75 (Host.divf : (⟨S1x8x8192, .f32⟩ : BufTy).Contents (Elt F) → (⟨S1x8x8192, .f32⟩ : BufTy).Contents (Elt F) → (⟨S1x8x8192, .f32⟩ : BufTy).Contents (Elt F)),
    StableHlo.unary main_v75 main_v76 (broadcastInDim S1x8x8192x64 ![0, 1, 2] bcast_S1x8x8192_S1x8x8192x64_0_1_2 : (⟨S1x8x8192, .f32⟩ : BufTy).Contents (Elt F) → (⟨S1x8x8192x64, .f32⟩ : BufTy).Contents (Elt F)),
    StableHlo.binary main_v70 main_v74 main_v77 (Host.divf : (⟨S1x8x8192, .f32⟩ : BufTy).Contents (Elt F) → (⟨S1x8x8192, .f32⟩ : BufTy).Contents (Elt F) → (⟨S1x8x8192, .f32⟩ : BufTy).Contents (Elt F)),
    StableHlo.unary main_v77 main_v78 (broadcastInDim S1x8x8192x64 ![0, 1, 2] bcast_S1x8x8192_S1x8x8192x64_0_1_2 : (⟨S1x8x8192, .f32⟩ : BufTy).Contents (Elt F) → (⟨S1x8x8192x64, .f32⟩ : BufTy).Contents (Elt F)),
    StableHlo.binary main_v72 main_v74 main_v79 (Host.divf : (⟨S1x8x8192, .f32⟩ : BufTy).Contents (Elt F) → (⟨S1x8x8192, .f32⟩ : BufTy).Contents (Elt F) → (⟨S1x8x8192, .f32⟩ : BufTy).Contents (Elt F)),
    StableHlo.unary main_v79 main_v80 (broadcastInDim S1x8x8192x64 ![0, 1, 2] bcast_S1x8x8192_S1x8x8192x64_0_1_2 : (⟨S1x8x8192, .f32⟩ : BufTy).Contents (Elt F) → (⟨S1x8x8192x64, .f32⟩ : BufTy).Contents (Elt F)),
    StableHlo.binary main_v76 main_arg4 main_v81 (mulf : (⟨S1x8x8192x64, .f32⟩ : BufTy).Contents (Elt F) → (⟨S1x8x8192x64, .f32⟩ : BufTy).Contents (Elt F) → (⟨S1x8x8192x64, .f32⟩ : BufTy).Contents (Elt F)),
    StableHlo.binary main_v78 main_arg6 main_v82 (mulf : (⟨S1x8x8192x64, .f32⟩ : BufTy).Contents (Elt F) → (⟨S1x8x8192x64, .f32⟩ : BufTy).Contents (Elt F) → (⟨S1x8x8192x64, .f32⟩ : BufTy).Contents (Elt F)),
    StableHlo.binary main_v81 main_v82 main_v83 (addf : (⟨S1x8x8192x64, .f32⟩ : BufTy).Contents (Elt F) → (⟨S1x8x8192x64, .f32⟩ : BufTy).Contents (Elt F) → (⟨S1x8x8192x64, .f32⟩ : BufTy).Contents (Elt F)),
    StableHlo.binary main_v80 main_v61 main_v84 (mulf : (⟨S1x8x8192x64, .f32⟩ : BufTy).Contents (Elt F) → (⟨S1x8x8192x64, .f32⟩ : BufTy).Contents (Elt F) → (⟨S1x8x8192x64, .f32⟩ : BufTy).Contents (Elt F)),
    StableHlo.binary main_v83 main_v84 main_v85 (addf : (⟨S1x8x8192x64, .f32⟩ : BufTy).Contents (Elt F) → (⟨S1x8x8192x64, .f32⟩ : BufTy).Contents (Elt F) → (⟨S1x8x8192x64, .f32⟩ : BufTy).Contents (Elt F)),
    StableHlo.unary main_v74 main_v86 (Host.log : (⟨S1x8x8192, .f32⟩ : BufTy).Contents (Elt F) → (⟨S1x8x8192, .f32⟩ : BufTy).Contents (Elt F)),
    StableHlo.binary main_v66 main_v86 main_v87 (addf : (⟨S1x8x8192, .f32⟩ : BufTy).Contents (Elt F) → (⟨S1x8x8192, .f32⟩ : BufTy).Contents (Elt F) → (⟨S1x8x8192, .f32⟩ : BufTy).Contents (Elt F)),
    StableHlo.reshape main_arg3 main_v88 (rfl : (.f32 : EltTy) = .f32) shapeCasts_S8192x512_S1x8192x8x64,
    StableHlo.unary main_v88 main_v89 ((transpose S1x8x8192x64 [0, 2, 1, 3] · transposes_S1x8192x8x64_S1x8x8192x64_0_2_1_3) : (⟨S1x8192x8x64, .f32⟩ : BufTy).Contents (Elt F) → (⟨S1x8x8192x64, .f32⟩ : BufTy).Contents (Elt F)),
    StableHlo.binary main_v89 main_v85 main_v90 (mulf : (⟨S1x8x8192x64, .f32⟩ : BufTy).Contents (Elt F) → (⟨S1x8x8192x64, .f32⟩ : BufTy).Contents (Elt F) → (⟨S1x8x8192x64, .f32⟩ : BufTy).Contents (Elt F)),
    StableHlo.nullary main_cst_5 (constant S_ .f32 0x00000000#32),
    StableHlo.binary main_v90 main_cst_5 main_v91 ((fun x v => Host.reduceAdd x v reducesTo_S1x8x8192x64_S1x8x8192_d3 h_S_) : (⟨S1x8x8192x64, .f32⟩ : BufTy).Contents (Elt F) → (⟨S_, .f32⟩ : BufTy).Contents (Elt F) → (⟨S1x8x8192, .f32⟩ : BufTy).Contents (Elt F)),
    StableHlo.unary main_arg1 main_v92 ((truncf .bf16 · bitsLt_bf16_f32) : (⟨S8192x512, .f32⟩ : BufTy).Contents (Elt F) → (⟨S8192x512, .bf16⟩ : BufTy).Contents (Elt F)),
    StableHlo.reshape main_v92 main_v93 (rfl : (.bf16 : EltTy) = .bf16) shapeCasts_S8192x512_S512x8192,
    StableHlo.unary main_arg2 main_v94 ((truncf .bf16 · bitsLt_bf16_f32) : (⟨S8192x512, .f32⟩ : BufTy).Contents (Elt F) → (⟨S8192x512, .bf16⟩ : BufTy).Contents (Elt F)),
    StableHlo.reshape main_v94 main_v95 (rfl : (.bf16 : EltTy) = .bf16) shapeCasts_S8192x512_S512x8192,
    StableHlo.unary main_arg3 main_v96 ((truncf .bf16 · bitsLt_bf16_f32) : (⟨S8192x512, .f32⟩ : BufTy).Contents (Elt F) → (⟨S8192x512, .bf16⟩ : BufTy).Contents (Elt F)),
    StableHlo.reshape main_v96 main_v97 (rfl : (.bf16 : EltTy) = .bf16) shapeCasts_S8192x512_S512x8192,
    StableHlo.unary main_v87 main_v98 ((transpose S8192x8x1 [2, 1, 0] · transposes_S1x8x8192_S8192x8x1_2_1_0) : (⟨S1x8x8192, .f32⟩ : BufTy).Contents (Elt F) → (⟨S8192x8x1, .f32⟩ : BufTy).Contents (Elt F)),
    StableHlo.unary main_v98 main_v99 (broadcastInDim S8192x8x16 ![0, 1, 2] bcast_S8192x8x1_S8192x8x16_0_1_2 : (⟨S8192x8x1, .f32⟩ : BufTy).Contents (Elt F) → (⟨S8192x8x16, .f32⟩ : BufTy).Contents (Elt F)),
    StableHlo.reshape main_v99 main_v100 (rfl : (.f32 : EltTy) = .f32) shapeCasts_S8192x8x16_S512x2048,
    StableHlo.unary main_v91 main_v101 ((transpose S8192x8x1 [2, 1, 0] · transposes_S1x8x8192_S8192x8x1_2_1_0) : (⟨S1x8x8192, .f32⟩ : BufTy).Contents (Elt F) → (⟨S8192x8x1, .f32⟩ : BufTy).Contents (Elt F)),
    StableHlo.unary main_v101 main_v102 (broadcastInDim S8192x8x16 ![0, 1, 2] bcast_S8192x8x1_S8192x8x16_0_1_2 : (⟨S8192x8x1, .f32⟩ : BufTy).Contents (Elt F) → (⟨S8192x8x16, .f32⟩ : BufTy).Contents (Elt F)),
    StableHlo.reshape main_v102 main_v103 (rfl : (.f32 : EltTy) = .f32) shapeCasts_S8192x8x16_S512x2048 ]

theorem lines_eq : List.flatten [hostOps0, hostOps0_1, hostOps0_2] = (lines : List (HloOp τ sig (Elt F))) := rfl

def s3 (V0 : Valuation τ sig (Elt Ideal)) : FVec Ideal S512x8192 .bf16 :=
  shapeCast S512x8192 (truncf .bf16 (mulf ((V0 (Proc.devRef .tc main_arg0) : FVec Ideal S8192x512 .f32)) (broadcastInDim S8192x512 ![] bcast_S_S8192x512 (constant S_ .f32 0x3E000000#32))) bitsLt_bf16_f32) shapeCasts_S8192x512_S512x8192
def s10 (V0 : Valuation τ sig (Elt Ideal)) : FVec Ideal S1x8x16x128x64 .f32 :=
  broadcastInDim S1x8x16x128x64 ![] bcast_S_S1x8x16x128x64 (constant S_ .f32 0x00000000#32)
def s13 (V0 : Valuation τ sig (Elt Ideal)) : FVec Ideal S1x8x16x4x128x64 .f32 :=
  shapeCast S1x8x16x4x128x64 (transpose S1x8x16x512x64 [0, 1, 3, 2, 4] (shapeCast S1x8x512x16x64 (transpose S1x8x8192x64 [0, 2, 1, 3] (shapeCast S1x8192x8x64 ((V0 (Proc.devRef .tc main_arg0) : FVec Ideal S8192x512 .f32)) shapeCasts_S8192x512_S1x8192x8x64) transposes_S1x8192x8x64_S1x8x8192x64_0_2_1_3) shapeCasts_S1x8x8192x64_S1x8x512x16x64) transposes_S1x8x512x16x64_S1x8x16x512x64_0_1_3_2_4) shapeCasts_S1x8x16x512x64_S1x8x16x4x128x64
def s16 (V0 : Valuation τ sig (Elt Ideal)) : FVec Ideal S1x8x16x640x64 .f32 :=
  fn_main_v16 (F := Ideal) (s10 V0) (transpose S1x8x16x512x64 [0, 1, 3, 2, 4] (shapeCast S1x8x512x16x64 (transpose S1x8x8192x64 [0, 2, 1, 3] (shapeCast S1x8192x8x64 ((V0 (Proc.devRef .tc main_arg1) : FVec Ideal S8192x512 .f32)) shapeCasts_S8192x512_S1x8192x8x64) transposes_S1x8192x8x64_S1x8x8192x64_0_2_1_3) shapeCasts_S1x8x8192x64_S1x8x512x16x64) transposes_S1x8x512x16x64_S1x8x16x512x64_0_1_3_2_4)
def s21 (V0 : Valuation τ sig (Elt Ideal)) : FVec Ideal S1x8x16x4x256x64 .f32 :=
  fn_main_v21 (F := Ideal) (shapeCast S1x8x16x4x128x64 (extractStridedSlice S1x8x16x512x64 ![0, 0, 0, 0, 0] (s16 V0) slices_S1x8x16x640x64_S1x8x16x512x64_0_0_0_0_0) shapeCasts_S1x8x16x512x64_S1x8x16x4x128x64) (shapeCast S1x8x16x4x128x64 (extractStridedSlice S1x8x16x512x64 ![0, 0, 0, 128, 0] (s16 V0) slices_S1x8x16x640x64_S1x8x16x512x64_0_0_0_128_0) shapeCasts_S1x8x16x512x64_S1x8x16x4x128x64)
def s24 (V0 : Valuation τ sig (Elt Ideal)) : FVec Ideal S1x8x16x4x128x256 .f32 :=
  mulf (Host.dotGeneral dot_S1x8x16x4x128x64_S1x8x16x4x256x64_S1x8x16x4x128x256_5_5_4_4_0123_0123 none (s13 V0) (s21 V0)) (broadcastInDim S1x8x16x4x128x256 ![] bcast_S_S1x8x16x4x128x256 (constant S_ .f32 0x3E000000#32))
def s36 (V0 : Valuation τ sig (Elt Ideal)) : IVec S4x128x256 1 :=
  andi (andi (cmpi .sle (iotaInDim S4x128x256 32 1) (iotaInDim S4x128x256 32 2)) (cmpi .sle (subi (iotaInDim S4x128x256 32 2) (iotaInDim S4x128x256 32 1)) (broadcastInDim S4x128x256 ![] bcast_S_S4x128x256 (constantI S_ 32 128#32)))) (cmpi .sge (addi (muli (iotaInDim S4x128x256 32 0) (broadcastInDim S4x128x256 ![] bcast_S_S4x128x256 (constantI S_ 32 128#32))) (iotaInDim S4x128x256 32 2)) (broadcastInDim S4x128x256 ![] bcast_S_S4x128x256 (constantI S_ 32 128#32)))
def s37 (V0 : Valuation τ sig (Elt Ideal)) : FVec Ideal S1x8x16x4x128x256 .f32 :=
  select (broadcastInDim S1x8x16x4x128x256 ![3, 4, 5] bcast_S4x128x256_S1x8x16x4x128x256_3_4_5 (s36 V0)) (s24 V0) (broadcastInDim S1x8x16x4x128x256 ![] bcast_S_S1x8x16x4x128x256 (constant S_ .f32 0xFF800000#32))
def s38 (V0 : Valuation τ sig (Elt Ideal)) : FVec Ideal S1x8x16x4x128 .f32 :=
  Host.reduce FloatOps.maximumf (s37 V0) (constant S_ .f32 0xFF800000#32) reducesTo_S1x8x16x4x128x256_S1x8x16x4x128_d5 h_S_
def s39 (V0 : Valuation τ sig (Elt Ideal)) : FVec Ideal S1x8x16x4x128x1 .f32 :=
  broadcastInDim S1x8x16x4x128x1 ![0, 1, 2, 3, 4] bcast_S1x8x16x4x128_S1x8x16x4x128x1_0_1_2_3_4 (s38 V0)
def s42 (V0 : Valuation τ sig (Elt Ideal)) : FVec Ideal S1x8x16x4x128x256 .f32 :=
  Host.exp (subf (s37 V0) (broadcastInDim S1x8x16x4x128x256 ![0, 1, 2, 3, 4, 5] bcast_S1x8x16x4x128x1_S1x8x16x4x128x256_0_1_2_3_4_5 (s39 V0)))
def s44 (V0 : Valuation τ sig (Elt Ideal)) : FVec Ideal S1x8x16x4x128x1 .f32 :=
  broadcastInDim S1x8x16x4x128x1 ![0, 1, 2, 3, 4] bcast_S1x8x16x4x128_S1x8x16x4x128x1_0_1_2_3_4 (Host.reduceAdd (s42 V0) (constant S_ .f32 0x00000000#32) reducesTo_S1x8x16x4x128x256_S1x8x16x4x128_d5 h_S_)
def s47 (V0 : Valuation τ sig (Elt Ideal)) : FVec Ideal S1x8x16x640x64 .f32 :=
  fn_main_v47 (F := Ideal) (s10 V0) (transpose S1x8x16x512x64 [0, 1, 3, 2, 4] (shapeCast S1x8x512x16x64 (transpose S1x8x8192x64 [0, 2, 1, 3] (shapeCast S1x8192x8x64 ((V0 (Proc.devRef .tc main_arg2) : FVec Ideal S8192x512 .f32)) shapeCasts_S8192x512_S1x8192x8x64) transposes_S1x8192x8x64_S1x8x8192x64_0_2_1_3) shapeCasts_S1x8x8192x64_S1x8x512x16x64) transposes_S1x8x512x16x64_S1x8x16x512x64_0_1_3_2_4)
def s52 (V0 : Valuation τ sig (Elt Ideal)) : FVec Ideal S1x8x16x4x256x64 .f32 :=
  fn_main_v52 (F := Ideal) (shapeCast S1x8x16x4x128x64 (extractStridedSlice S1x8x16x512x64 ![0, 0, 0, 0, 0] (s47 V0) slices_S1x8x16x640x64_S1x8x16x512x64_0_0_0_0_0) shapeCasts_S1x8x16x512x64_S1x8x16x4x128x64) (shapeCast S1x8x16x4x128x64 (extractStridedSlice S1x8x16x512x64 ![0, 0, 0, 128, 0] (s47 V0) slices_S1x8x16x640x64_S1x8x16x512x64_0_0_0_128_0) shapeCasts_S1x8x16x512x64_S1x8x16x4x128x64)
def s61 (V0 : Valuation τ sig (Elt Ideal)) : FVec Ideal S1x8x8192x64 .f32 :=
  shapeCast S1x8x8192x64 (transpose S1x8x512x16x64 [0, 1, 3, 2, 4] (shapeCast S1x8x16x512x64 (Host.divf (Host.dotGeneral dot_S1x8x16x4x128x256_S1x8x16x4x256x64_S1x8x16x4x128x64_5_4_4_5_0123_0123 none (s42 V0) (s52 V0)) (broadcastInDim S1x8x16x4x128x64 ![0, 1, 2, 3, 4, 5] bcast_S1x8x16x4x128x1_S1x8x16x4x128x64_0_1_2_3_4_5 (s44 V0))) shapeCasts_S1x8x16x4x128x64_S1x8x16x512x64) transposes_S1x8x16x512x64_S1x8x512x16x64_0_1_3_2_4) shapeCasts_S1x8x512x16x64_S1x8x8192x64
def s64 (V0 : Valuation τ sig (Elt Ideal)) : FVec Ideal S1x8x8192 .f32 :=
  shapeCast S1x8x8192 (transpose S1x8x512x16 [0, 1, 3, 2] (shapeCast S1x8x16x512 (shapeCast S1x8x16x4x128 (addf (s39 V0) (Host.log (s44 V0))) shapeCasts_S1x8x16x4x128x1_S1x8x16x4x128) shapeCasts_S1x8x16x4x128_S1x8x16x512) transposes_S1x8x16x512_S1x8x512x16_0_1_3_2) shapeCasts_S1x8x512x16_S1x8x8192
def s66 (V0 : Valuation τ sig (Elt Ideal)) : FVec Ideal S1x8x8192 .f32 :=
  maximumf (maximumf ((V0 (Proc.devRef .tc main_arg5) : FVec Ideal S1x8x8192 .f32)) ((V0 (Proc.devRef .tc main_arg7) : FVec Ideal S1x8x8192 .f32))) (s64 V0)
def s68 (V0 : Valuation τ sig (Elt Ideal)) : FVec Ideal S1x8x8192 .f32 :=
  Host.exp (subf ((V0 (Proc.devRef .tc main_arg5) : FVec Ideal S1x8x8192 .f32)) (s66 V0))
def s70 (V0 : Valuation τ sig (Elt Ideal)) : FVec Ideal S1x8x8192 .f32 :=
  Host.exp (subf ((V0 (Proc.devRef .tc main_arg7) : FVec Ideal S1x8x8192 .f32)) (s66 V0))
def s72 (V0 : Valuation τ sig (Elt Ideal)) : FVec Ideal S1x8x8192 .f32 :=
  Host.exp (subf (s64 V0) (s66 V0))
def s74 (V0 : Valuation τ sig (Elt Ideal)) : FVec Ideal S1x8x8192 .f32 :=
  addf (addf (s68 V0) (s70 V0)) (s72 V0)
def s85 (V0 : Valuation τ sig (Elt Ideal)) : FVec Ideal S1x8x8192x64 .f32 :=
  addf (addf (mulf (broadcastInDim S1x8x8192x64 ![0, 1, 2] bcast_S1x8x8192_S1x8x8192x64_0_1_2 (Host.divf (s68 V0) (s74 V0))) ((V0 (Proc.devRef .tc main_arg4) : FVec Ideal S1x8x8192x64 .f32))) (mulf (broadcastInDim S1x8x8192x64 ![0, 1, 2] bcast_S1x8x8192_S1x8x8192x64_0_1_2 (Host.divf (s70 V0) (s74 V0))) ((V0 (Proc.devRef .tc main_arg6) : FVec Ideal S1x8x8192x64 .f32)))) (mulf (broadcastInDim S1x8x8192x64 ![0, 1, 2] bcast_S1x8x8192_S1x8x8192x64_0_1_2 (Host.divf (s72 V0) (s74 V0))) (s61 V0))
def s87 (V0 : Valuation τ sig (Elt Ideal)) : FVec Ideal S1x8x8192 .f32 :=
  addf (s66 V0) (Host.log (s74 V0))
def s91 (V0 : Valuation τ sig (Elt Ideal)) : FVec Ideal S1x8x8192 .f32 :=
  Host.reduceAdd (mulf (transpose S1x8x8192x64 [0, 2, 1, 3] (shapeCast S1x8192x8x64 ((V0 (Proc.devRef .tc main_arg3) : FVec Ideal S8192x512 .f32)) shapeCasts_S8192x512_S1x8192x8x64) transposes_S1x8192x8x64_S1x8x8192x64_0_2_1_3) (s85 V0)) (constant S_ .f32 0x00000000#32) reducesTo_S1x8x8192x64_S1x8x8192_d3 h_S_
def s93 (V0 : Valuation τ sig (Elt Ideal)) : FVec Ideal S512x8192 .bf16 :=
  shapeCast S512x8192 (truncf .bf16 ((V0 (Proc.devRef .tc main_arg1) : FVec Ideal S8192x512 .f32)) bitsLt_bf16_f32) shapeCasts_S8192x512_S512x8192
def s95 (V0 : Valuation τ sig (Elt Ideal)) : FVec Ideal S512x8192 .bf16 :=
  shapeCast S512x8192 (truncf .bf16 ((V0 (Proc.devRef .tc main_arg2) : FVec Ideal S8192x512 .f32)) bitsLt_bf16_f32) shapeCasts_S8192x512_S512x8192
def s97 (V0 : Valuation τ sig (Elt Ideal)) : FVec Ideal S512x8192 .bf16 :=
  shapeCast S512x8192 (truncf .bf16 ((V0 (Proc.devRef .tc main_arg3) : FVec Ideal S8192x512 .f32)) bitsLt_bf16_f32) shapeCasts_S8192x512_S512x8192
def s100 (V0 : Valuation τ sig (Elt Ideal)) : FVec Ideal S512x2048 .f32 :=
  shapeCast S512x2048 (broadcastInDim S8192x8x16 ![0, 1, 2] bcast_S8192x8x1_S8192x8x16_0_1_2 (transpose S8192x8x1 [2, 1, 0] (s87 V0) transposes_S1x8x8192_S8192x8x1_2_1_0)) shapeCasts_S8192x8x16_S512x2048
def s103 (V0 : Valuation τ sig (Elt Ideal)) : FVec Ideal S512x2048 .f32 :=
  shapeCast S512x2048 (broadcastInDim S8192x8x16 ![0, 1, 2] bcast_S8192x8x1_S8192x8x16_0_1_2 (transpose S8192x8x1 [2, 1, 0] (s91 V0) transposes_S1x8x8192_S8192x8x1_2_1_0)) shapeCasts_S8192x8x16_S512x2048

variable (V0 : Valuation τ sig (Elt Ideal))

theorem s3_after : after lines V0 (Proc.devRef .tc main_v3) = s3 V0 := by
  after_reads_simp []
  rfl
theorem s10_upto18 : upto lines V0 18 (no_index (Proc.devRef .tc main_v10)) = s10 V0 := by
  after_reads_simp []
  rfl
theorem s10_upto57 : upto lines V0 57 (no_index (Proc.devRef .tc main_v10)) = s10 V0 := by
  after_reads_simp []
  rfl
theorem s13_upto24 : upto lines V0 24 (no_index (Proc.devRef .tc main_v13)) = s13 V0 := by
  after_reads_simp []
  rfl
theorem s16_upto19 : upto lines V0 19 (no_index (Proc.devRef .tc main_v16)) = s16 V0 := by
  after_reads_simp [s10_upto18]
  rfl
theorem s16_upto21 : upto lines V0 21 (no_index (Proc.devRef .tc main_v16)) = s16 V0 := by
  after_reads_simp [s10_upto18]
  rfl
theorem s21_upto24 : upto lines V0 24 (no_index (Proc.devRef .tc main_v21)) = s21 V0 := by
  after_reads_simp [s16_upto19, s16_upto21]
  rfl
theorem s24_upto45 : upto lines V0 45 (no_index (Proc.devRef .tc main_v24)) = s24 V0 := by
  after_reads_simp [s13_upto24, s21_upto24]
  rfl
theorem s36_upto43 : upto lines V0 43 (no_index (Proc.devRef .tc main_v36)) = s36 V0 := by
  after_reads_simp []
  rfl
theorem s37_upto47 : upto lines V0 47 (no_index (Proc.devRef .tc main_v37)) = s37 V0 := by
  after_reads_simp [s36_upto43, s24_upto45]
  rfl
theorem s37_upto50 : upto lines V0 50 (no_index (Proc.devRef .tc main_v37)) = s37 V0 := by
  after_reads_simp [s36_upto43, s24_upto45]
  rfl
theorem s38_upto48 : upto lines V0 48 (no_index (Proc.devRef .tc main_v38)) = s38 V0 := by
  after_reads_simp [s37_upto47]
  rfl
theorem s39_upto49 : upto lines V0 49 (no_index (Proc.devRef .tc main_v39)) = s39 V0 := by
  after_reads_simp [s38_upto48]
  rfl
theorem s39_upto67 : upto lines V0 67 (no_index (Proc.devRef .tc main_v39)) = s39 V0 := by
  after_reads_simp [s38_upto48]
  rfl
theorem s42_upto53 : upto lines V0 53 (no_index (Proc.devRef .tc main_v42)) = s42 V0 := by
  after_reads_simp [s37_upto50, s39_upto49]
  rfl
theorem s42_upto63 : upto lines V0 63 (no_index (Proc.devRef .tc main_v42)) = s42 V0 := by
  after_reads_simp [s37_upto50, s39_upto49]
  rfl
theorem s44_upto64 : upto lines V0 64 (no_index (Proc.devRef .tc main_v44)) = s44 V0 := by
  after_reads_simp [s42_upto53]
  rfl
theorem s44_upto66 : upto lines V0 66 (no_index (Proc.devRef .tc main_v44)) = s44 V0 := by
  after_reads_simp [s42_upto53]
  rfl
theorem s47_upto58 : upto lines V0 58 (no_index (Proc.devRef .tc main_v47)) = s47 V0 := by
  after_reads_simp [s10_upto57]
  rfl
theorem s47_upto60 : upto lines V0 60 (no_index (Proc.devRef .tc main_v47)) = s47 V0 := by
  after_reads_simp [s10_upto57]
  rfl
theorem s52_upto63 : upto lines V0 63 (no_index (Proc.devRef .tc main_v52)) = s52 V0 := by
  after_reads_simp [s47_upto58, s47_upto60]
  rfl
theorem s61_upto94 : upto lines V0 94 (no_index (Proc.devRef .tc main_v61)) = s61 V0 := by
  after_reads_simp [s42_upto63, s52_upto63, s44_upto64]
  rfl
theorem s64_upto76 : upto lines V0 76 (no_index (Proc.devRef .tc main_v64)) = s64 V0 := by
  after_reads_simp [s39_upto67, s44_upto66]
  rfl
theorem s64_upto81 : upto lines V0 81 (no_index (Proc.devRef .tc main_v64)) = s64 V0 := by
  after_reads_simp [s39_upto67, s44_upto66]
  rfl
theorem s66_upto77 : upto lines V0 77 (no_index (Proc.devRef .tc main_v66)) = s66 V0 := by
  after_reads_simp [s64_upto76]
  rfl
theorem s66_upto79 : upto lines V0 79 (no_index (Proc.devRef .tc main_v66)) = s66 V0 := by
  after_reads_simp [s64_upto76]
  rfl
theorem s66_upto81 : upto lines V0 81 (no_index (Proc.devRef .tc main_v66)) = s66 V0 := by
  after_reads_simp [s64_upto76]
  rfl
theorem s66_upto97 : upto lines V0 97 (no_index (Proc.devRef .tc main_v66)) = s66 V0 := by
  after_reads_simp [s64_upto76]
  rfl
theorem s68_upto83 : upto lines V0 83 (no_index (Proc.devRef .tc main_v68)) = s68 V0 := by
  after_reads_simp [s66_upto77]
  rfl
theorem s68_upto85 : upto lines V0 85 (no_index (Proc.devRef .tc main_v68)) = s68 V0 := by
  after_reads_simp [s66_upto77]
  rfl
theorem s70_upto83 : upto lines V0 83 (no_index (Proc.devRef .tc main_v70)) = s70 V0 := by
  after_reads_simp [s66_upto79]
  rfl
theorem s70_upto87 : upto lines V0 87 (no_index (Proc.devRef .tc main_v70)) = s70 V0 := by
  after_reads_simp [s66_upto79]
  rfl
theorem s72_upto84 : upto lines V0 84 (no_index (Proc.devRef .tc main_v72)) = s72 V0 := by
  after_reads_simp [s64_upto81, s66_upto81]
  rfl
theorem s72_upto89 : upto lines V0 89 (no_index (Proc.devRef .tc main_v72)) = s72 V0 := by
  after_reads_simp [s64_upto81, s66_upto81]
  rfl
theorem s74_upto85 : upto lines V0 85 (no_index (Proc.devRef .tc main_v74)) = s74 V0 := by
  after_reads_simp [s68_upto83, s70_upto83, s72_upto84]
  rfl
theorem s74_upto87 : upto lines V0 87 (no_index (Proc.devRef .tc main_v74)) = s74 V0 := by
  after_reads_simp [s68_upto83, s70_upto83, s72_upto84]
  rfl
theorem s74_upto89 : upto lines V0 89 (no_index (Proc.devRef .tc main_v74)) = s74 V0 := by
  after_reads_simp [s68_upto83, s70_upto83, s72_upto84]
  rfl
theorem s74_upto96 : upto lines V0 96 (no_index (Proc.devRef .tc main_v74)) = s74 V0 := by
  after_reads_simp [s68_upto83, s70_upto83, s72_upto84]
  rfl
theorem s85_upto100 : upto lines V0 100 (no_index (Proc.devRef .tc main_v85)) = s85 V0 := by
  after_reads_simp [s68_upto85, s74_upto85, s70_upto87, s74_upto87, s72_upto89, s74_upto89, s61_upto94]
  rfl
theorem s87_upto109 : upto lines V0 109 (no_index (Proc.devRef .tc main_v87)) = s87 V0 := by
  after_reads_simp [s66_upto97, s74_upto96]
  rfl
theorem s91_upto112 : upto lines V0 112 (no_index (Proc.devRef .tc main_v91)) = s91 V0 := by
  after_reads_simp [s85_upto100]
  rfl
theorem s93_after : after lines V0 (Proc.devRef .tc main_v93) = s93 V0 := by
  after_reads_simp []
  rfl
theorem s95_after : after lines V0 (Proc.devRef .tc main_v95) = s95 V0 := by
  after_reads_simp []
  rfl
theorem s97_after : after lines V0 (Proc.devRef .tc main_v97) = s97 V0 := by
  after_reads_simp []
  rfl
theorem s100_after : after lines V0 (Proc.devRef .tc main_v100) = s100 V0 := by
  after_reads_simp [s87_upto109]
  rfl
theorem s103_after : after lines V0 (Proc.devRef .tc main_v103) = s103 V0 := by
  after_reads_simp [s91_upto112]
  rfl

end Cert.MixAttn.Ker
end
-- ==== Proof.Reduce6.lean ====
/-
  Reductions of the reference's blocked arrays read at an index (untrusted): along the last of six axes, and along unit
  axes, where the sum has one term.
-/
module

public import Idealize.ShloMosaic.Lib.Pointwise

@[expose] public section

namespace Cert.MixAttn

open Idealize.ShloMosaic

section last6
variable {n0 n1 n2 n3 n4 n5 : Nat}
  (h : (⟨6, ![n0, n1, n2, n3, n4, n5]⟩ : Shape).ReducesTo [5] ⟨5, ![n0, n1, n2, n3, n4]⟩)
  (a : Fin n0) (b : Fin n1) (c : Fin n2) (d : Fin n3) (e : Fin n4)

theorem fibre_last6 (i : (⟨6, ![n0, n1, n2, n3, n4, n5]⟩ : Shape).Idx) :
    h.drop i = ix5 a b c d e ↔ ∃ k : Fin n5, ix6 a b c d e k = i := by
  constructor
  · intro q
    refine ⟨i 5, ?_⟩
    funext x
    apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem fold_last6 {α : Type} (op : α → α → α) [Std.Commutative op] [Std.Associative op] (z : α)
    (v : (⟨6, ![n0, n1, n2, n3, n4, n5]⟩ : Shape).Idx → α) :
    (Finset.univ.filter (fun i => h.drop i = ix5 a b c d e)).fold op z v
      = (Finset.univ : Finset (Fin n5)).fold op z fun k => v (ix6 a b c d e k) :=
  Finset.fold_filter_eq_fold_of_fiber op _ (fun k : Fin n5 => ix6 a b c d e k) (fun _ _ q => congrFun q 5)
    (fibre_last6 h a b c d e) z v

theorem sum_last6 (v : (⟨6, ![n0, n1, n2, n3, n4, n5]⟩ : Shape).Idx → EReal) (z : EReal) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ q => congrFun q 5)
    (fibre_last6 h a b c d e) v)

end last6

theorem sum_ends6 {n1 n2 n3 n4 : Nat}
    (h : (⟨6, ![1, n1, n2, n3, n4, 1]⟩ : Shape).ReducesTo [0, 5] ⟨4, ![n1, n2, n3, n4]⟩)
    (b : Fin n1) (c : Fin n2) (d : Fin n3) (e : Fin n4)
    (v : (⟨6, ![1, n1, n2, n3, n4, 1]⟩ : Shape).Idx → EReal) (z : EReal) :
    Ideal.hostReduceAdd h v z (ix4 b c d e) = z + v (ix6 0 b c d e 0) := by
  refine congrArg (z + ·) ((Finset.sum_filter_eq_sum_of_fiber _ (fun _ : Unit => ix6 0 b c d e 0)
    (fun _ _ _ => rfl) (fun i => ?_) v).trans (by simp))
  constructor
  · intro q
    refine ⟨(), ?_⟩
    funext x
    apply Fin.ext
    match x with
    | ⟨0, h0⟩ => exact (Nat.lt_one_iff.1 (i ⟨0, h0⟩).isLt).symm
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, h5⟩ => exact (Nat.lt_one_iff.1 (i ⟨5, h5⟩).isLt).symm
  · rintro ⟨_, rfl⟩
    funext x
    apply Fin.ext
    match x with
    | ⟨0, _⟩ => rfl
    | ⟨1, _⟩ => rfl
    | ⟨2, _⟩ => rfl
    | ⟨3, _⟩ => rfl

theorem sum_units5 {n0 n2 n3 : Nat}
    (h : (⟨5, ![n0, 1, n2, n3, 1]⟩ : Shape).ReducesTo [1, 4] ⟨3, ![n0, n2, n3]⟩)
    (a : Fin n0) (c : Fin n2) (d : Fin n3)
    (v : (⟨5, ![n0, 1, n2, n3, 1]⟩ : Shape).Idx → EReal) (z : EReal) :
    Ideal.hostReduceAdd h v z (ix3 a c d) = z + v (ix5 a 0 c d 0) := by
  refine congrArg (z + ·) ((Finset.sum_filter_eq_sum_of_fiber _ (fun _ : Unit => ix5 a 0 c d 0)
    (fun _ _ _ => rfl) (fun i => ?_) v).trans (by simp))
  constructor
  · intro q
    refine ⟨(), ?_⟩
    funext x
    apply Fin.ext
    match x with
    | ⟨0, _⟩ => exact (congrArg Fin.val (congrFun q 0)).symm
    | ⟨1, h1⟩ => exact (Nat.lt_one_iff.1 (i ⟨1, h1⟩).isLt).symm
    | ⟨2, _⟩ => exact (congrArg Fin.val (congrFun q 1)).symm
    | ⟨3, _⟩ => exact (congrArg Fin.val (congrFun q 2)).symm
    | ⟨4, h4⟩ => exact (Nat.lt_one_iff.1 (i ⟨4, h4⟩).isLt).symm
  · rintro ⟨_, rfl⟩
    funext x
    apply Fin.ext
    match x with
    | ⟨0, _⟩ => rfl
    | ⟨1, _⟩ => rfl
    | ⟨2, _⟩ => rfl

theorem sum_units4 {n2 n3 : Nat}
    (h : (⟨4, ![1, 1, n2, n3]⟩ : Shape).ReducesTo [0, 1] ⟨2, ![n2, n3]⟩)
    (c : Fin n2) (d : Fin n3)
    (v : (⟨4, ![1, 1, n2, n3]⟩ : Shape).Idx → EReal) (z : EReal) :
    Ideal.hostReduceAdd h v z (ix2 c d) = z + v (ix4 0 0 c d) := by
  refine congrArg (z + ·) ((Finset.sum_filter_eq_sum_of_fiber _ (fun _ : Unit => ix4 0 0 c d)
    (fun _ _ _ => rfl) (fun i => ?_) v).trans (by simp))
  constructor
  · intro q
    refine ⟨(), ?_⟩
    funext x
    apply Fin.ext
    match x with
    | ⟨0, h0⟩ => exact (Nat.lt_one_iff.1 (i ⟨0, h0⟩).isLt).symm
    | ⟨1, h1⟩ => exact (Nat.lt_one_iff.1 (i ⟨1, h1⟩).isLt).symm
    | ⟨2, _⟩ => exact (congrArg Fin.val (congrFun q 0)).symm
    | ⟨3, _⟩ => exact (congrArg Fin.val (congrFun q 1)).symm
  · rintro ⟨_, rfl⟩
    funext x
    apply Fin.ext
    match x with
    | ⟨0, _⟩ => rfl
    | ⟨1, _⟩ => rfl

end Cert.MixAttn

end
-- ==== Proof.KerFwd.lean ====
/-
  The arrays the kernel's launch reads, at an index (untrusted): the stages of the program's own lines, each the real
  number `Rows` and `RowMath` name, when the arguments are real.
-/
module

public import proofs.«01_k».proof.Proof.KerHost
public import proofs.«01_k».proof.Proof.Mask
public import proofs.«01_k».proof.Proof.Reduce6
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn.Ker

open Idealize.ShloMosaic Idealize.ShloMosaic.TcCoe Idealize.SL.Sem Idealize.ShloMosaic.StableHlo
open Cert.KernelIdeal Cert.KernelIdeal.Gen

/-- The mask in the words of the kernel's own lines. -/
theorem mask_word' (n : Fin 4) (a : Fin 128) (j : Fin 256) : IntOp.andi
      (IntOp.andi
        (IntOp.cmpi CmpIPredicate.sle (BitVec.ofNat 32 ↑a) (BitVec.ofNat 32 ↑j))
        (IntOp.cmpi CmpIPredicate.sle (IntOp.subi (BitVec.ofNat 32 ↑j) (BitVec.ofNat 32 ↑a)) 128#32))
      (IntOp.cmpi CmpIPredicate.sge (IntOp.addi (IntOp.muli (BitVec.ofNat 32 ↑n) 128#32) (BitVec.ofNat 32 ↑j)) 128#32) =
    BitVec.ofBool (decide (sees n a j)) := by
  have e1 : (IntOp.subi (BitVec.ofNat 32 ↑j) (BitVec.ofNat 32 ↑a)).toInt = (j.val : Int) - a.val := by
    rw [IntOp.subi, BitVec.toInt_sub, toInt_small j.val (by omega), toInt_small a.val (by omega), Int.bmod_eq_of_le (by omega) (by omega)]
  have e2 : (IntOp.addi (IntOp.muli (BitVec.ofNat 32 ↑n) 128#32) (BitVec.ofNat 32 ↑j)).toInt = (n.val : Int) * 128 + j.val := by
    rw [IntOp.addi, IntOp.muli, BitVec.toInt_add, BitVec.toInt_mul, toInt_small n.val (by omega),
      toInt_small j.val (by omega), show (128#32).toInt = 128 from rfl, Int.bmod_eq_of_le (n := (n.val : Int) * _) (by omega) (by omega),
      Int.bmod_eq_of_le (by omega) (by omega)]
  rw [WordCmp.cmpi_sle_eq, WordCmp.cmpi_sle_eq, WordCmp.cmpi_sge_eq, WordArith.andi_ofBool, WordArith.andi_ofBool, e1, e2,
    toInt_small j.val (by omega), toInt_small a.val (by omega),
    ← Bool.decide_and, ← Bool.decide_and, show (128#32).toInt = 128 from rfl]
  exact congrArg BitVec.ofBool (decide_eq_decide.2 (by unfold sees; omega))

/-- The kernel's arguments are the real arrays `X`. -/
structure Holds (X : Args) (V0 : Valuation τ sig (Elt Ideal)) : Prop where
  q : ∀ s c, (V0 (Proc.devRef .tc main_arg0) : FVec Ideal S8192x512 .f32) (ix2 s c) = ((X.q s c : ℝ) : EReal)
  k : ∀ s c, (V0 (Proc.devRef .tc main_arg1) : FVec Ideal S8192x512 .f32) (ix2 s c) = ((X.k s c : ℝ) : EReal)
  v : ∀ s c, (V0 (Proc.devRef .tc main_arg2) : FVec Ideal S8192x512 .f32) (ix2 s c) = ((X.v s c : ℝ) : EReal)
  g : ∀ s c, (V0 (Proc.devRef .tc main_arg3) : FVec Ideal S8192x512 .f32) (ix2 s c) = ((X.g s c : ℝ) : EReal)
  o1 : ∀ h s d, (V0 (Proc.devRef .tc main_arg4) : FVec Ideal S1x8x8192x64 .f32) (ix4 0 h s d) = ((X.o1 h s d : ℝ) : EReal)
  l1 : ∀ h s, (V0 (Proc.devRef .tc main_arg5) : FVec Ideal S1x8x8192 .f32) (ix3 0 h s) = ((X.l1 h s : ℝ) : EReal)
  o4 : ∀ h s d, (V0 (Proc.devRef .tc main_arg6) : FVec Ideal S1x8x8192x64 .f32) (ix4 0 h s d) = ((X.o4 h s d : ℝ) : EReal)
  l4 : ∀ h s, (V0 (Proc.devRef .tc main_arg7) : FVec Ideal S1x8x8192 .f32) (ix3 0 h s) = ((X.l4 h s : ℝ) : EReal)

variable {X : Args} {V0 : Valuation τ sig (Elt Ideal)} (H : Holds X V0)
variable (h : Fin 8) (r : Fin 16) (n : Fin 4) (a : Fin 128) (j : Fin 256) (d : Fin 64)

include H in
theorem s13_at : s13 V0 (ix6 0 h r n a d) = ((X.q (tok r n a) (col h d) : ℝ) : EReal) := by
  rw [← H.q]
  unfold s13 tok col
  clean_types
  pointwise

include H in
theorem s21_at : s21 V0 (ix6 0 h r n j d) = ((key X.k h r n j d : ℝ) : EReal) := by
  have e := H.k
  unfold s21 s16 s10 fn_main_v21 fn_main_v16 key col
  clean_types
  pointwise
  split_ifs
  all_goals try (exfalso; omega)
  all_goals first | rfl | (rw [e]; done) | (rw [e]; congr 3; simp only [Fin.mk.injEq]; omega) | (rw [dif_neg (show ¬ n.val * 128 + j.val < 128 by omega), e]; congr 3; omega)

include H in
theorem s52_at : s52 V0 (ix6 0 h r n j d) = ((key X.v h r n j d : ℝ) : EReal) := by
  have e := H.v
  unfold s52 s47 s10 fn_main_v52 fn_main_v47 key col
  clean_types
  pointwise
  split_ifs
  all_goals try (exfalso; omega)
  all_goals first | rfl | (rw [e]; done) | (rw [e]; congr 3; simp only [Fin.mk.injEq]; omega) | (rw [dif_neg (show ¬ n.val * 128 + j.val < 128 by omega), e]; congr 3; omega)

theorem s36_at : s36 V0 (ix3 n a j) = BitVec.ofBool (decide (sees n a j)) := by
  unfold s36
  clean_types
  pointwise
  exact mask_word' n a j

include H in
theorem s37_at : s37 V0 (ix6 0 h r n a j) = if sees n a j then (((row X h r n a).sc j : ℝ) : EReal) else ⊥ := by
  have e1 := fun d => s13_at H h r n a d
  have e2 := fun d => s21_at H h r n j d
  have e3 := s36_at (V0 := V0) n a j
  unfold s37 s24
  clean_types
  pointwise [id]
  simp only [e1, e2, e3, minus_infinity, eighth, ← EReal.coe_mul, ← coe_sum, Scalar.select_ofBool, decide_eq_true_eq]
  rfl

/-- The row's greatest score, as a real number. -/
def kMax (V0 : Valuation τ sig (Elt Ideal)) (h : Fin 8) (r : Fin 16) (n : Fin 4) (a : Fin 128) : ℝ :=
  (s38 V0 (ix5 0 h r n a)).toReal

include H in
theorem s38_at : s38 V0 (ix5 0 h r n a) = ((kMax V0 h r n a : ℝ) : EReal) := by
  have e1 := fun j => s37_at H h r n a j
  unfold kMax
  have e : s38 V0 (ix5 0 h r n a)
      = (Finset.univ : Finset (Fin 256)).fold max ⊥ fun j => if sees n a j then (((row X h r n a).sc j : ℝ) : EReal) else ⊥ := by
    unfold s38
    clean_types
    pointwise [minus_infinity, fold_last6]
    simp only [e1]
  rw [e]
  symm
  apply fold_max_real
  · intro j _; split
    · exact EReal.coe_ne_top _
    · exact bot_ne_top
  · obtain ⟨j, hj⟩ := row_ok X h r n a
    exact ⟨j, Finset.mem_univ _, by rw [if_pos (show sees n a j from hj)]; exact EReal.coe_ne_bot _⟩

include H in
theorem s39_at : s39 V0 (ix6 0 h r n a 0) = ((kMax V0 h r n a : ℝ) : EReal) := by
  have e1 := s38_at H h r n a
  unfold s39
  clean_types
  pointwise
  exact e1

include H in
theorem s42_at : s42 V0 (ix6 0 h r n a j) = (((row X h r n a).p (kMax V0 h r n a) j : ℝ) : EReal) := by
  have e1 := s37_at H h r n a j
  have e2 := s39_at H h r n a
  unfold s42
  clean_types
  pointwise
  rw [e1, e2, Row.p]
  by_cases hs : sees n a j
  · rw [if_pos hs, if_pos (show (row X h r n a).ok j from hs), ← EReal.coe_sub, Ideal.exp_coe]
  · rw [if_neg hs, if_neg (show ¬ (row X h r n a).ok j from hs), EReal.bot_sub, Ideal.exp_bot, EReal.coe_zero]

include H in
theorem s44_at : s44 V0 (ix6 0 h r n a 0) = (((row X h r n a).den (kMax V0 h r n a) : ℝ) : EReal) := by
  have e1 := fun j => s42_at H h r n a j
  unfold s44
  clean_types
  pointwise [sum_last6]
  simp only [e1, ← coe_sum]
  rfl

/-- A token's place among the residues, for a number and for a channel. -/
theorem residues_at (x : FVec Ideal S1x8x16x512 .f32) :
    (shapeCast S1x8x8192 (transpose S1x8x512x16 [0, 1, 3, 2] x transposes_S1x8x16x512_S1x8x512x16_0_1_3_2) shapeCasts_S1x8x512x16_S1x8x8192 : FVec Ideal S1x8x8192 .f32)
      (ix3 0 h (tok r n a)) = x (ix4 0 h r ⟨n.val * 128 + a.val, by omega⟩) := by
  unfold tok
  pointwise
  congr 2
  refine Fin.ext ?_
  show ((n.val * 128 + a.val) * 16 + r.val) / 16 = n.val * 128 + a.val
  omega

theorem blocks_at (x : FVec Ideal S1x8x16x4x128x1 .f32) :
    (shapeCast S1x8x16x512 (shapeCast S1x8x16x4x128 x shapeCasts_S1x8x16x4x128x1_S1x8x16x4x128) shapeCasts_S1x8x16x4x128_S1x8x16x512 : FVec Ideal S1x8x16x512 .f32)
      (ix4 0 h r ⟨n.val * 128 + a.val, by omega⟩) = x (ix6 0 h r n a 0) := by
  pointwise

theorem add_log_at {s : Shape} (x y : FVec Ideal s .f32) (i : s.Idx) :
    addf x (Host.log y) i = ((x i : EReal) + Ideal.log (y i) : EReal) := rfl
theorem exp_sub_at {s : Shape} (x y : FVec Ideal s .f32) (i : s.Idx) :
    Host.exp (subf x y) i = Ideal.exp ((x i : EReal) - y i : EReal) := rfl
theorem add_at {s : Shape} (x y : FVec Ideal s .f32) (i : s.Idx) : addf x y i = (x i + y i : EReal) := rfl
theorem max_at {s : Shape} (x y : FVec Ideal s .f32) (i : s.Idx) : maximumf x y i = (max (x i) (y i) : EReal) := rfl

include H in
theorem s64_at : s64 V0 (ix3 0 h (tok r n a)) = (((row X h r n a).lse (kMax V0 h r n a) : ℝ) : EReal) := by
  have e1 := s39_at H h r n a
  have e2 := s44_at H h r n a
  unfold s64
  rw [residues_at, blocks_at, add_log_at]
  rw [e1, e2, log_real _ ((row X h r n a).den_pos (row_ok X h r n a) _), ← EReal.coe_add]
  rfl

include H in
theorem s61_at : s61 V0 (ix4 0 h (tok r n a) d) = (((row X h r n a).out (kMax V0 h r n a) d : ℝ) : EReal) := by
  have e1 := fun j => s42_at H h r n a j
  have e2 := fun j => s52_at H h r n j d
  have e3 := s44_at H h r n a
  unfold s61 tok
  clean_types
  pointwise
  simp only [e1, e2, e3, ← EReal.coe_mul, ← coe_sum]
  rw [div_real _ _ ((row X h r n a).den_pos (row_ok X h r n a) _).ne']
  rfl

/-- The greatest of a query's three log-sums. -/
def kLse (X : Args) (V0 : Valuation τ sig (Elt Ideal)) (h : Fin 8) (r : Fin 16) (n : Fin 4) (a : Fin 128) : ℝ :=
  max (max (row X h r n a).l1 (row X h r n a).l4) ((row X h r n a).lse (kMax V0 h r n a))

include H in
theorem s66_at : s66 V0 (ix3 0 h (tok r n a)) = ((kLse X V0 h r n a : ℝ) : EReal) := by
  unfold s66
  rw [max_at, max_at, s64_at H, H.l1, H.l4, max_real, max_real]
  rfl

include H in
theorem s68_at : s68 V0 (ix3 0 h (tok r n a)) = (((row X h r n a).e1 (kLse X V0 h r n a) : ℝ) : EReal) := by
  unfold s68
  rw [exp_sub_at, s66_at H, H.l1, ← EReal.coe_sub, Ideal.exp_coe]
  rfl
include H in
theorem s70_at : s70 V0 (ix3 0 h (tok r n a)) = (((row X h r n a).e4 (kLse X V0 h r n a) : ℝ) : EReal) := by
  unfold s70
  rw [exp_sub_at, s66_at H, H.l4, ← EReal.coe_sub, Ideal.exp_coe]
  rfl
include H in
theorem s72_at : s72 V0 (ix3 0 h (tok r n a)) = (((row X h r n a).e16 (kMax V0 h r n a) (kLse X V0 h r n a) : ℝ) : EReal) := by
  unfold s72
  rw [exp_sub_at, s66_at H, s64_at H, ← EReal.coe_sub, Ideal.exp_coe]
  rfl
include H in
theorem s74_at : s74 V0 (ix3 0 h (tok r n a)) = (((row X h r n a).esum (kMax V0 h r n a) (kLse X V0 h r n a) : ℝ) : EReal) := by
  unfold s74
  rw [add_at, add_at, s68_at H, s70_at H, s72_at H, ← EReal.coe_add, ← EReal.coe_add]
  rfl

include H in
theorem s87_at : s87 V0 (ix3 0 h (tok r n a)) = ((Real.log (row X h r n a).tot : ℝ) : EReal) := by
  unfold s87
  rw [add_log_at, s66_at H, s74_at H, log_real _ ((row X h r n a).esum_pos (row_ok X h r n a) _ _), ← EReal.coe_add,
    (row X h r n a).lse_all (row_ok X h r n a)]

include H in
theorem s85_at : s85 V0 (ix4 0 h (tok r n a) d) = (((row X h r n a).attn d : ℝ) : EReal) := by
  have e1 := s68_at H h r n a
  have e2 := s70_at H h r n a
  have e3 := s72_at H h r n a
  have e4 := s74_at H h r n a
  have e5 := s61_at H h r n a d
  have f1 := H.o1 h (tok r n a) d
  have f2 := H.o4 h (tok r n a) d
  have hz := ((row X h r n a).esum_pos (row_ok X h r n a) (kMax V0 h r n a) (kLse X V0 h r n a)).ne'
  rw [← (row X h r n a).mix_eq (row_ok X h r n a) (kMax V0 h r n a) (kLse X V0 h r n a) d]
  unfold s85
  clean_types
  pointwise
  rw [e1, e2, e3, e4, e5, f1, f2, div_real _ _ hz, div_real _ _ hz, div_real _ _ hz]
  simp only [← EReal.coe_mul, ← EReal.coe_add]
  rfl

include H in
theorem s91_at : s91 V0 (ix3 0 h (tok r n a)) = (((row X h r n a).delta : ℝ) : EReal) := by
  have e1 := fun d => s85_at H h r n a d
  have f1 := H.g
  have hg : ∀ d : Fin 64, (transpose S1x8x8192x64 [0, 2, 1, 3] (shapeCast S1x8192x8x64 (V0 (Proc.devRef .tc main_arg3) : FVec Ideal S8192x512 .f32) shapeCasts_S8192x512_S1x8192x8x64) transposes_S1x8192x8x64_S1x8x8192x64_0_2_1_3 : FVec Ideal S1x8x8192x64 .f32) (ix4 0 h (tok r n a) d)
      = (((row X h r n a).g d : ℝ) : EReal) := by
    intro d
    rw [show (((row X h r n a).g d : ℝ) : EReal) = (V0 (Proc.devRef .tc main_arg3) : FVec Ideal S8192x512 .f32) (ix2 (tok r n a) (col h d)) from (f1 _ _).symm]
    unfold tok col
    pointwise
  unfold s91
  generalize (transpose S1x8x8192x64 [0, 2, 1, 3] (shapeCast S1x8192x8x64 (V0 (Proc.devRef .tc main_arg3) : FVec Ideal S8192x512 .f32) shapeCasts_S8192x512_S1x8192x8x64) transposes_S1x8192x8x64_S1x8x8192x64_0_2_1_3 : FVec Ideal S1x8x8192x64 .f32) = G at hg ⊢
  pointwise
  simp only [e1, hg, ← EReal.coe_mul, ← coe_sum]
  rfl

/-! The arrays as the launch sees them: one row of residues a position. -/

/-- Position `a` of block `n`. -/
def place (n : Fin 4) (a : Fin 128) : Fin 512 := ⟨n.val * 128 + a.val, by omega⟩
/-- Channel `d` of head `h` of residue `r`. -/
def chan (r : Fin 16) (h : Fin 8) (d : Fin 64) : Fin 8192 := ⟨r.val * 512 + h.val * 64 + d.val, by omega⟩
/-- The lane that holds head `h`'s number of residue `r`. -/
def slot (r : Fin 16) (h : Fin 8) : Fin 2048 := ⟨r.val * 128 + h.val * 16, by omega⟩

include H in
theorem s3_at : s3 V0 (ix2 (place n a) (chan r h d)) = ((X.q (tok r n a) (col h d) * (1 / 8) : ℝ) : EReal) := by
  rw [EReal.coe_mul, ← eighth, ← H.q]
  unfold s3 place chan tok col
  pointwise
  exact congrArg (· * _) (congrArg _ (congrArg₂ ix2 (Fin.ext (by show (n.val * 128 + a.val) * 16 + (r.val * 512 + h.val * 64 + d.val) / 512 = (n.val * 128 + a.val) * 16 + r.val; omega)) (Fin.ext (by show (r.val * 512 + h.val * 64 + d.val) % 512 = h.val * 64 + d.val; omega))))

include H in
theorem s93_at : s93 V0 (ix2 (place n a) (chan r h d)) = ((X.k (tok r n a) (col h d) : ℝ) : EReal) := by
  rw [← H.k]
  unfold s93 place chan tok col
  pointwise
  exact congrArg _ (congrArg₂ ix2 (Fin.ext (by show (n.val * 128 + a.val) * 16 + (r.val * 512 + h.val * 64 + d.val) / 512 = (n.val * 128 + a.val) * 16 + r.val; omega)) (Fin.ext (by show (r.val * 512 + h.val * 64 + d.val) % 512 = h.val * 64 + d.val; omega)))
include H in
theorem s95_at : s95 V0 (ix2 (place n a) (chan r h d)) = ((X.v (tok r n a) (col h d) : ℝ) : EReal) := by
  rw [← H.v]
  unfold s95 place chan tok col
  pointwise
  exact congrArg _ (congrArg₂ ix2 (Fin.ext (by show (n.val * 128 + a.val) * 16 + (r.val * 512 + h.val * 64 + d.val) / 512 = (n.val * 128 + a.val) * 16 + r.val; omega)) (Fin.ext (by show (r.val * 512 + h.val * 64 + d.val) % 512 = h.val * 64 + d.val; omega)))
include H in
theorem s97_at : s97 V0 (ix2 (place n a) (chan r h d)) = ((X.g (tok r n a) (col h d) : ℝ) : EReal) := by
  rw [← H.g]
  unfold s97 place chan tok col
  pointwise
  exact congrArg _ (congrArg₂ ix2 (Fin.ext (by show (n.val * 128 + a.val) * 16 + (r.val * 512 + h.val * 64 + d.val) / 512 = (n.val * 128 + a.val) * 16 + r.val; omega)) (Fin.ext (by show (r.val * 512 + h.val * 64 + d.val) % 512 = h.val * 64 + d.val; omega)))
theorem spread_stat_at (x : FVec Ideal S1x8x8192 .f32) :
    (shapeCast S512x2048 (broadcastInDim S8192x8x16 ![0, 1, 2] bcast_S8192x8x1_S8192x8x16_0_1_2 (transpose S8192x8x1 [2, 1, 0] x transposes_S1x8x8192_S8192x8x1_2_1_0)) shapeCasts_S8192x8x16_S512x2048 : FVec Ideal S512x2048 .f32)
      (ix2 (place n a) (slot r h)) = x (ix3 0 h (tok r n a)) := by
  unfold place slot tok
  pointwise
  exact congrArg x (congrArg (ix3 0 h) (Fin.ext (by show (n.val * 128 + a.val) * 16 + (r.val * 128 + h.val * 16) / 128 = (n.val * 128 + a.val) * 16 + r.val; omega)))
include H in
theorem s100_at : s100 V0 (ix2 (place n a) (slot r h)) = ((Real.log (row X h r n a).tot : ℝ) : EReal) :=
  (spread_stat_at h r n a _).trans (s87_at H h r n a)
include H in
theorem s103_at : s103 V0 (ix2 (place n a) (slot r h)) = (((row X h r n a).delta : ℝ) : EReal) :=
  (spread_stat_at h r n a _).trans (s91_at H h r n a)

end Cert.MixAttn.Ker
end
-- ==== Proof.KerBlock.lean ====
/-
  One query block and two heads of the kernel's body at an index (untrusted): the stacked heads, the scores, and what
  the three results are as sums of real numbers.
-/
module

public import proofs.«01_k».proof.Proof.Mask
public import proofs.«01_k».proof.Proof.Gen.KernelIdeal.Skeleton
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn.Ker

open Idealize.ShloMosaic Idealize.ShloMosaic.TcCoe Idealize.SL.Sem Cert.MixAttn
open Cert.KernelIdeal Cert.KernelIdeal.Gen

/-- The lane of channel `d` of the pair's head `t`. -/
def lane (t : Fin 2) (d : Fin 64) : Fin 128 := ⟨64 * t.val + d.val, by omega⟩
/-- The row of query `a` of the pair's head `t` among the two stacked. -/
def st (t : Fin 2) (a : Fin 128) : Fin 256 := ⟨128 * t.val + a.val, by omega⟩
/-- Row `i` of two stacked heads holds lane `l`'s own head. -/
def own (i : Fin 256) (l : Fin 128) : Prop := l.val < 64 ↔ i.val < 128
instance (i : Fin 256) (l : Fin 128) : Decidable (own i l) := by unfold own; infer_instance
/-- The query a stacked row is. -/
def rowOf (i : Fin 256) : Fin 128 := ⟨i.val % 128, by omega⟩

theorem zero_half : Ideal.ofBits .bf16 0x0000#16 = ((0 : ℝ) : EReal) := by
  simp [Ideal.ofBits, Ideal.ieee]
theorem zero_single : Ideal.ofBits .f32 0x00000000#32 = ((0 : ℝ) : EReal) := by
  simp [Ideal.ofBits, Ideal.ieee]

theorem rowOf_st (t : Fin 2) (a : Fin 128) : rowOf (st t a) = a := Fin.ext (by show (128 * t.val + a.val) % 128 = a.val; omega)

theorem sum_lanes (t : Fin 2) (a : Fin 128) (x y : Fin 128 → ℝ) :
    ∑ l, (if own (st t a) l then x l else 0) * y l = ∑ d : Fin 64, x (lane t d) * y (lane t d) := by
  rw [show (∑ l : Fin 128, (if own (st t a) l then x l else 0) * y l) = ∑ l : Fin (64 + 64), (if own (st t a) l then x l else 0) * y l from rfl, Fin.sum_univ_add]
  obtain ⟨t, ht⟩ := t
  obtain rfl | rfl : t = 0 ∨ t = 1 := by omega
  · rw [Finset.sum_eq_zero (s := Finset.univ (α := Fin 64)) (f := fun d => (if own (st ⟨0, ht⟩ a) (Fin.natAdd 64 d) then x (Fin.natAdd 64 d) else 0) * y (Fin.natAdd 64 d)), add_zero]
    · refine Finset.sum_congr rfl fun d _ => ?_
      rw [if_pos (by unfold own st; simp only [Fin.val_castAdd]; omega)]
      rw [show (Fin.castAdd 64 d : Fin 128) = lane ⟨0, ht⟩ d from Fin.ext (by show d.val = 64 * 0 + d.val; omega)]
    · intro d _
      rw [if_neg (by unfold own st; simp only [Fin.val_natAdd]; omega), zero_mul]
  · rw [Finset.sum_eq_zero (s := Finset.univ (α := Fin 64)) (f := fun d => (if own (st ⟨1, ht⟩ a) (Fin.castAdd 64 d) then x (Fin.castAdd 64 d) else 0) * y (Fin.castAdd 64 d)), zero_add]
    · refine Finset.sum_congr rfl fun d _ => ?_
      rw [if_pos (by unfold own st; simp only [Fin.val_natAdd]; omega)]
      rfl
    · intro d _
      rw [if_neg (by unfold own st; simp only [Fin.val_castAdd]; omega), zero_mul]

theorem sum_stacked (t : Fin 2) (d : Fin 64) (x : Fin 256 → ℝ) (y : Fin 128 → ℝ) :
    ∑ i, x i * (if own i (lane t d) then y (rowOf i) else 0) = ∑ a : Fin 128, x (st t a) * y a := by
  rw [show (∑ i : Fin 256, x i * (if own i (lane t d) then y (rowOf i) else 0)) = ∑ i : Fin (128 + 128), x i * (if own i (lane t d) then y (rowOf i) else 0) from rfl, Fin.sum_univ_add]
  obtain ⟨t, ht⟩ := t
  obtain rfl | rfl : t = 0 ∨ t = 1 := by omega
  · rw [Finset.sum_eq_zero (s := Finset.univ (α := Fin 128)) (f := fun a => x (Fin.natAdd 128 a) * (if own (Fin.natAdd 128 a) (lane ⟨0, ht⟩ d) then y (rowOf (Fin.natAdd 128 a)) else 0)), add_zero]
    · refine Finset.sum_congr rfl fun a _ => ?_
      rw [if_pos (by unfold own lane; simp only [Fin.val_castAdd]; omega)]
      rw [show (Fin.castAdd 128 a : Fin 256) = st ⟨0, ht⟩ a from Fin.ext (by show a.val = 128 * 0 + a.val; omega), rowOf_st]
    · intro a _
      rw [if_neg (by unfold own lane; simp only [Fin.val_natAdd]; omega), mul_zero]
  · rw [Finset.sum_eq_zero (s := Finset.univ (α := Fin 128)) (f := fun a => x (Fin.castAdd 128 a) * (if own (Fin.castAdd 128 a) (lane ⟨1, ht⟩ d) then y (rowOf (Fin.castAdd 128 a)) else 0)), zero_add]
    · refine Finset.sum_congr rfl fun a _ => ?_
      rw [if_pos (by unfold own lane; simp only [Fin.val_natAdd]; omega)]
      rw [show (Fin.natAdd 128 a : Fin 256) = st ⟨1, ht⟩ a from Fin.ext rfl, rowOf_st]
    · intro a _
      rw [if_neg (by unfold own lane; simp only [Fin.val_castAdd]; omega), mul_zero]

/-- What a block of queries and two heads read, as real numbers: lanes hold two heads' channels side by side. -/
structure Blk where
  q : Fin 128 → Fin 128 → ℝ
  g : Fin 128 → Fin 128 → ℝ
  k : Fin 256 → Fin 128 → ℝ
  v : Fin 256 → Fin 128 → ℝ
  lse : Fin 2 → Fin 128 → ℝ
  del : Fin 2 → Fin 128 → ℝ
  ok : Fin 128 → Fin 256 → Prop
  dec : ∀ a j, Decidable (ok a j)

namespace Blk
variable (B : Blk)
instance (a : Fin 128) (j : Fin 256) : Decidable (B.ok a j) := B.dec a j
def p (t : Fin 2) (a : Fin 128) (j : Fin 256) : ℝ :=
  if B.ok a j then Real.exp ((∑ d, B.q a (lane t d) * B.k j (lane t d)) - B.lse t a) else 0
def ds (t : Fin 2) (a : Fin 128) (j : Fin 256) : ℝ :=
  B.p t a j * ((∑ d, B.g a (lane t d) * B.v j (lane t d)) - B.del t a)
def dq (t : Fin 2) (a : Fin 128) (d : Fin 64) : ℝ := (∑ j, B.ds t a j * B.k j (lane t d)) * (1 / 8)
def dk (t : Fin 2) (j : Fin 256) (d : Fin 64) : ℝ := ∑ a, B.ds t a j * B.q a (lane t d)
def dv (t : Fin 2) (j : Fin 256) (d : Fin 64) : ℝ := ∑ a, B.p t a j * B.g a (lane t d)
end Blk

theorem lane_bit (l : Fin 128) : IntOp.cmpi CmpIPredicate.slt (BitVec.ofNat 32 l.val) 64#32 = BitVec.ofBool (decide (l.val < 64)) := by
  rw [WordCmp.cmpi_slt_eq, toInt_small _ (by omega), show (64#32).toInt = 64 from rfl]
  exact congrArg BitVec.ofBool (decide_eq_decide.2 (by omega))

theorem stack_at (u : Vec Ideal S128x128 .bf16) (w : Fin 128 → Fin 128 → ℝ) (hu : ∀ a l, u (ix2 a l) = ((w a l : ℝ) : EReal))
    (i : Fin 256) (l : Fin 128) :
    (k0_pay8 k0_pay3 u : FVec Ideal S256x128 .bf16) (ix2 i l) = ((if own i l then w (rowOf i) l else 0 : ℝ) : EReal) := by
  unfold k0_pay8 k0_pay3
  clean_types
  pointwise
  by_cases hi : i.val < 128
  · rw [dif_pos hi, lane_bit, Scalar.select_ofBool, hu, show (⟨i.val, hi⟩ : Fin 128) = rowOf i from Fin.ext (by show i.val = i.val % 128; omega)]
    by_cases hl : l.val < 64
    · rw [if_pos (show own i l by unfold own; omega), if_pos (by simpa using hl)]
    · rw [if_neg (show ¬ own i l by unfold own; omega), if_neg (by simpa using hl), EReal.coe_zero]
  · rw [dif_neg hi, lane_bit, Scalar.select_ofBool, hu, show (⟨i.val - 128, by omega⟩ : Fin 128) = rowOf i from Fin.ext (by show i.val - 128 = i.val % 128; omega)]
    by_cases hl : l.val < 64
    · rw [if_neg (show ¬ own i l by unfold own; omega), if_pos (by simpa using hl), EReal.coe_zero]
    · rw [if_pos (show own i l by unfold own; omega), if_neg (by simpa using hl)]

theorem first_at (l : Fin 128) : k0_pay3 (ix2 0 l) = BitVec.ofBool (decide (l.val < 64)) := by
  unfold k0_pay3
  clean_types
  pointwise
  exact lane_bit l

/-- The head of a stacked row. -/
def hd (i : Fin 256) : Fin 2 := ⟨i.val / 128, by omega⟩
theorem st_hd (i : Fin 256) : st (hd i) (rowOf i) = i := Fin.ext (by show 128 * (i.val / 128) + i.val % 128 = i.val; omega)
theorem hd_st (t : Fin 2) (a : Fin 128) : hd (st t a) = t := Fin.ext (by show (128 * t.val + a.val) / 128 = t.val; omega)

variable (B : Blk) {mask : IVec S256x256 1} {kk vv qq dd : FVec Ideal S256x128 .bf16} {l0 l1 e0 e1 : Vec Ideal S128x1 .f32}
variable (hm : ∀ i j, mask (ix2 i j) = BitVec.ofBool (decide (B.ok (rowOf i) j)))
variable (hk : ∀ j l, kk (ix2 j l) = ((B.k j l : ℝ) : EReal)) (hv : ∀ j l, vv (ix2 j l) = ((B.v j l : ℝ) : EReal))
variable (hq : ∀ i l, qq (ix2 i l) = ((if own i l then B.q (rowOf i) l else 0 : ℝ) : EReal))
variable (hl0 : ∀ a, l0 (ix2 a 0) = ((B.lse 0 a : ℝ) : EReal)) (hl1 : ∀ a, l1 (ix2 a 0) = ((B.lse 1 a : ℝ) : EReal))
variable (he0 : ∀ a, e0 (ix2 a 0) = ((B.del 0 a : ℝ) : EReal)) (he1 : ∀ a, e1 (ix2 a 0) = ((B.del 1 a : ℝ) : EReal))

theorem column (x0 x1 : Vec Ideal S128x1 .f32) (f : Fin 2 → Fin 128 → ℝ) (h0 : ∀ a, x0 (ix2 a 0) = ((f 0 a : ℝ) : EReal))
    (h1 : ∀ a, x1 (ix2 a 0) = ((f 1 a : ℝ) : EReal)) (t : Fin 2) (a : Fin 128) :
    (if h : (st t a).val < 128 then x0 (ix2 ⟨(st t a).val, h⟩ 0) else x1 (ix2 ⟨(st t a).val - 128, by omega⟩ 0) : EReal) = ((f t a : ℝ) : EReal) := by
  obtain ⟨t, ht⟩ := t
  obtain rfl | rfl : t = 0 ∨ t = 1 := by omega
  · rw [dif_pos (show (st ⟨0, ht⟩ a).val < 128 by show 128 * 0 + a.val < 128; omega), h0]
    exact congrArg (fun b => ((f 0 b : ℝ) : EReal)) (Fin.ext (by show 128 * 0 + a.val = a.val; omega))
  · rw [dif_neg (show ¬ (st ⟨1, ht⟩ a).val < 128 by show ¬ 128 * 1 + a.val < 128; omega), h1]
    exact congrArg (fun b => ((f 1 b : ℝ) : EReal)) (Fin.ext (by show 128 * 1 + a.val - 128 = a.val; omega))

include hm hk hq hl0 hl1 in
theorem probs_at (t : Fin 2) (a : Fin 128) (j : Fin 256) :
    (k0_pay9 mask kk qq l0 l1 : FVec Ideal S256x256 .f32) (ix2 (st t a) j) = ((B.p t a j : ℝ) : EReal) := by
  unfold k0_pay9
  clean_types
  pointwise
  rw [column l0 l1 B.lse hl0 hl1, hm, rowOf_st, Scalar.select_ofBool]
  simp only [hk, hq, ← EReal.coe_mul, ← coe_sum, ← EReal.coe_sub, Ideal.exp_coe, rowOf_st]
  rw [sum_lanes t a (fun l => B.q a l) (fun l => B.k j l), Blk.p]
  by_cases ho : B.ok a j
  · rw [if_pos ho, if_pos (by simpa using ho)]
  · rw [if_neg ho, if_neg (by simpa using ho), EReal.coe_zero]

include hm hk hv hq hl0 hl1 he0 he1 in
theorem grads_at (u : Vec Ideal S128x128 .bf16) (hu : ∀ a l, u (ix2 a l) = ((B.g a l : ℝ) : EReal)) (t : Fin 2) (a : Fin 128) (j : Fin 256) :
    (k0_pay10 k0_pay3 mask kk vv qq u l0 l1 e0 e1 : FVec Ideal S256x256 .bf16) (ix2 (st t a) j) = ((B.ds t a j : ℝ) : EReal) := by
  have e1 := probs_at B hm hk hq hl0 hl1 t a j
  have e2 := stack_at u B.g hu
  unfold k0_pay10
  clean_types
  pointwise
  rw [column _ _ B.del he0 he1, e1]
  simp only [hv, e2, ← EReal.coe_mul, ← coe_sum, ← EReal.coe_sub, rowOf_st]
  rw [sum_lanes t a (fun l => B.g a l) (fun l => B.v j l)]
  rfl

variable {dsv : FVec Ideal S256x256 .bf16} (hd : ∀ t a j, dsv (ix2 (st t a) j) = ((B.ds t a j : ℝ) : EReal))
variable {pv : FVec Ideal S256x256 .f32} (hp : ∀ t a j, pv (ix2 (st t a) j) = ((B.p t a j : ℝ) : EReal))

include hm hk hv hq hl0 hl1 he0 he1 in
theorem dq_at (u : Vec Ideal S128x128 .bf16) (hu : ∀ a l, u (ix2 a l) = ((B.g a l : ℝ) : EReal)) (t : Fin 2) (a : Fin 128) (d : Fin 64) :
    (k0_pay11 k0_pay3 mask kk vv qq u l0 l1 e0 e1 : FVec Ideal S128x128 .bf16) (ix2 a (lane t d)) = ((B.dq t a d : ℝ) : EReal) := by
  have e1 := grads_at B hm hk hv hq hl0 hl1 he0 he1 u hu
  unfold k0_pay11
  clean_types
  pointwise
  rw [first_at, Scalar.select_ofBool, show (⟨a.val, by omega⟩ : Fin 256) = st 0 a from Fin.ext (by show a.val = 128 * 0 + a.val; omega),
    show (⟨128 + a.val, by omega⟩ : Fin 256) = st 1 a from Fin.ext rfl, eighth]
  simp only [e1, hk, ← EReal.coe_mul, ← coe_sum]
  obtain ⟨t, ht⟩ := t
  obtain rfl | rfl : t = 0 ∨ t = 1 := by omega
  · rw [if_pos (by have : (lane ⟨0, ht⟩ d).val < 64 := (by show 64 * 0 + d.val < 64; omega); simpa using this), ← EReal.coe_mul]; rfl
  · rw [if_neg (by have : ¬ (lane ⟨1, ht⟩ d).val < 64 := (by show ¬ 64 * 1 + d.val < 64; omega); simpa using this), ← EReal.coe_mul]; rfl

include hd hq in
theorem dk_at (t : Fin 2) (j : Fin 256) (d : Fin 64) :
    (k0_pay12 qq dsv (constant S256x128 .f32 0x00000000#32) : FVec Ideal S256x128 .f32) (ix2 j (lane t d)) = ((B.dk t j d : ℝ) : EReal) := by
  have e : ∀ i, dsv (ix2 i j) = ((B.ds (Ker.hd i) (rowOf i) j : ℝ) : EReal) := fun i => by rw [← hd, st_hd]
  unfold k0_pay12
  clean_types
  pointwise
  simp only [e, hq, ← EReal.coe_mul, ← coe_sum]
  rw [sum_stacked t d (fun i => B.ds (Ker.hd i) (rowOf i) j) (fun a => B.q a (lane t d))]
  simp only [hd_st, rowOf_st]
  rfl

include hp in
theorem dv_at (hq : ∀ i l, qq (ix2 i l) = ((if own i l then B.g (rowOf i) l else 0 : ℝ) : EReal)) (t : Fin 2) (j : Fin 256) (d : Fin 64) :
    (k0_pay13 qq pv : FVec Ideal S256x128 .f32) (ix2 j (lane t d)) = ((B.dv t j d : ℝ) : EReal) := by
  have e : ∀ i, pv (ix2 i j) = ((B.p (Ker.hd i) (rowOf i) j : ℝ) : EReal) := fun i => by rw [← hp, st_hd]
  unfold k0_pay13
  clean_types
  pointwise
  simp only [e, hq, ← EReal.coe_mul, ← coe_sum]
  rw [sum_stacked t d (fun i => B.p (Ker.hd i) (rowOf i) j) (fun a => B.g a (lane t d))]
  simp only [hd_st, rowOf_st]
  rfl

theorem mask_bits (a : Fin 128) (j : Fin 256) : IntOp.andi
        (IntOp.cmpi CmpIPredicate.sge (IntOp.subi (IntOp.addi (BitVec.ofNat 32 ↑a) 128#32) (BitVec.ofNat 32 ↑j)) 0#32)
        (IntOp.cmpi CmpIPredicate.sle (IntOp.subi (IntOp.addi (BitVec.ofNat 32 ↑a) 128#32) (BitVec.ofNat 32 ↑j))
          128#32) = BitVec.ofBool (decide (a.val ≤ j.val ∧ j.val ≤ a.val + 128)) := by
  have e1 : (IntOp.subi (IntOp.addi (BitVec.ofNat 32 ↑a) 128#32) (BitVec.ofNat 32 ↑j)).toInt = (a.val : Int) + 128 - j.val := by
    rw [IntOp.subi, IntOp.addi, BitVec.toInt_sub, BitVec.toInt_add, toInt_small _ (by omega), toInt_small _ (by omega),
      toInt_small _ (by omega), Int.bmod_eq_of_le (n := (a.val : Int) + _) (by omega) (by omega), Int.bmod_eq_of_le (by omega) (by omega)]
    omega
  rw [WordCmp.cmpi_sle_eq, WordCmp.cmpi_sge_eq, WordArith.andi_ofBool, e1, ← Bool.decide_and,
    show (0#32).toInt = 0 from rfl, show (128#32).toInt = 128 from rfl]
  exact congrArg BitVec.ofBool (decide_eq_decide.2 (by omega))

theorem late_bit (j : Fin 256) : IntOp.cmpi CmpIPredicate.sge (BitVec.ofNat 32 j.val) 128#32 = BitVec.ofBool (decide (128 ≤ j.val)) := by
  rw [WordCmp.cmpi_sge_eq, toInt_small j.val (by omega)]
  exact congrArg BitVec.ofBool (decide_eq_decide.2 (by show (128 : Int) ≤ _ ↔ _; omega))

theorem mask_first (c : grid0.Coords) (i j : Fin 256) : k0_pay4 c (ix2 i j) = BitVec.ofBool (decide (sees 0 (rowOf i) j)) := by
  have e : ∀ a : Fin 128, IntOp.andi (BitVec.ofBool (decide (a.val ≤ j.val ∧ j.val ≤ a.val + 128)))
      (IntOp.ori (BitVec.ofBool (decide (128 ≤ j.val))) (Scalar.cmpi CmpIPredicate.sgt 0#32 0#32)) = BitVec.ofBool (decide (sees 0 a j)) := by
    intro a
    rw [show Scalar.cmpi CmpIPredicate.sgt 0#32 0#32 = 0#1 from by decide, show IntOp.ori (BitVec.ofBool (decide (128 ≤ j.val))) 0#1 = BitVec.ofBool (decide (128 ≤ j.val)) from by
      by_cases h : 128 ≤ j.val <;> simp only [h, decide_true, decide_false] <;> decide, WordArith.andi_ofBool, ← Bool.decide_and]
    exact congrArg BitVec.ofBool (decide_eq_decide.2 (by unfold sees; simp only [Fin.val_zero]; omega))
  unfold k0_pay4
  clean_types
  pointwise
  by_cases hi : i.val < 128
  · rw [dif_pos hi, mask_bits ⟨i.val, hi⟩, late_bit, e, show (⟨i.val, hi⟩ : Fin 128) = rowOf i from Fin.ext (by show i.val = i.val % 128; omega)]
  · rw [dif_neg hi, mask_bits ⟨i.val - 128, by omega⟩, late_bit, e, show (⟨i.val - 128, by omega⟩ : Fin 128) = rowOf i from Fin.ext (by show i.val - 128 = i.val % 128; omega)]

theorem mask_later (n : Fin 4) (hn : n ≠ 0) (i j : Fin 256) : k0_pay18 (ix2 i j) = BitVec.ofBool (decide (sees n (rowOf i) j)) := by
  have e : ∀ a : Fin 128, IntOp.andi (BitVec.ofBool (decide (a.val ≤ j.val ∧ j.val ≤ a.val + 128)))
      (IntOp.ori (BitVec.ofBool (decide (128 ≤ j.val))) 1#1) = BitVec.ofBool (decide (sees n a j)) := by
    intro a
    have hn' : n.val ≠ 0 := fun h => hn (Fin.ext h)
    rw [show IntOp.ori (BitVec.ofBool (decide (128 ≤ j.val))) 1#1 = BitVec.ofBool (decide True) from by
      by_cases h : 128 ≤ j.val <;> simp only [h, decide_true, decide_false] <;> decide, WordArith.andi_ofBool, ← Bool.decide_and]
    exact congrArg BitVec.ofBool (decide_eq_decide.2 (by unfold sees; simp only [and_true]; omega))
  unfold k0_pay18
  clean_types
  pointwise
  by_cases hi : i.val < 128
  · rw [dif_pos hi, mask_bits ⟨i.val, hi⟩, late_bit, e, show (⟨i.val, hi⟩ : Fin 128) = rowOf i from Fin.ext (by show i.val = i.val % 128; omega)]
  · rw [dif_neg hi, mask_bits ⟨i.val - 128, by omega⟩, late_bit, e, show (⟨i.val - 128, by omega⟩ : Fin 128) = rowOf i from Fin.ext (by show i.val - 128 = i.val % 128; omega)]

end Cert.MixAttn.Ker
end
-- ==== Proof.KerOut.lean ====
/-
  A grid point's three output blocks at an index (untrusted): each of the sixteen stored pieces is one query block and
  two heads of `KerBlock`; a key's gradient adds its own block's part and the next one's.
-/
module

public import proofs.«01_k».proof.Proof.KerBlock
public import proofs.«01_k».proof.Proof.Gen.KernelIdeal.Frame
public import Idealize.ShloMosaic.Lib.Pipeline.ValueKit

@[expose] public section

set_option maxRecDepth 16384

noncomputable section

namespace Cert.MixAttn.Ker

open Idealize.ShloMosaic Idealize.ShloMosaic.TcCoe Idealize.SL.Sem Cert.MixAttn
open Cert.KernelIdeal Cert.KernelIdeal.Gen

/-- A grid point's blocks as real numbers: positions of a residue by channels, and heads by positions. -/
structure Pts where
  q : Fin 512 → Fin 512 → ℝ
  kp : Fin 128 → Fin 512 → ℝ
  k : Fin 512 → Fin 512 → ℝ
  vp : Fin 128 → Fin 512 → ℝ
  v : Fin 512 → Fin 512 → ℝ
  g : Fin 512 → Fin 512 → ℝ
  lse : Fin 8 → Fin 512 → ℝ
  del : Fin 8 → Fin 512 → ℝ

/-- Position `a` of query block `s`. -/
def pos (s : Fin 4) (a : Fin 128) : Fin 512 := ⟨128 * s.val + a.val, by omega⟩
/-- Head `t` of pair `p`. -/
def head (p : Fin 4) (t : Fin 2) : Fin 8 := ⟨2 * p.val + t.val, by omega⟩

/-- Query block `s` of pair `p` of heads. -/
def Pts.blk (P : Pts) (s p : Fin 4) : Blk where
  q a l := P.q (pos s a) (pos p l)
  g a l := P.g (pos s a) (pos p l)
  k j l := if hj : 128 * s.val + j.val < 128 then P.kp ⟨j.val, by omega⟩ (pos p l) else P.k ⟨128 * s.val + j.val - 128, by omega⟩ (pos p l)
  v j l := if hj : 128 * s.val + j.val < 128 then P.vp ⟨j.val, by omega⟩ (pos p l) else P.v ⟨128 * s.val + j.val - 128, by omega⟩ (pos p l)
  lse t a := P.lse (head p t) (pos s a)
  del t a := P.del (head p t) (pos s a)
  ok a j := sees s a j
  dec _ _ := inferInstance

/-- What the eight input blocks hold. -/
structure Reads (P : Pts) (x0 : Vec Ideal S512x512 .bf16) (x1 : Vec Ideal S128x512 .bf16) (x2 : Vec Ideal S512x512 .bf16)
    (x3 : Vec Ideal S128x512 .bf16) (x4 x5 : Vec Ideal S512x512 .bf16) (x6 x7 : Vec Ideal S512x128 .f32) : Prop where
  q : ∀ i l, x0 (ix2 i l) = ((P.q i l : ℝ) : EReal)
  kp : ∀ i l, x1 (ix2 i l) = ((P.kp i l : ℝ) : EReal)
  k : ∀ i l, x2 (ix2 i l) = ((P.k i l : ℝ) : EReal)
  vp : ∀ i l, x3 (ix2 i l) = ((P.vp i l : ℝ) : EReal)
  v : ∀ i l, x4 (ix2 i l) = ((P.v i l : ℝ) : EReal)
  g : ∀ i l, x5 (ix2 i l) = ((P.g i l : ℝ) : EReal)
  lse : ∀ (h : Fin 8) i, x6 (ix2 i ⟨16 * h.val, by omega⟩) = ((P.lse h i : ℝ) : EReal)
  del : ∀ (h : Fin 8) i, x7 (ix2 i ⟨16 * h.val, by omega⟩) = ((P.del h i : ℝ) : EReal)

/-- The rows of query block `s` and the lanes of pair `p`. -/
def part (x : Vec Ideal S512x512 .bf16) (s p : Fin 4) : Vec Ideal S128x128 .bf16 :=
  View.ld x (Rect.unit (s := S512x512) ![128 * s.val, 128 * p.val] S128x128.size (fun a => match a with | 0 => (by show 128 * s.val + 128 ≤ 512; omega) | 1 => (by show 128 * p.val + 128 ≤ 512; omega)))
/-- The lanes of pair `p` of the preceding block of keys. -/
def before (x : Vec Ideal S128x512 .bf16) (p : Fin 4) : Vec Ideal S128x128 .bf16 :=
  View.ld x (Rect.unit (s := S128x512) ![0, 128 * p.val] S128x128.size (fun a => match a with | 0 => (by show 0 + 128 ≤ 128; omega) | 1 => (by show 128 * p.val + 128 ≤ 512; omega)))
/-- Two blocks of keys, from block `s` on. -/
def two (x : Vec Ideal S512x512 .bf16) (s : Fin 3) (p : Fin 4) : Vec Ideal S256x128 .bf16 :=
  View.ld x (Rect.unit (s := S512x512) ![128 * s.val, 128 * p.val] S256x128.size (fun a => match a with | 0 => (by show 128 * s.val + 256 ≤ 512; omega) | 1 => (by show 128 * p.val + 128 ≤ 512; omega)))
/-- A head's column of block `s`. -/
def stat (x : Vec Ideal S512x128 .f32) (s : Fin 4) (h : Fin 8) : Vec Ideal S128x1 .f32 :=
  View.ld x (Rect.unit (s := S512x128) ![128 * s.val, 16 * h.val] S128x1.size (fun a => match a with | 0 => (by show 128 * s.val + 128 ≤ 512; omega) | 1 => (by show 16 * h.val + 1 ≤ 128; omega)))

theorem part_at (x : Vec Ideal S512x512 .bf16) (s p : Fin 4) (a l : Fin 128) : part x s p (ix2 a l) = x (ix2 (pos s a) (pos p l)) := by
  unfold part
  pointwise
  rfl
theorem before_at (x : Vec Ideal S128x512 .bf16) (p : Fin 4) (a l : Fin 128) : before x p (ix2 a l) = x (ix2 a (pos p l)) := by
  unfold before
  pointwise
  rfl
theorem two_at (x : Vec Ideal S512x512 .bf16) (s : Fin 3) (p : Fin 4) (j : Fin 256) (l : Fin 128) :
    two x s p (ix2 j l) = x (ix2 ⟨128 * s.val + j.val, by omega⟩ (pos p l)) := by
  unfold two
  pointwise
  rfl
theorem stat_at (x : Vec Ideal S512x128 .f32) (s : Fin 4) (h : Fin 8) (a : Fin 128) :
    stat x s h (ix2 a 0) = x (ix2 (pos s a) ⟨16 * h.val, by omega⟩) := by
  unfold stat
  pointwise
  rfl

/-- Keys and values of the first query block, and of a later one. -/
def keys0 (xp : Vec Ideal S128x512 .bf16) (x : Vec Ideal S512x512 .bf16) (p : Fin 4) : FVec Ideal S256x128 .bf16 :=
  k0_pay5 (before xp p) (part x 0 p)
def keys1 (x : Vec Ideal S512x512 .bf16) (s : Fin 3) (p : Fin 4) : FVec Ideal S256x128 .bf16 := k0_pay259 (two x s p)

theorem keys0_at (xp : Vec Ideal S128x512 .bf16) (x : Vec Ideal S512x512 .bf16) (p : Fin 4) (fp : Fin 128 → Fin 512 → ℝ) (f : Fin 512 → Fin 512 → ℝ)
    (hxp : ∀ i l, xp (ix2 i l) = ((fp i l : ℝ) : EReal)) (hx : ∀ i l, x (ix2 i l) = ((f i l : ℝ) : EReal)) (j : Fin 256) (l : Fin 128) :
    keys0 xp x p (ix2 j l) = ((if hj : 128 * (0 : Fin 4).val + j.val < 128 then fp ⟨j.val, by omega⟩ (pos p l)
      else f ⟨128 * (0 : Fin 4).val + j.val - 128, by omega⟩ (pos p l) : ℝ) : EReal) := by
  have e1 := before_at xp p
  have e2 := part_at x 0 p
  unfold keys0 k0_pay5
  clean_types
  pointwise
  by_cases hj : j.val < 128
  · rw [dif_pos hj, dif_pos (by omega), e1, hxp]
  · rw [dif_neg hj, dif_neg (by omega), e2, hx]
    exact congrArg (fun i => ((f i (pos p l) : ℝ) : EReal)) (Fin.ext (by show 128 * 0 + (j.val - 128) = j.val - 128; omega))

theorem keys1_at (x : Vec Ideal S512x512 .bf16) (s : Fin 3) (p : Fin 4) (fp : Fin 128 → Fin 512 → ℝ) (f : Fin 512 → Fin 512 → ℝ)
    (hx : ∀ i l, x (ix2 i l) = ((f i l : ℝ) : EReal)) (j : Fin 256) (l : Fin 128) :
    keys1 x s p (ix2 j l) = ((if hj : 128 * s.succ.val + j.val < 128 then fp ⟨j.val, by omega⟩ (pos p l)
      else f ⟨128 * s.succ.val + j.val - 128, by have := s.succ.isLt; omega⟩ (pos p l) : ℝ) : EReal) := by
  have e2 := two_at x s p
  unfold keys1 k0_pay259
  clean_types
  pointwise
  rw [dif_neg (by simp only [Fin.val_succ]; omega), e2, hx]
  exact congrArg (fun i => ((f i (pos p l) : ℝ) : EReal)) (Fin.ext (by show 128 * s.val + j.val = 128 * (s.val + 1) + j.val - 128; omega))

variable {P : Pts} {x0 : Vec Ideal S512x512 .bf16} {x1 : Vec Ideal S128x512 .bf16} {x2 : Vec Ideal S512x512 .bf16}
  {x3 : Vec Ideal S128x512 .bf16} {x4 x5 : Vec Ideal S512x512 .bf16} {x6 x7 : Vec Ideal S512x128 .f32} (R : Reads P x0 x1 x2 x3 x4 x5 x6 x7)

/-- A block's probabilities, score gradients and stored query gradients. -/
def ps (mask : IVec S256x256 1) (kk : FVec Ideal S256x128 .bf16) (x0 : Vec Ideal S512x512 .bf16) (x6 : Vec Ideal S512x128 .f32) (s p : Fin 4) : FVec Ideal S256x256 .f32 :=
  k0_pay9 mask kk (k0_pay8 k0_pay3 (part x0 s p)) (stat x6 s (head p 0)) (stat x6 s (head p 1))
def dss (mask : IVec S256x256 1) (kk vv : FVec Ideal S256x128 .bf16) (x0 x5 : Vec Ideal S512x512 .bf16) (x6 x7 : Vec Ideal S512x128 .f32) (s p : Fin 4) : FVec Ideal S256x256 .bf16 :=
  k0_pay10 k0_pay3 mask kk vv (k0_pay8 k0_pay3 (part x0 s p)) (part x5 s p) (stat x6 s (head p 0)) (stat x6 s (head p 1)) (stat x7 s (head p 0)) (stat x7 s (head p 1))
def dqs (mask : IVec S256x256 1) (kk vv : FVec Ideal S256x128 .bf16) (x0 x5 : Vec Ideal S512x512 .bf16) (x6 x7 : Vec Ideal S512x128 .f32) (s p : Fin 4) : FVec Ideal S128x128 .bf16 :=
  k0_pay11 k0_pay3 mask kk vv (k0_pay8 k0_pay3 (part x0 s p)) (part x5 s p) (stat x6 s (head p 0)) (stat x6 s (head p 1)) (stat x7 s (head p 0)) (stat x7 s (head p 1))
def dks (mask : IVec S256x256 1) (kk vv : FVec Ideal S256x128 .bf16) (x0 x5 : Vec Ideal S512x512 .bf16) (x6 x7 : Vec Ideal S512x128 .f32) (s p : Fin 4) : FVec Ideal S256x128 .f32 :=
  k0_pay12 (k0_pay8 k0_pay3 (part x0 s p)) (dss mask kk vv x0 x5 x6 x7 s p) (constant S256x128 .f32 0x00000000#32)
def dvs (mask : IVec S256x256 1) (kk : FVec Ideal S256x128 .bf16) (x0 x5 : Vec Ideal S512x512 .bf16) (x6 : Vec Ideal S512x128 .f32) (s p : Fin 4) : FVec Ideal S256x128 .f32 :=
  k0_pay13 (k0_pay8 k0_pay3 (part x5 s p)) (ps mask kk x0 x6 s p)

section one
variable (s p : Fin 4) {mask : IVec S256x256 1} {kk vv : FVec Ideal S256x128 .bf16}
  (hm : ∀ i j, mask (ix2 i j) = BitVec.ofBool (decide ((P.blk s p).ok (rowOf i) j)))
  (hk : ∀ j l, kk (ix2 j l) = (((P.blk s p).k j l : ℝ) : EReal)) (hv : ∀ j l, vv (ix2 j l) = (((P.blk s p).v j l : ℝ) : EReal))

include R in
theorem qq_at (i : Fin 256) (l : Fin 128) : (k0_pay8 k0_pay3 (part x0 s p) : FVec Ideal S256x128 .bf16) (ix2 i l)
    = ((if own i l then (P.blk s p).q (rowOf i) l else 0 : ℝ) : EReal) :=
  stack_at _ (P.blk s p).q (fun a l => (part_at x0 s p a l).trans (R.q _ _)) i l
include R in
theorem gg_at (i : Fin 256) (l : Fin 128) : (k0_pay8 k0_pay3 (part x5 s p) : FVec Ideal S256x128 .bf16) (ix2 i l)
    = ((if own i l then (P.blk s p).g (rowOf i) l else 0 : ℝ) : EReal) :=
  stack_at _ (P.blk s p).g (fun a l => (part_at x5 s p a l).trans (R.g _ _)) i l

include R hm hk in
theorem ps_at (t : Fin 2) (a : Fin 128) (j : Fin 256) : ps mask kk x0 x6 s p (ix2 (st t a) j) = (((P.blk s p).p t a j : ℝ) : EReal) :=
  probs_at (P.blk s p) hm hk (qq_at R s p) (fun a => (stat_at x6 s _ a).trans (R.lse _ _)) (fun a => (stat_at x6 s _ a).trans (R.lse _ _)) t a j
include R hm hk hv in
theorem dss_at (t : Fin 2) (a : Fin 128) (j : Fin 256) : dss mask kk vv x0 x5 x6 x7 s p (ix2 (st t a) j) = (((P.blk s p).ds t a j : ℝ) : EReal) :=
  grads_at (P.blk s p) hm hk hv (qq_at R s p) (fun a => (stat_at x6 s _ a).trans (R.lse _ _)) (fun a => (stat_at x6 s _ a).trans (R.lse _ _))
    (fun a => (stat_at x7 s _ a).trans (R.del _ _)) (fun a => (stat_at x7 s _ a).trans (R.del _ _)) _ (fun a l => (part_at x5 s p a l).trans (R.g _ _)) t a j
include R hm hk hv in
theorem dqs_at (t : Fin 2) (a : Fin 128) (d : Fin 64) : dqs mask kk vv x0 x5 x6 x7 s p (ix2 a (lane t d)) = (((P.blk s p).dq t a d : ℝ) : EReal) :=
  dq_at (P.blk s p) hm hk hv (qq_at R s p) (fun a => (stat_at x6 s _ a).trans (R.lse _ _)) (fun a => (stat_at x6 s _ a).trans (R.lse _ _))
    (fun a => (stat_at x7 s _ a).trans (R.del _ _)) (fun a => (stat_at x7 s _ a).trans (R.del _ _)) _ (fun a l => (part_at x5 s p a l).trans (R.g _ _)) t a d
include R hm hk hv in
theorem dks_at (t : Fin 2) (j : Fin 256) (d : Fin 64) : dks mask kk vv x0 x5 x6 x7 s p (ix2 j (lane t d)) = (((P.blk s p).dk t j d : ℝ) : EReal) :=
  dk_at (P.blk s p) (qq_at R s p) (dss_at R s p hm hk hv) t j d
include R hm hk in
theorem dvs_at (t : Fin 2) (j : Fin 256) (d : Fin 64) : dvs mask kk x0 x5 x6 s p (ix2 j (lane t d)) = (((P.blk s p).dv t j d : ℝ) : EReal) :=
  dv_at (P.blk s p) (ps_at R s p hm hk) (gg_at R s p) t j d
end one

/-- The query gradients a point leaves, by position and channel. -/
def Pts.outQ (P : Pts) (i l : Fin 512) : ℝ :=
  (P.blk ⟨i.val / 128, by omega⟩ ⟨l.val / 128, by omega⟩).dq ⟨l.val % 128 / 64, by omega⟩ ⟨i.val % 128, by omega⟩ ⟨l.val % 64, by omega⟩

theorem outQ_at (s p : Fin 4) (a : Fin 128) (t : Fin 2) (d : Fin 64) : P.outQ (pos s a) (pos p (lane t d)) = (P.blk s p).dq t a d := by
  unfold Pts.outQ
  rw [show (⟨(pos s a).val / 128, by omega⟩ : Fin 4) = s from Fin.ext (by show (128 * s.val + a.val) / 128 = s.val; omega),
    show (⟨(pos p (lane t d)).val / 128, by omega⟩ : Fin 4) = p from Fin.ext (by show (128 * p.val + (64 * t.val + d.val)) / 128 = p.val; omega),
    show (⟨(pos p (lane t d)).val % 128 / 64, by omega⟩ : Fin 2) = t from Fin.ext (by show (128 * p.val + (64 * t.val + d.val)) % 128 / 64 = t.val; omega),
    show (⟨(pos s a).val % 128, by omega⟩ : Fin 128) = a from Fin.ext (by show (128 * s.val + a.val) % 128 = a.val; omega),
    show (⟨(pos p (lane t d)).val % 64, by omega⟩ : Fin 64) = d from Fin.ext (by show (128 * p.val + (64 * t.val + d.val)) % 64 = d.val; omega)]

theorem lanes (l : Fin 128) : ∃ t d, l = lane t d :=
  ⟨⟨l.val / 64, by omega⟩, ⟨l.val % 64, by omega⟩, Fin.ext (by show l.val = 64 * (l.val / 64) + l.val % 64; omega)⟩

include R in
theorem first_dq (c : grid0.Coords) (p : Fin 4) (x : S128x128.Idx) (y : S512x512.Idx) (e0 : (y 0).val = 0 + (x 0).val) (e1 : (y 1).val = 128 * p.val + (x 1).val) :
    dqs (k0_pay4 c) (keys0 x1 x2 p) (keys0 x3 x4 p) x0 x5 x6 x7 0 p x = ((P.outQ (y 0) (y 1) : ℝ) : EReal) := by
  obtain ⟨a, l, rfl⟩ : ∃ a l, x = ix2 a l := ⟨x 0, x 1, by ext i; fin_cases i <;> rfl⟩
  obtain ⟨t, d, rfl⟩ := lanes l
  rw [show (y 0 : Fin 512) = pos 0 a from Fin.ext (e0.trans (by show 0 + a.val = 128 * 0 + a.val; omega)), show (y 1 : Fin 512) = pos p (lane t d) from Fin.ext e1, outQ_at]
  exact dqs_at R 0 p (mask_first c) (keys0_at x1 x2 p P.kp P.k R.kp R.k) (keys0_at x3 x4 p P.vp P.v R.vp R.v) t a d

include R in
theorem later_dq (s : Fin 3) (p : Fin 4) (x : S128x128.Idx) (y : S512x512.Idx) (e0 : (y 0).val = 128 * s.succ.val + (x 0).val) (e1 : (y 1).val = 128 * p.val + (x 1).val) :
    dqs k0_pay18 (keys1 x2 s p) (keys1 x4 s p) x0 x5 x6 x7 s.succ p x = ((P.outQ (y 0) (y 1) : ℝ) : EReal) := by
  obtain ⟨a, l, rfl⟩ : ∃ a l, x = ix2 a l := ⟨x 0, x 1, by ext i; fin_cases i <;> rfl⟩
  obtain ⟨t, d, rfl⟩ := lanes l
  rw [show (y 0 : Fin 512) = pos s.succ a from Fin.ext e0, show (y 1 : Fin 512) = pos p (lane t d) from Fin.ext e1, outQ_at]
  exact dqs_at R s.succ p (mask_later _ (Fin.succ_ne_zero s)) (keys1_at x2 s p P.kp P.k R.k) (keys1_at x4 s p P.vp P.v R.v) t a d

include R in
theorem out8_at (c : grid0.Coords) (y : S512x512.Idx) : out0_8 (F := Ideal) c x0 x1 x2 x3 x4 x5 x6 x7 y = ((P.outQ (y 0) (y 1) : ℝ) : EReal) := by
  unfold out0_8
  canon_tiles x h
  case piece0 => exact later_dq R 2 3 x y h0 h1
  case piece1 => exact later_dq R 1 3 x y h0 h1
  case piece2 => exact later_dq R 0 3 x y h0 h1
  case piece3 => exact first_dq R c 3 x y (h0.trans (Nat.zero_add _).symm) h1
  case piece4 => exact later_dq R 2 2 x y h0 h1
  case piece5 => exact later_dq R 1 2 x y h0 h1
  case piece6 => exact later_dq R 0 2 x y h0 h1
  case piece7 => exact first_dq R c 2 x y (h0.trans (Nat.zero_add _).symm) h1
  case piece8 => exact later_dq R 2 1 x y h0 h1
  case piece9 => exact later_dq R 1 1 x y h0 h1
  case piece10 => exact later_dq R 0 1 x y h0 h1
  case piece11 => exact first_dq R c 1 x y (h0.trans (Nat.zero_add _).symm) h1
  case piece12 => exact later_dq R 2 0 x y h0 (h1.trans (Nat.zero_add _).symm)
  case piece13 => exact later_dq R 1 0 x y h0 (h1.trans (Nat.zero_add _).symm)
  case piece14 => exact later_dq R 0 0 x y h0 (h1.trans (Nat.zero_add _).symm)
  case piece15 => exact first_dq R c 0 x y (h0.trans (Nat.zero_add _).symm) (h1.trans (Nat.zero_add _).symm)

/-- A key's stored gradient: its own block's second half and the next block's first half added, and the last block's. -/
def inner (lo hi : FVec Ideal S256x128 .f32) : FVec Ideal S128x128 .bf16 :=
  truncf .bf16 (addf (extractStridedSlice S128x128 ![128, 0] lo slices_S256x128_o128_0_S128x128) (extractStridedSlice S128x128 ![0, 0] hi slices_S256x128_o0_0_S128x128)) bitsLt_bf16_f32
def outer (lo : FVec Ideal S256x128 .f32) : FVec Ideal S128x128 .bf16 :=
  truncf .bf16 (extractStridedSlice S128x128 ![128, 0] lo slices_S256x128_o128_0_S128x128) bitsLt_bf16_f32

theorem inner_at (lo hi : FVec Ideal S256x128 .f32) (a l : Fin 128) :
    inner lo hi (ix2 a l) = (lo (ix2 ⟨128 + a.val, by omega⟩ l) + hi (ix2 ⟨a.val, by omega⟩ l) : EReal) := by
  unfold inner
  pointwise
theorem outer_at (lo : FVec Ideal S256x128 .f32) (a l : Fin 128) : outer lo (ix2 a l) = lo (ix2 ⟨128 + a.val, by omega⟩ l) := by
  unfold outer
  pointwise

/-- The keys' gradients a point leaves, by position and channel, from what each query block gives. -/
def outB (f : Fin 4 → Fin 4 → Fin 2 → Fin 256 → Fin 64 → ℝ) (i l : Fin 512) : ℝ :=
  both (fun s j d => f s ⟨l.val / 128, by omega⟩ ⟨l.val % 128 / 64, by omega⟩ j d) ⟨i.val / 128, by omega⟩ ⟨i.val % 128, by omega⟩ ⟨l.val % 64, by omega⟩

theorem outB_at (f : Fin 4 → Fin 4 → Fin 2 → Fin 256 → Fin 64 → ℝ) (s p : Fin 4) (a : Fin 128) (t : Fin 2) (d : Fin 64) :
    outB f (pos s a) (pos p (lane t d)) = both (fun s j d => f s p t j d) s a d := by
  unfold outB
  rw [show (⟨(pos s a).val / 128, by omega⟩ : Fin 4) = s from Fin.ext (by show (128 * s.val + a.val) / 128 = s.val; omega),
    show (⟨(pos p (lane t d)).val / 128, by omega⟩ : Fin 4) = p from Fin.ext (by show (128 * p.val + (64 * t.val + d.val)) / 128 = p.val; omega),
    show (⟨(pos p (lane t d)).val % 128 / 64, by omega⟩ : Fin 2) = t from Fin.ext (by show (128 * p.val + (64 * t.val + d.val)) % 128 / 64 = t.val; omega),
    show (⟨(pos s a).val % 128, by omega⟩ : Fin 128) = a from Fin.ext (by show (128 * s.val + a.val) % 128 = a.val; omega),
    show (⟨(pos p (lane t d)).val % 64, by omega⟩ : Fin 64) = d from Fin.ext (by show (128 * p.val + (64 * t.val + d.val)) % 64 = d.val; omega)]

theorem inner_piece (f : Fin 4 → Fin 4 → Fin 2 → Fin 256 → Fin 64 → ℝ) (s : Fin 3) (p : Fin 4) (lo hi : FVec Ideal S256x128 .f32)
    (hlo : ∀ t j d, lo (ix2 j (lane t d)) = ((f s.castSucc p t j d : ℝ) : EReal)) (hhi : ∀ t j d, hi (ix2 j (lane t d)) = ((f s.succ p t j d : ℝ) : EReal))
    (x : S128x128.Idx) (y : S512x512.Idx) (e0 : (y 0).val = 128 * s.castSucc.val + (x 0).val) (e1 : (y 1).val = 128 * p.val + (x 1).val) :
    inner lo hi x = ((outB f (y 0) (y 1) : ℝ) : EReal) := by
  obtain ⟨a, l, rfl⟩ : ∃ a l, x = ix2 a l := ⟨x 0, x 1, by ext i; fin_cases i <;> rfl⟩
  obtain ⟨t, d, rfl⟩ := lanes l
  rw [show (y 0 : Fin 512) = pos s.castSucc a from Fin.ext e0, show (y 1 : Fin 512) = pos p (lane t d) from Fin.ext e1, outB_at, inner_at, hlo, hhi, both,
    dif_pos (show s.castSucc.val + 1 < 4 by simp only [Fin.val_castSucc]; omega), EReal.coe_add]
  rfl

theorem outer_piece (f : Fin 4 → Fin 4 → Fin 2 → Fin 256 → Fin 64 → ℝ) (p : Fin 4) (lo : FVec Ideal S256x128 .f32)
    (hlo : ∀ t j d, lo (ix2 j (lane t d)) = ((f 3 p t j d : ℝ) : EReal))
    (x : S128x128.Idx) (y : S512x512.Idx) (e0 : (y 0).val = 128 * 3 + (x 0).val) (e1 : (y 1).val = 128 * p.val + (x 1).val) :
    outer lo x = ((outB f (y 0) (y 1) : ℝ) : EReal) := by
  obtain ⟨a, l, rfl⟩ : ∃ a l, x = ix2 a l := ⟨x 0, x 1, by ext i; fin_cases i <;> rfl⟩
  obtain ⟨t, d, rfl⟩ := lanes l
  rw [show (y 0 : Fin 512) = pos 3 a from Fin.ext e0, show (y 1 : Fin 512) = pos p (lane t d) from Fin.ext e1, outB_at, outer_at, hlo, both,
    dif_neg (show ¬ (3 : Fin 4).val + 1 < 4 by decide), add_zero]

def Pts.dks (P : Pts) (s p : Fin 4) (t : Fin 2) (j : Fin 256) (d : Fin 64) : ℝ := (P.blk s p).dk t j d
def Pts.dvs (P : Pts) (s p : Fin 4) (t : Fin 2) (j : Fin 256) (d : Fin 64) : ℝ := (P.blk s p).dv t j d

include R in
theorem first_dk (c : grid0.Coords) (p : Fin 4) (x : S128x128.Idx) (y : S512x512.Idx) (e0 : (y 0).val = 0 + (x 0).val) (e1 : (y 1).val = 128 * p.val + (x 1).val) :
    inner (dks (k0_pay4 c) (keys0 x1 x2 p) (keys0 x3 x4 p) x0 x5 x6 x7 0 p) (dks k0_pay18 (keys1 x2 0 p) (keys1 x4 0 p) x0 x5 x6 x7 1 p) x
      = ((outB P.dks (y 0) (y 1) : ℝ) : EReal) :=
  inner_piece P.dks 0 p _ _ (dks_at R 0 p (mask_first c) (keys0_at x1 x2 p P.kp P.k R.kp R.k) (keys0_at x3 x4 p P.vp P.v R.vp R.v))
    (dks_at R (0 : Fin 3).succ p (mask_later _ (Fin.succ_ne_zero 0)) (keys1_at x2 0 p P.kp P.k R.k) (keys1_at x4 0 p P.vp P.v R.v)) x y e0 e1
include R in
theorem later_dk (s : Fin 2) (p : Fin 4) (x : S128x128.Idx) (y : S512x512.Idx) (e0 : (y 0).val = 128 * s.succ.castSucc.val + (x 0).val) (e1 : (y 1).val = 128 * p.val + (x 1).val) :
    inner (dks k0_pay18 (keys1 x2 s.castSucc p) (keys1 x4 s.castSucc p) x0 x5 x6 x7 s.castSucc.succ p) (dks k0_pay18 (keys1 x2 s.succ p) (keys1 x4 s.succ p) x0 x5 x6 x7 s.succ.succ p) x
      = ((outB P.dks (y 0) (y 1) : ℝ) : EReal) :=
  inner_piece P.dks s.succ p _ _ (dks_at R s.castSucc.succ p (mask_later _ (Fin.succ_ne_zero _)) (keys1_at x2 _ p P.kp P.k R.k) (keys1_at x4 _ p P.vp P.v R.v))
    (dks_at R s.succ.succ p (mask_later _ (Fin.succ_ne_zero _)) (keys1_at x2 _ p P.kp P.k R.k) (keys1_at x4 _ p P.vp P.v R.v)) x y e0 e1
include R in
theorem last_dk (p : Fin 4) (x : S128x128.Idx) (y : S512x512.Idx) (e0 : (y 0).val = 128 * 3 + (x 0).val) (e1 : (y 1).val = 128 * p.val + (x 1).val) :
    outer (dks k0_pay18 (keys1 x2 2 p) (keys1 x4 2 p) x0 x5 x6 x7 3 p) x = ((outB P.dks (y 0) (y 1) : ℝ) : EReal) :=
  outer_piece P.dks p _ (dks_at R (2 : Fin 3).succ p (mask_later _ (Fin.succ_ne_zero _)) (keys1_at x2 _ p P.kp P.k R.k) (keys1_at x4 _ p P.vp P.v R.v)) x y e0 e1

include R in
theorem first_dv (c : grid0.Coords) (p : Fin 4) (x : S128x128.Idx) (y : S512x512.Idx) (e0 : (y 0).val = 0 + (x 0).val) (e1 : (y 1).val = 128 * p.val + (x 1).val) :
    inner (dvs (k0_pay4 c) (keys0 x1 x2 p) x0 x5 x6 0 p) (dvs k0_pay18 (keys1 x2 0 p) x0 x5 x6 1 p) x
      = ((outB P.dvs (y 0) (y 1) : ℝ) : EReal) :=
  inner_piece P.dvs 0 p _ _ (dvs_at R 0 p (mask_first c) (keys0_at x1 x2 p P.kp P.k R.kp R.k))
    (dvs_at R (0 : Fin 3).succ p (mask_later _ (Fin.succ_ne_zero 0)) (keys1_at x2 0 p P.kp P.k R.k)) x y e0 e1
include R in
theorem later_dv (s : Fin 2) (p : Fin 4) (x : S128x128.Idx) (y : S512x512.Idx) (e0 : (y 0).val = 128 * s.succ.castSucc.val + (x 0).val) (e1 : (y 1).val = 128 * p.val + (x 1).val) :
    inner (dvs k0_pay18 (keys1 x2 s.castSucc p) x0 x5 x6 s.castSucc.succ p) (dvs k0_pay18 (keys1 x2 s.succ p) x0 x5 x6 s.succ.succ p) x
      = ((outB P.dvs (y 0) (y 1) : ℝ) : EReal) :=
  inner_piece P.dvs s.succ p _ _ (dvs_at R s.castSucc.succ p (mask_later _ (Fin.succ_ne_zero _)) (keys1_at x2 _ p P.kp P.k R.k))
    (dvs_at R s.succ.succ p (mask_later _ (Fin.succ_ne_zero _)) (keys1_at x2 _ p P.kp P.k R.k)) x y e0 e1
include R in
theorem last_dv (p : Fin 4) (x : S128x128.Idx) (y : S512x512.Idx) (e0 : (y 0).val = 128 * 3 + (x 0).val) (e1 : (y 1).val = 128 * p.val + (x 1).val) :
    outer (dvs k0_pay18 (keys1 x2 2 p) x0 x5 x6 3 p) x = ((outB P.dvs (y 0) (y 1) : ℝ) : EReal) :=
  outer_piece P.dvs p _ (dvs_at R (2 : Fin 3).succ p (mask_later _ (Fin.succ_ne_zero _)) (keys1_at x2 _ p P.kp P.k R.k)) x y e0 e1

include R in
theorem out9_at (c : grid0.Coords) (y : S512x512.Idx) : out0_9 (F := Ideal) c x0 x1 x2 x3 x4 x5 x6 x7 y = ((outB P.dks (y 0) (y 1) : ℝ) : EReal) := by
  unfold out0_9
  canon_tiles x h
  case piece0 => exact last_dk R 3 x y h0 h1
  case piece1 => exact later_dk R 1 3 x y h0 h1
  case piece2 => exact later_dk R 0 3 x y h0 h1
  case piece3 => exact first_dk R c 3 x y (h0.trans (Nat.zero_add _).symm) h1
  case piece4 => exact last_dk R 2 x y h0 h1
  case piece5 => exact later_dk R 1 2 x y h0 h1
  case piece6 => exact later_dk R 0 2 x y h0 h1
  case piece7 => exact first_dk R c 2 x y (h0.trans (Nat.zero_add _).symm) h1
  case piece8 => exact last_dk R 1 x y h0 h1
  case piece9 => exact later_dk R 1 1 x y h0 h1
  case piece10 => exact later_dk R 0 1 x y h0 h1
  case piece11 => exact first_dk R c 1 x y (h0.trans (Nat.zero_add _).symm) h1
  case piece12 => exact last_dk R 0 x y h0 (h1.trans (Nat.zero_add _).symm)
  case piece13 => exact later_dk R 1 0 x y h0 (h1.trans (Nat.zero_add _).symm)
  case piece14 => exact later_dk R 0 0 x y h0 (h1.trans (Nat.zero_add _).symm)
  case piece15 => exact first_dk R c 0 x y (h0.trans (Nat.zero_add _).symm) (h1.trans (Nat.zero_add _).symm)

include R in
theorem out10_at (c : grid0.Coords) (y : S512x512.Idx) : out0_10 (F := Ideal) c x0 x1 x2 x3 x4 x5 x6 x7 y = ((outB P.dvs (y 0) (y 1) : ℝ) : EReal) := by
  unfold out0_10
  canon_tiles x h
  case piece0 => exact last_dv R 3 x y h0 h1
  case piece1 => exact later_dv R 1 3 x y h0 h1
  case piece2 => exact later_dv R 0 3 x y h0 h1
  case piece3 => exact first_dv R c 3 x y (h0.trans (Nat.zero_add _).symm) h1
  case piece4 => exact last_dv R 2 x y h0 h1
  case piece5 => exact later_dv R 1 2 x y h0 h1
  case piece6 => exact later_dv R 0 2 x y h0 h1
  case piece7 => exact first_dv R c 2 x y (h0.trans (Nat.zero_add _).symm) h1
  case piece8 => exact last_dv R 1 x y h0 h1
  case piece9 => exact later_dv R 1 1 x y h0 h1
  case piece10 => exact later_dv R 0 1 x y h0 h1
  case piece11 => exact first_dv R c 1 x y (h0.trans (Nat.zero_add _).symm) h1
  case piece12 => exact last_dv R 0 x y h0 (h1.trans (Nat.zero_add _).symm)
  case piece13 => exact later_dv R 1 0 x y h0 (h1.trans (Nat.zero_add _).symm)
  case piece14 => exact later_dv R 0 0 x y h0 (h1.trans (Nat.zero_add _).symm)
  case piece15 => exact first_dv R c 0 x y (h0.trans (Nat.zero_add _).symm) (h1.trans (Nat.zero_add _).symm)

end Cert.MixAttn.Ker
end
-- ==== Proof.KerTie.lean ====
/-
  A grid point's real numbers and the rows of the attention (untrusted): with the scaled queries, the keys, values and
  cotangents of one residue, and the log-sums and products of its rows, a point's outputs are the gradients.
-/
module

public import proofs.«01_k».proof.Proof.KerOut
public import proofs.«01_k».proof.Proof.Rows

@[expose] public section

noncomputable section

namespace Cert.MixAttn.Ker

/-- Residue `r`'s numbers; what stands before its first block of keys may be anything. -/
def ptsOf (X : Args) (r : Fin 16) (kp vp : Fin 128 → Fin 512 → ℝ) : Pts where
  q i l := X.q ⟨i.val * 16 + r.val, by omega⟩ l * (1 / 8)
  kp := kp
  k i l := X.k ⟨i.val * 16 + r.val, by omega⟩ l
  vp := vp
  v i l := X.v ⟨i.val * 16 + r.val, by omega⟩ l
  g i l := X.g ⟨i.val * 16 + r.val, by omega⟩ l
  lse h i := Real.log (row X h r ⟨i.val / 128, by omega⟩ ⟨i.val % 128, by omega⟩).tot
  del h i := (row X h r ⟨i.val / 128, by omega⟩ ⟨i.val % 128, by omega⟩).delta

variable (X : Args) (r : Fin 16) (kp vp : Fin 128 → Fin 512 → ℝ) (s p : Fin 4) (t : Fin 2) (a : Fin 128) (j : Fin 256) (d : Fin 64)

theorem tok_pos : (⟨(pos s a).val * 16 + r.val, by omega⟩ : Fin 8192) = tok r s a :=
  Fin.ext (by show (128 * s.val + a.val) * 16 + r.val = (s.val * 128 + a.val) * 16 + r.val; omega)
theorem col_pos : pos p (lane t d) = col (head p t) d :=
  Fin.ext (by show 128 * p.val + (64 * t.val + d.val) = (2 * p.val + t.val) * 64 + d.val; omega)
theorem block_pos : (⟨(pos s a).val / 128, by omega⟩ : Fin 4) = s := Fin.ext (by show (128 * s.val + a.val) / 128 = s.val; omega)
theorem query_pos : (⟨(pos s a).val % 128, by omega⟩ : Fin 128) = a := Fin.ext (by show (128 * s.val + a.val) % 128 = a.val; omega)

theorem blk_q : ((ptsOf X r kp vp).blk s p).q a (lane t d) = X.q (tok r s a) (col (head p t) d) * (1 / 8) := by
  show X.q _ _ * (1 / 8) = _
  rw [tok_pos, col_pos]
theorem blk_g : ((ptsOf X r kp vp).blk s p).g a (lane t d) = X.g (tok r s a) (col (head p t) d) := by
  show X.g _ _ = _
  rw [tok_pos, col_pos]
theorem blk_k (hs : sees s a j) : ((ptsOf X r kp vp).blk s p).k j (lane t d) = key X.k (head p t) r s j d := by
  have h := hs.2.2
  show (if hj : 128 * s.val + j.val < 128 then kp ⟨j.val, _⟩ (pos p (lane t d)) else X.k _ (pos p (lane t d))) = _
  rw [dif_neg (by omega), key, dif_neg (by omega), col_pos]
  exact congrArg (fun i => X.k i (col (head p t) d)) (Fin.ext (by
    show (128 * s.val + j.val - 128) * 16 + r.val = (s.val * 128 + j.val - 128) * 16 + r.val; omega))
theorem blk_v (hs : sees s a j) : ((ptsOf X r kp vp).blk s p).v j (lane t d) = key X.v (head p t) r s j d := by
  have h := hs.2.2
  show (if hj : 128 * s.val + j.val < 128 then vp ⟨j.val, _⟩ (pos p (lane t d)) else X.v _ (pos p (lane t d))) = _
  rw [dif_neg (by omega), key, dif_neg (by omega), col_pos]
  exact congrArg (fun i => X.v i (col (head p t) d)) (Fin.ext (by
    show (128 * s.val + j.val - 128) * 16 + r.val = (s.val * 128 + j.val - 128) * 16 + r.val; omega))
theorem blk_lse : ((ptsOf X r kp vp).blk s p).lse t a = Real.log (row X (head p t) r s a).tot := by
  show Real.log (row X (head p t) r _ _).tot = _
  rw [block_pos, query_pos]
theorem blk_del : ((ptsOf X r kp vp).blk s p).del t a = (row X (head p t) r s a).delta := by
  show (row X (head p t) r _ _).delta = _
  rw [block_pos, query_pos]

theorem blk_p : ((ptsOf X r kp vp).blk s p).p t a j = (row X (head p t) r s a).prob j := by
  rw [← Row.prob_of_lse]
  by_cases hs : sees s a j
  · rw [Blk.p, if_pos (show ((ptsOf X r kp vp).blk s p).ok a j from hs), if_pos (show (row X (head p t) r s a).ok j from hs), blk_lse]
    refine congrArg (fun x => Real.exp (x - _)) ?_
    show _ = (∑ d, X.q (tok r s a) (col (head p t) d) * key X.k (head p t) r s j d) * (1 / 8)
    rw [Finset.sum_mul]
    exact Finset.sum_congr rfl fun d _ => by rw [blk_q, blk_k X r kp vp s p t a j d hs]; ring
  · rw [Blk.p, if_neg (show ¬ ((ptsOf X r kp vp).blk s p).ok a j from hs), if_neg (show ¬ (row X (head p t) r s a).ok j from hs)]

theorem prob_unseen (h : Fin 8) (hs : ¬ sees s a j) : (row X h r s a).prob j = 0 := by
  rw [Row.prob, Row.pe, if_neg (show ¬ (row X h r s a).ok j from hs), zero_div]
theorem score_unseen (h : Fin 8) (hs : ¬ sees s a j) : (row X h r s a).ds j = 0 := by
  rw [Row.ds, prob_unseen X r s a j h hs, zero_mul]

theorem blk_ds : ((ptsOf X r kp vp).blk s p).ds t a j = (row X (head p t) r s a).ds j := by
  by_cases hs : sees s a j
  · rw [Blk.ds, blk_p, blk_del, Row.ds]
    refine congrArg (fun x : ℝ => (row X (head p t) r s a).prob j * (x - (row X (head p t) r s a).delta)) ?_
    exact Finset.sum_congr rfl fun d _ => by rw [blk_g, blk_v X r kp vp s p t a j d hs]; rfl
  · rw [Blk.ds, blk_p, score_unseen X r s a j _ hs, prob_unseen X r s a j _ hs, zero_mul]

theorem blk_dq : ((ptsOf X r kp vp).blk s p).dq t a d = dq X (head p t) r s a d := by
  rw [Blk.dq, dq]
  refine congrArg (· * (1 / 8)) (Finset.sum_congr rfl fun j _ => ?_)
  by_cases hs : sees s a j
  · rw [blk_ds, blk_k X r kp vp s p t a j d hs]
  · rw [blk_ds, score_unseen X r s a j _ hs, zero_mul, zero_mul]

theorem blk_dk : ((ptsOf X r kp vp).blk s p).dk t j d = dkPart X (head p t) r s j d := by
  rw [Blk.dk, dkPart, Finset.sum_mul]
  exact Finset.sum_congr rfl fun a _ => by rw [blk_ds, blk_q]; ring

theorem blk_dv : ((ptsOf X r kp vp).blk s p).dv t j d = dvPart X (head p t) r s j d := by
  rw [Blk.dv, dvPart]
  exact Finset.sum_congr rfl fun a _ => by rw [blk_p, blk_g]

theorem outQ_tie : (ptsOf X r kp vp).outQ (pos s a) (pos p (lane t d)) = dq X (head p t) r s a d := by
  rw [outQ_at, blk_dq]
theorem outK_tie : outB (ptsOf X r kp vp).dks (pos s a) (pos p (lane t d)) = dk X (head p t) r s a d := by
  rw [outB_at, dk]
  refine congrArg (fun f => both f s a d) (funext fun s => funext fun j => funext fun d => ?_)
  exact blk_dk X r kp vp s p t j d
theorem outV_tie : outB (ptsOf X r kp vp).dvs (pos s a) (pos p (lane t d)) = dv X (head p t) r s a d := by
  rw [outB_at, dv]
  refine congrArg (fun f => both f s a d) (funext fun s => funext fun j => funext fun d => ?_)
  exact blk_dv X r kp vp s p t j d

end Cert.MixAttn.Ker

end
-- ==== Proof.KerArr.lean ====
/-
  The kernel's three result arrays (untrusted): each grid point's blocks are one residue's numbers, so the arrays it
  leaves are the gradients of the queries, keys and values.
-/
module

public import proofs.«01_k».proof.Proof.Gen.KernelIdeal.Value
public import proofs.«01_k».proof.Proof.KerFwd
public import proofs.«01_k».proof.Proof.KerTie
public import Idealize.ShloMosaic.Lib.Pipeline.ValueKit

@[expose] public section

set_option maxRecDepth 16384

noncomputable section

namespace Cert.MixAttn.Ker

open Idealize.ShloMosaic Idealize.ShloMosaic.TcCoe Idealize.SL.Sem Idealize.ShloMosaic.StableHlo
open Cert.KernelIdeal Cert.KernelIdeal.Gen
open Idealize.ShloMosaic.Pipeline (Dat)

variable (m : (ℓ : Loc nD τ sig) → Buf (Elt Ideal) ℓ) (c : Dev nD)

/-- The arrays a device starts with. -/
abbrev start : Valuation τ sig (Elt Ideal) := fun b => m (c, b)

theorem V_v3 : V m c main_v3 = s3 (start m c) := by unfold V; rw [lines_eq]; exact s3_after _
theorem V_v93 : V m c main_v93 = s93 (start m c) := by unfold V; rw [lines_eq]; exact s93_after _
theorem V_v95 : V m c main_v95 = s95 (start m c) := by unfold V; rw [lines_eq]; exact s95_after _
theorem V_v97 : V m c main_v97 = s97 (start m c) := by unfold V; rw [lines_eq]; exact s97_after _
theorem V_v100 : V m c main_v100 = s100 (start m c) := by unfold V; rw [lines_eq]; exact s100_after _
theorem V_v103 : V m c main_v103 = s103 (start m c) := by unfold V; rw [lines_eq]; exact s103_after _

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] ∧ win0_10.index t = ![0, t.val] :=
  (by decide +kernel : ∀ t : Fin grid0.N, _)

/-- The residue a grid point works on. -/
def res (t : Fin cfg0.N) : Fin 16 := ⟨t.val, t.isLt⟩
def across (r : Fin 16) (l : Fin 512) : Fin 8192 := ⟨r.val * 512 + l.val, by omega⟩
def acrossStat (r : Fin 16) (l : Fin 128) : Fin 2048 := ⟨r.val * 128 + l.val, by omega⟩

variable (t : Fin cfg0.N)

theorem b0 (i l : Fin 512) : (iblk m c 0 t : Vec Ideal S512x512 .bf16) (ix2 i l) = (s3 (start m c) : FVec Ideal S512x8192 .bf16) (ix2 i (across (res t) l)) := by
  rw [← V_v3]
  unfold across res
  blk_ext [iblk, idx t]
theorem b1 (i : Fin 128) (l : Fin 512) : (iblk m c 1 t : Vec Ideal S128x512 .bf16) (ix2 i l)
    = (s93 (start m c) : FVec Ideal S512x8192 .bf16) (ix2 ⟨i.val, by omega⟩ (across (res t) l)) := by
  rw [← V_v93]
  unfold across res
  blk_ext [iblk, idx t]
theorem b2 (i l : Fin 512) : (iblk m c 2 t : Vec Ideal S512x512 .bf16) (ix2 i l) = (s93 (start m c) : FVec Ideal S512x8192 .bf16) (ix2 i (across (res t) l)) := by
  rw [← V_v93]
  unfold across res
  blk_ext [iblk, idx t]
theorem b3 (i : Fin 128) (l : Fin 512) : (iblk m c 3 t : Vec Ideal S128x512 .bf16) (ix2 i l)
    = (s95 (start m c) : FVec Ideal S512x8192 .bf16) (ix2 ⟨i.val, by omega⟩ (across (res t) l)) := by
  rw [← V_v95]
  unfold across res
  blk_ext [iblk, idx t]
theorem b4 (i l : Fin 512) : (iblk m c 4 t : Vec Ideal S512x512 .bf16) (ix2 i l) = (s95 (start m c) : FVec Ideal S512x8192 .bf16) (ix2 i (across (res t) l)) := by
  rw [← V_v95]
  unfold across res
  blk_ext [iblk, idx t]
theorem b5 (i l : Fin 512) : (iblk m c 5 t : Vec Ideal S512x512 .bf16) (ix2 i l) = (s97 (start m c) : FVec Ideal S512x8192 .bf16) (ix2 i (across (res t) l)) := by
  rw [← V_v97]
  unfold across res
  blk_ext [iblk, idx t]
theorem b6 (i : Fin 512) (l : Fin 128) : (iblk m c 6 t : Vec Ideal S512x128 .f32) (ix2 i l)
    = (s100 (start m c) : FVec Ideal S512x2048 .f32) (ix2 i (acrossStat (res t) l)) := by
  rw [← V_v100]
  unfold acrossStat res
  blk_ext [iblk, idx t]
theorem b7 (i : Fin 512) (l : Fin 128) : (iblk m c 7 t : Vec Ideal S512x128 .f32) (ix2 i l)
    = (s103 (start m c) : FVec Ideal S512x2048 .f32) (ix2 i (acrossStat (res t) l)) := by
  rw [← V_v103]
  unfold acrossStat res
  blk_ext [iblk, idx t]

theorem place_of (i : Fin 512) : i = place ⟨i.val / 128, by omega⟩ ⟨i.val % 128, by omega⟩ :=
  Fin.ext (by show i.val = i.val / 128 * 128 + i.val % 128; omega)
theorem chan_of (r : Fin 16) (l : Fin 512) : across r l = chan r ⟨l.val / 64, by omega⟩ ⟨l.val % 64, by omega⟩ :=
  Fin.ext (by show r.val * 512 + l.val = r.val * 512 + l.val / 64 * 64 + l.val % 64; omega)
theorem tok_of (r : Fin 16) (i : Fin 512) : tok r ⟨i.val / 128, by omega⟩ ⟨i.val % 128, by omega⟩ = (⟨i.val * 16 + r.val, by omega⟩ : Fin 8192) :=
  Fin.ext (by show (i.val / 128 * 128 + i.val % 128) * 16 + r.val = i.val * 16 + r.val; omega)
theorem col_of (l : Fin 512) : col ⟨l.val / 64, by omega⟩ ⟨l.val % 64, by omega⟩ = l :=
  Fin.ext (by show l.val / 64 * 64 + l.val % 64 = l.val; omega)
theorem slot_of (r : Fin 16) (h : Fin 8) : acrossStat r ⟨16 * h.val, by omega⟩ = slot r h :=
  Fin.ext (by show r.val * 128 + 16 * h.val = r.val * 128 + h.val * 16; omega)

variable {X : Args} (H : Holds X (start m c))

/-- An array by position and channel, from its elements by head. -/
theorem spread (x : FVec Ideal S512x8192 .bf16) (f : Fin 8192 → Fin 512 → ℝ)
    (hx : ∀ h r n a d, x (ix2 (place n a) (chan r h d)) = ((f (tok r n a) (col h d) : ℝ) : EReal)) (r : Fin 16) (i l : Fin 512) :
    x (ix2 i (across r l)) = ((f ⟨i.val * 16 + r.val, by omega⟩ l : ℝ) : EReal) := by
  have e := hx ⟨l.val / 64, by omega⟩ r ⟨i.val / 128, by omega⟩ ⟨i.val % 128, by omega⟩ ⟨l.val % 64, by omega⟩
  rw [← place_of, ← chan_of, tok_of, col_of] at e
  exact e

include H in
theorem reads : Reads (ptsOf X (res t) (fun i l => X.k ⟨i.val * 16 + (res t).val, by omega⟩ l) (fun i l => X.v ⟨i.val * 16 + (res t).val, by omega⟩ l))
    (iblk m c 0 t) (iblk m c 1 t) (iblk m c 2 t) (iblk m c 3 t) (iblk m c 4 t) (iblk m c 5 t) (iblk m c 6 t) (iblk m c 7 t) where
  q i l := (b0 m c t i l).trans (spread _ (fun s c => X.q s c * (1 / 8)) (s3_at H) _ _ _)
  kp i l := (b1 m c t i l).trans (spread _ X.k (s93_at H) _ _ _)
  k i l := (b2 m c t i l).trans (spread _ X.k (s93_at H) _ _ _)
  vp i l := (b3 m c t i l).trans (spread _ X.v (s95_at H) _ _ _)
  v i l := (b4 m c t i l).trans (spread _ X.v (s95_at H) _ _ _)
  g i l := (b5 m c t i l).trans (spread _ X.g (s97_at H) _ _ _)
  lse h i := (b6 m c t i _).trans (by
    have e := s100_at H h (res t) ⟨i.val / 128, by omega⟩ ⟨i.val % 128, by omega⟩
    rw [← place_of, ← slot_of] at e
    exact e)
  del h i := (b7 m c t i _).trans (by
    have e := s103_at H h (res t) ⟨i.val / 128, by omega⟩ ⟨i.val % 128, by omega⟩
    rw [← place_of, ← slot_of] at e
    exact e)

/-- An array of the results' shape from its elements by residue, position and channel. -/
def gathered (f : Fin 16 → Fin 512 → Fin 512 → ℝ) : FVec Ideal S512x8192 .bf16 :=
  fun i => ((f ⟨(i 1).val / 512, by have : (i 1).val < 8192 := (i 1).isLt; omega⟩ (i 0) ⟨(i 1).val % 512, by omega⟩ : ℝ) : EReal)

/-- Residue `r`'s numbers, with the keys before its first block as the launch reads them. -/
def numbers (X : Args) (r : Fin 16) : Pts :=
  ptsOf X r (fun i l => X.k ⟨i.val * 16 + r.val, by omega⟩ l) (fun i l => X.v ⟨i.val * 16 + r.val, by omega⟩ l)

theorem gathered_at (f : Fin 16 → Fin 512 → Fin 512 → ℝ) (i : S512x8192.Idx) (r : Fin 16) (j l : Fin 512) (e0 : (i 0).val = j.val) (e1 : (i 1).val = r.val * 512 + l.val) :
    gathered f i = ((f r j l : ℝ) : EReal) := by
  unfold gathered
  rw [show (⟨(i 1).val / 512, by omega⟩ : Fin 16) = r from Fin.ext (by show (i 1).val / 512 = r.val; omega), show (i 0 : Fin 512) = j from Fin.ext e0,
    show (⟨(i 1).val % 512, by omega⟩ : Fin 512) = l from Fin.ext (by show (i 1).val % 512 = l.val; omega)]

include H in
theorem final8 : (dats m 0 c).arrAt 8 cfg0.N = gathered fun r => (numbers X r).outQ := by
  refine (dats m 0 c).arrAt_eq_of_covers 8 _ (by decide +kernel) fun t hf y => ?_
  blk_simp
  rw [after0_8]
  refine (out8_at (reads m c t H) _ _).trans (gathered_at (fun r => (numbers X r).outQ) ((win0_8.blk t).view.emb y) (res t) (y 0) (y 1) ?_ ?_).symm
  · blk_simp [idx t] <;> try omega
  · blk_simp [idx t, res] <;> try omega
include H in
theorem final9 : (dats m 0 c).arrAt 9 cfg0.N = gathered fun r => outB (numbers X r).dks := by
  refine (dats m 0 c).arrAt_eq_of_covers 9 _ (by decide +kernel) fun t hf y => ?_
  blk_simp
  rw [after0_9]
  refine (out9_at (reads m c t H) _ _).trans (gathered_at (fun r => outB (numbers X r).dks) ((win0_9.blk t).view.emb y) (res t) (y 0) (y 1) ?_ ?_).symm
  · blk_simp [idx t] <;> try omega
  · blk_simp [idx t, res] <;> try omega
include H in
theorem final10 : (dats m 0 c).arrAt 10 cfg0.N = gathered fun r => outB (numbers X r).dvs := by
  refine (dats m 0 c).arrAt_eq_of_covers 10 _ (by decide +kernel) fun t hf y => ?_
  blk_simp
  rw [after0_10]
  refine (out10_at (reads m c t H) _ _).trans (gathered_at (fun r => outB (numbers X r).dvs) ((win0_10.blk t).view.emb y) (res t) (y 0) (y 1) ?_ ?_).symm
  · blk_simp [idx t] <;> try omega
  · blk_simp [idx t, res] <;> try omega

/-- Every index is a position of a block and a channel of a residue's head. -/
theorem index_of (i : S512x8192.Idx) : ∃ (r : Fin 16) (s p : Fin 4) (t : Fin 2) (a : Fin 128) (d : Fin 64),
    i = ix2 ⟨s.val * 128 + a.val, by omega⟩ ⟨r.val * 512 + (head p t).val * 64 + d.val, by omega⟩ := by
  have h0 : (i 0).val < 512 := (i 0).isLt
  have h1 : (i 1).val < 8192 := (i 1).isLt
  refine ⟨⟨(i 1).val / 512, by omega⟩, ⟨(i 0).val / 128, by omega⟩, ⟨(i 1).val % 512 / 128, by omega⟩, ⟨(i 1).val % 128 / 64, by omega⟩,
    ⟨(i 0).val % 128, by omega⟩, ⟨(i 1).val % 64, by omega⟩, ?_⟩
  refine (eq_ix2 i).trans ?_
  refine congrArg₂ ix2 (Fin.ext ?_) (Fin.ext ?_)
  · show (i 0).val = (i 0).val / 128 * 128 + (i 0).val % 128; omega
  · show (i 1).val = (i 1).val / 512 * 512 + (2 * ((i 1).val % 512 / 128) + (i 1).val % 128 / 64) * 64 + (i 1).val % 64; omega

variable (r : Fin 16) (s p : Fin 4) (u : Fin 2) (a : Fin 128) (d : Fin 64)

theorem at_pos (f : Fin 16 → Fin 512 → Fin 512 → ℝ) :
    gathered f (ix2 ⟨s.val * 128 + a.val, by omega⟩ ⟨r.val * 512 + (head p u).val * 64 + d.val, by omega⟩)
      = ((f r (pos s a) (pos p (lane u d)) : ℝ) : EReal) :=
  gathered_at f _ r _ _ (by show s.val * 128 + a.val = 128 * s.val + a.val; omega)
    (by show r.val * 512 + (2 * p.val + u.val) * 64 + d.val = r.val * 512 + (128 * p.val + (64 * u.val + d.val)); omega)

end Cert.MixAttn.Ker

end
-- ==== Proof.RefFwd.lean ====
/-
  The reference's forward stages at an index (untrusted): each named array of the reference's run, read at the head,
  residue, block, query and key, is the real number `Rows` and `RowMath` name, when the arguments are real.
-/
module

public import proofs.«01_k».proof.Proof.Gen.ReferenceIdeal.Run
public import proofs.«01_k».proof.Proof.Mask
public import proofs.«01_k».proof.Proof.Reduce6
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn

open Idealize.ShloMosaic Idealize.ShloMosaic.TcCoe Idealize.SL.Sem Idealize.ShloMosaic.StableHlo
open Cert.ReferenceIdeal Cert.ReferenceIdeal.Gen Cert.ReferenceIdeal.Value

/-- The reference's arguments are the real arrays `X`. -/
structure Holds (X : Args) (V0 : Valuation τ sig (Elt Ideal)) : Prop where
  q : ∀ s c, (V0 (Proc.devRef .tc main_arg0) : FVec Ideal S8192x512 .f32) (ix2 s c) = ((X.q s c : ℝ) : EReal)
  k : ∀ s c, (V0 (Proc.devRef .tc main_arg1) : FVec Ideal S8192x512 .f32) (ix2 s c) = ((X.k s c : ℝ) : EReal)
  v : ∀ s c, (V0 (Proc.devRef .tc main_arg2) : FVec Ideal S8192x512 .f32) (ix2 s c) = ((X.v s c : ℝ) : EReal)
  g : ∀ s c, (V0 (Proc.devRef .tc main_arg3) : FVec Ideal S8192x512 .f32) (ix2 s c) = ((X.g s c : ℝ) : EReal)
  o1 : ∀ h s d, (V0 (Proc.devRef .tc main_arg4) : FVec Ideal S1x8x8192x64 .f32) (ix4 0 h s d) = ((X.o1 h s d : ℝ) : EReal)
  l1 : ∀ h s, (V0 (Proc.devRef .tc main_arg5) : FVec Ideal S1x8x8192 .f32) (ix3 0 h s) = ((X.l1 h s : ℝ) : EReal)
  o4 : ∀ h s d, (V0 (Proc.devRef .tc main_arg6) : FVec Ideal S1x8x8192x64 .f32) (ix4 0 h s d) = ((X.o4 h s d : ℝ) : EReal)
  l4 : ∀ h s, (V0 (Proc.devRef .tc main_arg7) : FVec Ideal S1x8x8192 .f32) (ix3 0 h s) = ((X.l4 h s : ℝ) : EReal)

variable {X : Args} {V0 : Valuation τ sig (Elt Ideal)} (H : Holds X V0)
variable (h : Fin 8) (r : Fin 16) (n : Fin 4) (a : Fin 128) (j : Fin 256) (d : Fin 64)

include H in
theorem v8_at : (res_main_v8 V0 : FVec Ideal S1x8x16x4x128x64 .f32) (ix6 0 h r n a d)
    = ((X.q (tok r n a) (col h d) : ℝ) : EReal) := by
  rw [← H.q]
  unfold res_main_v8 tok col
  clean_types
  pointwise

include H in
theorem v18_at : (res_main_v18 V0 : FVec Ideal S1x8x16x4x256x64 .f32) (ix6 0 h r n j d)
    = ((key X.k h r n j d : ℝ) : EReal) := by
  have e := H.k
  unfold res_main_v18 res_main_v12 key col
  clean_types
  pointwise
  split_ifs
  all_goals try (exfalso; omega)
  all_goals first | rfl | (rw [e]; done) | (rw [e]; congr 3; simp only [Fin.mk.injEq]; omega) | (rw [dif_neg (show ¬ n.val * 128 + j.val < 128 by omega), e]; congr 3; omega)

include H in
theorem v28_at : (res_main_v28 V0 : FVec Ideal S1x8x16x4x256x64 .f32) (ix6 0 h r n j d)
    = ((key X.v h r n j d : ℝ) : EReal) := by
  have e := H.v
  unfold res_main_v28 res_main_v22 key col
  clean_types
  pointwise
  split_ifs
  all_goals try (exfalso; omega)
  all_goals first | rfl | (rw [e]; done) | (rw [e]; congr 3; simp only [Fin.mk.injEq]; omega) | (rw [dif_neg (show ¬ n.val * 128 + j.val < 128 by omega), e]; congr 3; omega)

theorem v621_at : (res_main_v62_1 V0 : IVec S1x8x16x4x128x256 1) (ix6 0 h r n a j)
    = BitVec.ofBool (decide (sees n a j)) := by
  unfold res_main_v62_1 res_main_v42 res_main_v35
  clean_types
  pointwise
  exact mask_word n a j

include H in
theorem v620_at : (res_main_v62_0 V0 : FVec Ideal S1x8x16x4x128x256 .f32) (ix6 0 h r n a j)
    = if sees n a j then (((row X h r n a).sc j : ℝ) : EReal) else ⊥ := by
  have e1 := fun d => v8_at H h r n a d
  have e2 := fun d => v18_at H h r n j d
  have e3 := v621_at (V0 := V0) h r n a j
  unfold res_main_v62_0
  clean_types
  pointwise [id]
  simp only [e1, e2, e3, minus_infinity, eighth, ← EReal.coe_mul, ← coe_sum, Scalar.select_ofBool, decide_eq_true_eq]
  rfl

/-- The row's greatest score, as a real number. -/
def rowMax (V0 : Valuation τ sig (Elt Ideal)) (h : Fin 8) (r : Fin 16) (n : Fin 4) (a : Fin 128) : ℝ :=
  ((res_main_v63 V0 : FVec Ideal S1x8x16x4x128 .f32) (ix5 0 h r n a)).toReal

include H in
theorem v63_at : (res_main_v63 V0 : FVec Ideal S1x8x16x4x128 .f32) (ix5 0 h r n a)
    = ((rowMax V0 h r n a : ℝ) : EReal) := by
  have e1 := fun j => v620_at H h r n a j
  unfold rowMax
  have e : (res_main_v63 V0 : FVec Ideal S1x8x16x4x128 .f32) (ix5 0 h r n a)
      = (Finset.univ : Finset (Fin 256)).fold max ⊥ fun j => if sees n a j then (((row X h r n a).sc j : ℝ) : EReal) else ⊥ := by
    unfold res_main_v63
    clean_types
    pointwise [minus_infinity, fold_last6]
    simp only [e1]
  rw [e]
  symm
  apply fold_max_real
  · intro j _; split
    · exact EReal.coe_ne_top _
    · exact bot_ne_top
  · obtain ⟨j, hj⟩ := row_ok X h r n a
    exact ⟨j, Finset.mem_univ _, by rw [if_pos (show sees n a j from hj)]; exact EReal.coe_ne_bot _⟩

include H in
theorem v69_at : (res_main_v69 V0 : FVec Ideal S1x8x16x4x128x1 .f32) (ix6 0 h r n a 0) = ((rowMax V0 h r n a : ℝ) : EReal) := by
  have e1 := v63_at H h r n a
  unfold res_main_v69
  clean_types
  pointwise
  exact e1

include H in
theorem v72_at : (res_main_v72 V0 : FVec Ideal S1x8x16x4x128x256 .f32) (ix6 0 h r n a j)
    = (((row X h r n a).p (rowMax V0 h r n a) j : ℝ) : EReal) := by
  have e1 := v620_at H h r n a j
  have e2 := v69_at H h r n a
  unfold res_main_v72
  clean_types
  pointwise
  rw [e1, e2, Row.p]
  by_cases hs : sees n a j
  · rw [if_pos hs, if_pos (show (row X h r n a).ok j from hs), ← EReal.coe_sub, Ideal.exp_coe]
  · rw [if_neg hs, if_neg (show ¬ (row X h r n a).ok j from hs), EReal.bot_sub, Ideal.exp_bot, EReal.coe_zero]

include H in
theorem v74_at : (res_main_v74 V0 : FVec Ideal S1x8x16x4x128x1 .f32) (ix6 0 h r n a 0)
    = (((row X h r n a).den (rowMax V0 h r n a) : ℝ) : EReal) := by
  have e1 := v72_at H h r n a
  unfold res_main_v74
  clean_types
  pointwise [sum_last6]
  simp only [e1, ← coe_sum]
  rfl

include H in
theorem v75_at : (res_main_v75 V0 : FVec Ideal S1x8x16x4x128x64 .f32) (ix6 0 h r n a d)
    = (((row X h r n a).pv (rowMax V0 h r n a) d : ℝ) : EReal) := by
  have e1 := v72_at H h r n a
  have e2 := fun j => v28_at H h r n j d
  unfold res_main_v75
  clean_types
  pointwise
  simp only [e1, e2, ← EReal.coe_mul, ← coe_sum]
  rfl

end Cert.MixAttn
end
-- ==== Proof.RefMix.lean ====
/-
  The reference's mixture stages at an index (untrusted): the three log-sums, their softmax's parts and the stacked
  outputs, as the real numbers of `RowMath`.
-/
module

public import proofs.«01_k».proof.Proof.RefFwd
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn

open Idealize.ShloMosaic Idealize.ShloMosaic.TcCoe Idealize.SL.Sem Idealize.ShloMosaic.StableHlo
open Cert.ReferenceIdeal Cert.ReferenceIdeal.Gen Cert.ReferenceIdeal.Value

variable {X : Args} {V0 : Valuation τ sig (Elt Ideal)} (H : Holds X V0)
variable (h : Fin 8) (r : Fin 16) (n : Fin 4) (a : Fin 128) (j : Fin 256) (d : Fin 64)

theorem add_log_at {s : Shape} (x y : FVec Ideal s .f32) (i : s.Idx) :
    addf x (Host.log y) i = ((x i : EReal) + Ideal.log (y i) : EReal) := rfl

/-- A token's place among the residues. -/
theorem residues_at (x : FVec Ideal S1x8x16x512 .f32) :
    (shapeCast S1x8x8192 (transpose S1x8x512x16 [0, 1, 3, 2] x transposes_S1x8x16x512_S1x8x512x16_0_1_3_2) shapeCasts_S1x8x512x16_S1x8x8192 : FVec Ideal S1x8x8192 .f32)
      (ix3 0 h (tok r n a)) = x (ix4 0 h r ⟨n.val * 128 + a.val, by omega⟩) := by
  unfold tok
  pointwise
  congr 2
  refine Fin.ext ?_
  show ((n.val * 128 + a.val) * 16 + r.val) / 16 = n.val * 128 + a.val
  omega

/-- A position's block. -/
theorem blocks_at (x : FVec Ideal S1x8x16x4x128x1 .f32) :
    (shapeCast S1x8x16x512 (shapeCast S1x8x16x4x128 x shapeCasts_S1x8x16x4x128x1_S1x8x16x4x128) shapeCasts_S1x8x16x4x128_S1x8x16x512 : FVec Ideal S1x8x16x512 .f32)
      (ix4 0 h r ⟨n.val * 128 + a.val, by omega⟩) = x (ix6 0 h r n a 0) := by
  pointwise

/-- The third of three stacked arrays. -/
theorem third_at (u0 u1 u2 : FVec Ideal S1x8x8192 .f32) (s : Fin 8192) :
    (concatenate S3x1x8x8192 0 [⟨S1x1x8x8192, ((broadcastInDim S1x1x8x8192 ![1, 2, 3] bcast_S1x8x8192_S1x1x8x8192_1_2_3 u0) : (⟨S1x1x8x8192, .f32⟩ : BufTy).Contents (Elt Ideal))⟩, ⟨S1x1x8x8192, ((broadcastInDim S1x1x8x8192 ![1, 2, 3] bcast_S1x8x8192_S1x1x8x8192_1_2_3 u1) : (⟨S1x1x8x8192, .f32⟩ : BufTy).Contents (Elt Ideal))⟩, ⟨S1x1x8x8192, ((broadcastInDim S1x1x8x8192 ![1, 2, 3] bcast_S1x8x8192_S1x1x8x8192_1_2_3 u2) : (⟨S1x1x8x8192, .f32⟩ : BufTy).Contents (Elt Ideal))⟩] concatenates_S1x1x8x8192_S1x1x8x8192_S1x1x8x8192_S3x1x8x8192_d0 : FVec Ideal S3x1x8x8192 .f32)
      (ix4 2 0 h s) = u2 (ix3 0 h s) := by
  pointwise

include H in
theorem v93_0 : (res_main_v93 V0 : FVec Ideal S3x1x8x8192 .f32) (ix4 0 0 h (tok r n a)) = (((row X h r n a).l1 : ℝ) : EReal) := by
  have f1 := H.l1
  unfold res_main_v93 tok
  clean_types
  pointwise
  exact f1 _ _

include H in
theorem v93_1 : (res_main_v93 V0 : FVec Ideal S3x1x8x8192 .f32) (ix4 1 0 h (tok r n a)) = (((row X h r n a).l4 : ℝ) : EReal) := by
  have f1 := H.l4
  unfold res_main_v93 tok
  clean_types
  pointwise
  exact f1 _ _

include H in
theorem v93_2 : (res_main_v93 V0 : FVec Ideal S3x1x8x8192 .f32) (ix4 2 0 h (tok r n a))
    = (((row X h r n a).lse (rowMax V0 h r n a) : ℝ) : EReal) := by
  have e1 := v69_at H h r n a
  have e2 := v74_at H h r n a
  unfold res_main_v93
  clean_types
  rw [third_at, residues_at, blocks_at, add_log_at]
  rw [e1, e2, log_real _ ((row X h r n a).den_pos (row_ok X h r n a) _), ← EReal.coe_add]
  rfl

include H in
theorem v93_at (i : Fin 3) : (res_main_v93 V0 : FVec Ideal S3x1x8x8192 .f32) (ix4 i 0 h (tok r n a))
    = ((![(row X h r n a).l1, (row X h r n a).l4, (row X h r n a).lse (rowMax V0 h r n a)] i : ℝ) : EReal) := by
  fin_cases i
  · exact v93_0 H h r n a
  · exact v93_1 H h r n a
  · exact v93_2 H h r n a

/-- The greatest of the three log-sums of a token, as a real number. -/
def lseMax (V0 : Valuation τ sig (Elt Ideal)) (h : Fin 8) (s : Fin 8192) : ℝ :=
  ((res_main_v96 V0 : FVec Ideal S1x8x8192 .f32) (ix3 0 h s)).toReal

include H in
theorem v96_at : (res_main_v96 V0 : FVec Ideal S1x8x8192 .f32) (ix3 0 h (tok r n a))
    = ((lseMax V0 h (tok r n a) : ℝ) : EReal) := by
  have e1 := v93_at H h r n a
  have e : (res_main_v96 V0 : FVec Ideal S1x8x8192 .f32) (ix3 0 h (tok r n a))
      = (Finset.univ : Finset (Fin 3)).fold max ⊥ fun i =>
        ((![(row X h r n a).l1, (row X h r n a).l4, (row X h r n a).lse (rowMax V0 h r n a)] i : ℝ) : EReal) := by
    unfold res_main_v96
    clean_types
    pointwise [minus_infinity]
    simp only [e1]
  unfold lseMax
  rw [e]
  symm
  exact fold_max_real _ _ (fun _ _ => EReal.coe_ne_top _) ⟨0, Finset.mem_univ _, EReal.coe_ne_bot _⟩

include H in
theorem v116_at (i : Fin 3) : (res_main_v116 V0 : FVec Ideal S3x1x8x8192 .f32) (ix4 i 0 h (tok r n a))
    = ((![(row X h r n a).e1 (lseMax V0 h (tok r n a)), (row X h r n a).e4 (lseMax V0 h (tok r n a)),
        (row X h r n a).e16 (rowMax V0 h r n a) (lseMax V0 h (tok r n a))] i : ℝ) : EReal) := by
  have e1 := v93_at H h r n a
  have e2 := v96_at H h r n a
  unfold res_main_v116
  clean_types
  pointwise [minus_infinity]
  rw [e1, e2, max_eq_right bot_le, ← EReal.coe_sub, Ideal.exp_coe]
  fin_cases i <;> rfl

include H in
theorem v118_at : (res_main_v118 V0 : FVec Ideal S1x1x8x8192 .f32) (ix4 0 0 h (tok r n a))
    = (((row X h r n a).esum (rowMax V0 h r n a) (lseMax V0 h (tok r n a)) : ℝ) : EReal) := by
  have e1 := v116_at H h r n a
  unfold res_main_v118
  clean_types
  pointwise
  simp only [e1, ← coe_sum, Fin.sum_univ_three]
  rfl

include H in
theorem v124_at : (res_main_v124 V0 : FVec Ideal S3x1x8x8192x1 .f32) (ix5 2 0 h (tok r n a) 0)
    = (((row X h r n a).e16 (rowMax V0 h r n a) (lseMax V0 h (tok r n a))
        / (row X h r n a).esum (rowMax V0 h r n a) (lseMax V0 h (tok r n a)) : ℝ) : EReal) := by
  have e1 := v116_at H h r n a 2
  have e2 := v118_at H h r n a
  unfold res_main_v124
  clean_types
  pointwise
  rw [e1, e2, div_real _ _ ((row X h r n a).esum_pos (row_ok X h r n a) _ _).ne']
  rfl

include H in
theorem v128_0 : (res_main_v128 V0 : FVec Ideal S3x1x8x8192x64 .f32) (ix5 0 0 h (tok r n a) d)
    = (((row X h r n a).o1 d : ℝ) : EReal) := by
  have e1 := H.o1
  unfold res_main_v128 tok
  clean_types
  pointwise
  exact e1 _ _ _

include H in
theorem v128_1 : (res_main_v128 V0 : FVec Ideal S3x1x8x8192x64 .f32) (ix5 1 0 h (tok r n a) d)
    = (((row X h r n a).o4 d : ℝ) : EReal) := by
  have e1 := H.o4
  unfold res_main_v128 tok
  clean_types
  pointwise
  exact e1 _ _ _

include H in
theorem v128_2 : (res_main_v128 V0 : FVec Ideal S3x1x8x8192x64 .f32) (ix5 2 0 h (tok r n a) d)
    = (((row X h r n a).out (rowMax V0 h r n a) d : ℝ) : EReal) := by
  have e1 := v75_at H h r n a d
  have e2 := v74_at H h r n a
  unfold res_main_v128 tok
  clean_types
  pointwise
  rw [e1, e2, div_real _ _ ((row X h r n a).den_pos (row_ok X h r n a) _).ne']
  rfl

include H in
theorem v128_at (i : Fin 3) : (res_main_v128 V0 : FVec Ideal S3x1x8x8192x64 .f32) (ix5 i 0 h (tok r n a) d)
    = ((![(row X h r n a).o1, (row X h r n a).o4, (row X h r n a).out (rowMax V0 h r n a)] i d : ℝ) : EReal) := by
  fin_cases i
  · exact v128_0 H h r n a d
  · exact v128_1 H h r n a d
  · exact v128_2 H h r n a d

end Cert.MixAttn
end
-- ==== Proof.RefBwd.lean ====
/-
  The reference's backward stages at an index (untrusted): the mixture's chain rule, then the pattern's own, as the
  real numbers of `RowMath`.
-/
module

public import proofs.«01_k».proof.Proof.RefMix
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn

open Idealize.ShloMosaic Idealize.ShloMosaic.TcCoe Idealize.SL.Sem Idealize.ShloMosaic.StableHlo
open Cert.ReferenceIdeal Cert.ReferenceIdeal.Gen Cert.ReferenceIdeal.Value

variable {X : Args} {V0 : Valuation τ sig (Elt Ideal)} (H : Holds X V0)
variable (h : Fin 8) (r : Fin 16) (n : Fin 4) (a : Fin 128) (j : Fin 256) (d : Fin 64)

theorem one_over (y : ℝ) (hy : y ≠ 0) : Ideal.div 1 (y : EReal) = ((1 / y : ℝ) : EReal) := div_real 1 y hy

theorem zero_word : Ideal.ofBits .f32 0x00000000#32 = ((0 : ℝ) : EReal) := by
  simp [Ideal.ofBits, Ideal.ieee]

include H in
theorem v138_at (i : Fin 3) : (res_main_v138 V0 : FVec Ideal S3x1x8x8192x64 .f32) (ix5 i 0 h (tok r n a) d)
    = (((row X h r n a).g d : ℝ) : EReal) := by
  have e1 := H.g
  unfold res_main_v138
  clean_types
  pointwise
  exact e1 _ _

include H in
theorem v140_2 : (res_main_v140 V0 : FVec Ideal S3x1x8x8192x64 .f32) (ix5 2 0 h (tok r n a) d)
    = (((row X h r n a).co (rowMax V0 h r n a) (lseMax V0 h (tok r n a)) d : ℝ) : EReal) := by
  have e1 := v138_at H h r n a d 2
  have e2 := v124_at H h r n a
  unfold res_main_v140
  clean_types
  pointwise
  rw [e1, e2, ← EReal.coe_mul]
  rfl

include H in
theorem v151_at (i : Fin 3) : (res_main_v151 V0 : FVec Ideal S3x1x8x8192 .f32) (ix4 i 0 h (tok r n a))
    = ((Row.dw (row X h r n a).g (![(row X h r n a).o1, (row X h r n a).o4, (row X h r n a).out (rowMax V0 h r n a)] i) : ℝ) : EReal) := by
  have e1 := fun d => v138_at H h r n a d i
  have e2 := fun d => v128_at H h r n a d i
  unfold res_main_v151
  clean_types
  pointwise [sum_units5]
  simp only [e1, e2, ← EReal.coe_mul, ← coe_sum]
  fin_cases i <;> rfl

include H in
theorem v164_2 : (res_main_v164 V0 : FVec Ideal S3x1x8x8192 .f32) (ix4 2 0 h (tok r n a))
    = (((row X h r n a).dl (rowMax V0 h r n a) (lseMax V0 h (tok r n a)) : ℝ) : EReal) := by
  have e1 := v151_at H h r n a
  have e2 := v118_at H h r n a
  have e3 := v116_at H h r n a
  have hz := ((row X h r n a).esum_pos (row_ok X h r n a) (rowMax V0 h r n a) (lseMax V0 h (tok r n a))).ne'
  unfold res_main_v164
  clean_types
  pointwise [sum_units4]
  simp only [e1, e2, e3, zero_word, ← EReal.coe_mul, ← EReal.coe_add, ← EReal.coe_neg, div_real _ _ hz, one_over _ (mul_ne_zero hz hz), ← coe_sum, Fin.sum_univ_three]
  unfold Row.dl
  rfl

include H in
theorem v176_at : (res_main_v176 V0 : FVec Ideal S1x8x16x4x128x64 .f32) (ix6 0 h r n a d)
    = (((row X h r n a).co (rowMax V0 h r n a) (lseMax V0 h (tok r n a)) d : ℝ) : EReal) := by
  have e1 := v140_2 H h r n a d
  unfold res_main_v176
  clean_types
  pointwise
  exact e1

include H in
theorem v177_at : (res_main_v177 V0 : FVec Ideal S1x8x16x4x128x1 .f32) (ix6 0 h r n a 0)
    = (((row X h r n a).dl (rowMax V0 h r n a) (lseMax V0 h (tok r n a)) : ℝ) : EReal) := by
  have e1 := v164_2 H h r n a
  unfold res_main_v177
  clean_types
  pointwise
  exact e1

include H in
theorem v187_at : (res_main_v187 V0 : FVec Ideal S1x8x16x4x128x64 .f32) (ix6 0 h r n a d)
    = (((row X h r n a).co (rowMax V0 h r n a) (lseMax V0 h (tok r n a)) d / (row X h r n a).den (rowMax V0 h r n a) : ℝ) : EReal) := by
  have e1 := v176_at H h r n a d
  have e2 := v74_at H h r n a
  unfold res_main_v187
  clean_types
  pointwise
  rw [e1, e2, div_real _ _ ((row X h r n a).den_pos (row_ok X h r n a) _).ne']

include H in
theorem v189_at : (res_main_v189 V0 : FVec Ideal S1x8x16x4x256x64 .f32) (ix6 0 h r n j d)
    = ((dvPart X h r n j d : ℝ) : EReal) := by
  have e1 := fun a => v187_at H h r n a d
  have e2 := fun a => v72_at H h r n a j
  unfold res_main_v189
  clean_types
  pointwise
  simp only [e1, e2, ← EReal.coe_mul, ← coe_sum]
  refine congrArg _ (Finset.sum_congr rfl fun a _ => ?_)
  rw [← (row X h r n a).prob_eq (row_ok X h r n a) (rowMax V0 h r n a) (lseMax V0 h (tok r n a)), Row.co]
  show _ = _ * (row X h r n a).g d
  ring

theorem mul_at {s : Shape} (x y : FVec Ideal s .f32) (i : s.Idx) : mulf x y i = ((x i : EReal) * (y i : EReal) : EReal) := rfl
theorem sum_at {s : Shape} (x y : FVec Ideal s .f32) (i : s.Idx) : addf x y i = ((x i : EReal) + (y i : EReal) : EReal) := rfl
theorem neg_at {s : Shape} (x : FVec Ideal s .f32) (i : s.Idx) : Host.negf x i = (-(x i : EReal) : EReal) := rfl
theorem quot_at {s : Shape} (x y : FVec Ideal s .f32) (i : s.Idx) : Host.divf x y i = Ideal.div (x i) (y i) := rfl

/-- One number for each row, read at any of the row's keys. -/
theorem row_value_at (x : FVec Ideal S1x8x16x4x128x1 .f32) :
    (broadcastInDim S1x8x16x4x128x256 ![0, 1, 2, 3, 4] bcast_S1x8x16x4x128_S1x8x16x4x128x256_0_1_2_3_4 (broadcastInDim S1x8x16x4x128 ![1, 2, 3, 4] bcast_S8x16x4x128_S1x8x16x4x128_1_2_3_4 (Host.reduceAdd x (constant S_ .f32 0x00000000#32) reducesTo_S1x8x16x4x128x1_S8x16x4x128_d0_5 h_S_)) : FVec Ideal S1x8x16x4x128x256 .f32)
      (ix6 0 h r n a j) = x (ix6 0 h r n a 0) := by
  pointwise [sum_ends6]

/-- The sum over a row's channels. -/
theorem row_sum_at (x : FVec Ideal S1x8x16x4x128x64 .f32) :
    (shapeCast S1x8x16x4x128x1 (Host.reduceAdd x (constant S_ .f32 0x00000000#32) reducesTo_S1x8x16x4x128x64_S1x8x16x4x128_d5 h_S_) shapeCasts_S1x8x16x4x128_S1x8x16x4x128x1 : FVec Ideal S1x8x16x4x128x1 .f32)
      (ix6 0 h r n a 0) = ∑ d : Fin 64, (x (ix6 0 h r n a d) : EReal) := by
  pointwise [sum_last6]

/-- One over a row's number, read at any channel. -/
theorem row_inverse_at (x : FVec Ideal S1x8x16x4x128x1 .f32) :
    (broadcastInDim S1x8x16x4x128x64 ![0, 1, 2, 3, 4, 5] bcast_S1x8x16x4x128x1_S1x8x16x4x128x64_0_1_2_3_4_5 (Host.divf (broadcastInDim S1x8x16x4x128x1 ![] bcast_S_S1x8x16x4x128x1 (constant S_ .f32 0x3F800000#32)) x) : FVec Ideal S1x8x16x4x128x64 .f32)
      (ix6 0 h r n a d) = Ideal.div 1 (x (ix6 0 h r n a 0)) := by
  pointwise

/-- The sum over a row's channels of a product with one over a row's number. -/
theorem row_scaled_at (x y : FVec Ideal S1x8x16x4x128x64 .f32) (w : FVec Ideal S1x8x16x4x128x1 .f32) :
    (shapeCast S1x8x16x4x128x1 (Host.reduceAdd (mulf (mulf x (broadcastInDim S1x8x16x4x128x64 ![0, 1, 2, 3, 4, 5] bcast_S1x8x16x4x128x1_S1x8x16x4x128x64_0_1_2_3_4_5 (Host.divf (broadcastInDim S1x8x16x4x128x1 ![] bcast_S_S1x8x16x4x128x1 (constant S_ .f32 0x3F800000#32)) w))) y) (constant S_ .f32 0x00000000#32) reducesTo_S1x8x16x4x128x64_S1x8x16x4x128_d5 h_S_) shapeCasts_S1x8x16x4x128_S1x8x16x4x128x1 : FVec Ideal S1x8x16x4x128x1 .f32)
      (ix6 0 h r n a 0) = ∑ d : Fin 64, (x (ix6 0 h r n a d) : EReal) * Ideal.div 1 (w (ix6 0 h r n a 0)) * (y (ix6 0 h r n a d) : EReal) := by
  rw [row_sum_at]
  exact Finset.sum_congr rfl fun d _ => by rw [mul_at, mul_at, row_inverse_at]

theorem value_product_at (x : FVec Ideal S1x8x16x4x128x64 .f32) (y : FVec Ideal S1x8x16x4x256x64 .f32) :
    (Host.dotGeneral dot_S1x8x16x4x128x64_S1x8x16x4x256x64_S1x8x16x4x128x256_5_5_4_4_0123_0123 none x y : FVec Ideal S1x8x16x4x128x256 .f32)
      (ix6 0 h r n a j) = ∑ d : Fin 64, (x (ix6 0 h r n a d) : EReal) * (y (ix6 0 h r n j d) : EReal) := by
  pointwise

include H in
theorem v195_at : (res_main_v195 V0 : FVec Ideal S1x8x16x4x128x256 .f32) (ix6 0 h r n a j)
    = (((row X h r n a).dsRaw (rowMax V0 h r n a) (lseMax V0 h (tok r n a)) j : ℝ) : EReal) := by
  have e1 := fun d => v187_at H h r n a d
  have e2 := fun d => v28_at H h r n j d
  have e3 := v177_at H h r n a
  have e4 := v74_at H h r n a
  have e5 := fun d => v176_at H h r n a d
  have e6 := fun d => v75_at H h r n a d
  have e7 := v72_at H h r n a j
  have hz := ((row X h r n a).den_pos (row_ok X h r n a) (rowMax V0 h r n a)).ne'
  unfold res_main_v195
  clean_types
  rw [mul_at, sum_at, row_value_at, value_product_at, sum_at, quot_at, neg_at, row_scaled_at, mul_at]
  simp only [e1, e2, e3, e4, e5, e6, e7, ← EReal.coe_mul, ← EReal.coe_add, ← EReal.coe_neg, div_real _ _ hz, one_over _ (mul_ne_zero hz hz), ← coe_sum]
  rfl

theorem bit_at {s : Shape} (x : IVec s 1) (i : s.Idx) :
    (uitofp .f32 x : FVec Ideal s .f32) i = (((x i).toNat : ℝ) : EReal) := rfl

theorem v67_at : ∃ e : Fin 256 → ℝ, (∀ j, 0 ≤ e j) ∧
    ∀ j, (res_main_v67 V0 : FVec Ideal S1x8x16x4x128x256 .f32) (ix6 0 h r n a j) = ((e j : ℝ) : EReal) := by
  unfold res_main_v67
  exact ⟨_, fun j => Nat.cast_nonneg _, fun j => bit_at _ _⟩

end Cert.MixAttn
end
-- ==== Proof.RefGrad.lean ====
/-
  The reference's three gradients at an index (untrusted): the mask and the greatest score's share, the products with
  keys and queries, and the two halves of the keys added.
-/
module

public import proofs.«01_k».proof.Proof.RefBwd
public import Idealize.ShloMosaic.Lib.Pointwise
public import Idealize.ShloMosaic.Lib.Tactic.CleanTypes
public import Idealize.ShloMosaic.Lib.Tactic.IndexArith
public import Idealize.ShloMosaic.Lib.Tactic.WordOmega

@[expose] public section

set_option maxRecDepth 16384

noncomputable section

namespace Cert.MixAttn

open Idealize.ShloMosaic Idealize.ShloMosaic.TcCoe Idealize.SL.Sem Idealize.ShloMosaic.StableHlo
open Cert.ReferenceIdeal Cert.ReferenceIdeal.Gen Cert.ReferenceIdeal.Value

variable {X : Args} {V0 : Valuation τ sig (Elt Ideal)} (H : Holds X V0)
variable (h : Fin 8) (r : Fin 16) (n : Fin 4) (a : Fin 128) (j : Fin 256) (d : Fin 64)

/-- The share of the greatest score's gradient. -/
theorem share_at (x : FVec Ideal S1x8x16x4x128x1 .f32) (y e : FVec Ideal S1x8x16x4x128x256 .f32) :
    (broadcastInDim S1x8x16x4x128x256 ![0, 1, 2, 3, 4] bcast_S1x8x16x4x128_S1x8x16x4x128x256_0_1_2_3_4 (Host.divf (broadcastInDim S1x8x16x4x128 ![1, 2, 3, 4] bcast_S8x16x4x128_S1x8x16x4x128_1_2_3_4 (Host.reduceAdd (addf x (shapeCast S1x8x16x4x128x1 (Host.reduceAdd (Host.negf y) (constant S_ .f32 0x00000000#32) reducesTo_S1x8x16x4x128x256_S1x8x16x4x128_d5 h_S_) shapeCasts_S1x8x16x4x128_S1x8x16x4x128x1)) (constant S_ .f32 0x00000000#32) reducesTo_S1x8x16x4x128x1_S8x16x4x128_d0_5 h_S_)) (Host.reduceAdd e (constant S_ .f32 0x00000000#32) reducesTo_S1x8x16x4x128x256_S1x8x16x4x128_d5 h_S_)) : FVec Ideal S1x8x16x4x128x256 .f32)
      (ix6 0 h r n a j)
      = Ideal.div ((x (ix6 0 h r n a 0) : EReal) + ∑ j : Fin 256, -(y (ix6 0 h r n a j) : EReal)) (∑ j : Fin 256, (e (ix6 0 h r n a j) : EReal)) := by
  pointwise [sum_ends6, sum_last6]

theorem masked_at (m : IVec S1x8x16x4x128x256 1) (x : FVec Ideal S1x8x16x4x128x256 .f32) :
    (mulf (select m x (broadcastInDim S1x8x16x4x128x256 ![] bcast_S_S1x8x16x4x128x256 (constant S_ .f32 0x00000000#32))) (broadcastInDim S1x8x16x4x128x256 ![] bcast_S_S1x8x16x4x128x256 (constant S_ .f32 0x3E000000#32)) : FVec Ideal S1x8x16x4x128x256 .f32)
      (ix6 0 h r n a j) = (Scalar.select (m (ix6 0 h r n a j)) (x (ix6 0 h r n a j) : EReal) ((0 : ℝ) : EReal) : EReal) * ((1 / 8 : ℝ) : EReal) := by
  rw [← eighth, ← zero_word]
  rfl

theorem zero_over_count (e : Fin 256 → ℝ) (he : ∀ j, 0 ≤ e j) (j : Fin 256) :
    Ideal.div ((0 : ℝ) : EReal) ((∑ j, e j : ℝ) : EReal) * ((e j : ℝ) : EReal) = 0 := by
  by_cases hz : ∑ j, e j = 0
  · rw [(Finset.sum_eq_zero_iff_of_nonneg fun i _ => he i).1 hz j (Finset.mem_univ _), EReal.coe_zero, mul_zero]
  · rw [div_real _ _ hz, zero_div, EReal.coe_zero, zero_mul]

theorem ds_unseen {n : Fin 4} {a : Fin 128} {j : Fin 256} (hs : ¬ sees n a j) : (row X h r n a).ds j = 0 := by
  rw [Row.ds, Row.prob, Row.pe, if_neg (show ¬ (row X h r n a).ok j from hs), zero_div, zero_mul]

include H in
theorem v208_at : (res_main_v208 V0 : FVec Ideal S1x8x16x4x128x256 .f32) (ix6 0 h r n a j)
    = (((row X h r n a).ds j * (1 / 8) : ℝ) : EReal) := by
  have e1 := fun j => v195_at H h r n a j
  have e2 := v177_at H h r n a
  obtain ⟨e, he, e3⟩ := v67_at (V0 := V0) h r n a
  have e4 := v621_at (V0 := V0) h r n a j
  have e5 := zero_over_count e he j
  unfold res_main_v208
  clean_types
  rw [masked_at, sum_at, mul_at, share_at, e4]
  simp only [e1, e2, e3, ← EReal.coe_neg, ← coe_sum, ← EReal.coe_add,
    (row X h r n a).max_coefficient (row_ok X h r n a), e5]
  rw [(row X h r n a).ds_of_stages (row_ok X h r n a)]
  rw [Scalar.select_ofBool]
  by_cases hs : sees n a j
  · simp only [hs, decide_true, if_true, add_zero, EReal.coe_mul]
  · simp only [hs, decide_false, Bool.false_eq_true, if_false, ds_unseen h r hs, EReal.coe_mul]

include H in
theorem v209_at : (res_main_v209 V0 : FVec Ideal S1x8x16x4x256x64 .f32) (ix6 0 h r n j d)
    = ((dkPart X h r n j d : ℝ) : EReal) := by
  have e1 := fun a => v208_at H h r n a j
  have e2 := fun a => v8_at H h r n a d
  unfold res_main_v209
  clean_types
  pointwise
  simp only [e1, e2, ← EReal.coe_mul, ← coe_sum]
  refine congrArg _ ?_
  rw [dkPart, Finset.sum_mul]
  exact Finset.sum_congr rfl fun a _ => by ring

/-- A key's two halves added: as its own block's second, as the next block's first. -/
theorem halves_at (x : FVec Ideal S1x8x16x4x256x64 .f32) (f : Fin 4 → Fin 256 → Fin 64 → ℝ)
    (hx : ∀ n j d, x (ix6 0 h r n j d) = ((f n j d : ℝ) : EReal)) :
    (extractStridedSlice S1x8x16x512x64 ![0, 0, 0, 128, 0] (addf (pad S1x8x16x640x64 ![0, 0, 0, 128, 0] ![0, 0, 0, 0, 0] ![0, 0, 0, 0, 0] (shapeCast S1x8x16x512x64 (extractStridedSlice S1x8x16x4x128x64 ![0, 0, 0, 0, 128, 0] x slices_S1x8x16x4x256x64_S1x8x16x4x128x64_0_0_0_0_128_0) shapeCasts_S1x8x16x4x128x64_S1x8x16x512x64) (constant S_ .f32 0x00000000#32) pads_S1x8x16x512x64_S1x8x16x640x64_000_000_000_12800_000 h_S_) (pad S1x8x16x640x64 ![0, 0, 0, 0, 0] ![0, 0, 0, 128, 0] ![0, 0, 0, 0, 0] (shapeCast S1x8x16x512x64 (extractStridedSlice S1x8x16x4x128x64 ![0, 0, 0, 0, 0, 0] x slices_S1x8x16x4x256x64_S1x8x16x4x128x64_0_0_0_0_0_0) shapeCasts_S1x8x16x4x128x64_S1x8x16x512x64) (constant S_ .f32 0x00000000#32) pads_S1x8x16x512x64_S1x8x16x640x64_000_000_000_01280_000 h_S_)) slices_S1x8x16x640x64_S1x8x16x512x64_0_0_0_128_0 : FVec Ideal S1x8x16x512x64 .f32)
      (ix5 0 h r ⟨n.val * 128 + a.val, by omega⟩ d) = ((both f n a d : ℝ) : EReal) := by
  pointwise
  refine Eq.trans ?_ (EReal.coe_add _ _).symm
  refine congrArg₂ _ ((dif_pos (show n.val * 128 + a.val < 512 by omega)).trans (hx n ⟨128 + a.val, by omega⟩ d)) ?_
  by_cases hn : n.val + 1 < 4
  · have e : (⟨(128 + (n.val * 128 + a.val)) / 128, by omega⟩ : Fin 4) = ⟨n.val + 1, hn⟩ := Fin.ext (by show (128 + (n.val * 128 + a.val)) / 128 = n.val + 1; omega)
    refine (dif_pos (show 128 + (n.val * 128 + a.val) < 512 by omega)).trans ?_
    refine Eq.trans ?_ (congrArg (fun z : ℝ => (z : EReal)) (dif_pos hn)).symm
    exact (congrArg (fun i => x (ix6 0 h r i ⟨a.val, by omega⟩ d)) e).trans (hx ⟨n.val + 1, hn⟩ ⟨a.val, by omega⟩ d)
  · refine (dif_neg (show ¬ 128 + (n.val * 128 + a.val) < 512 by omega)).trans ?_
    rw [dif_neg hn, EReal.coe_zero]

/-- A gradient's layout: a row for each position of a residue, the residues' channels side by side. -/
theorem layout_at (x : FVec Ideal S1x8x16x512x64 .f32) :
    (shapeCast S512x8192 (truncf .bf16 (shapeCast S8192x512 (transpose S1x8192x8x64 [0, 2, 1, 3] (shapeCast S1x8x8192x64 (transpose S1x8x512x16x64 [0, 1, 3, 2, 4] x transposes_S1x8x16x512x64_S1x8x512x16x64_0_1_3_2_4) shapeCasts_S1x8x512x16x64_S1x8x8192x64) transposes_S1x8x8192x64_S1x8192x8x64_0_2_1_3) shapeCasts_S1x8192x8x64_S8192x512) bitsLt_bf16_f32) shapeCasts_S8192x512_S512x8192 : FVec Ideal S512x8192 .bf16)
      (ix2 ⟨n.val * 128 + a.val, by omega⟩ ⟨r.val * 512 + h.val * 64 + d.val, by omega⟩)
      = x (ix5 0 h r ⟨n.val * 128 + a.val, by omega⟩ d) := by
  pointwise
  congr 2
  refine Fin.ext ?_
  show ((n.val * 128 + a.val) * 16 + (r.val * 512 + h.val * 64 + d.val) / 512) / 16 = n.val * 128 + a.val
  omega

theorem query_gradient_at (y : FVec Ideal S1x8x16x4x128x256 .f32) (z : FVec Ideal S1x8x16x4x256x64 .f32) :
    (shapeCast S1x8x16x512x64 (Host.dotGeneral dot_S1x8x16x4x128x256_S1x8x16x4x256x64_S1x8x16x4x128x64_5_4_4_5_0123_0123 none y z) shapeCasts_S1x8x16x4x128x64_S1x8x16x512x64 : FVec Ideal S1x8x16x512x64 .f32)
      (ix5 0 h r ⟨n.val * 128 + a.val, by omega⟩ d) = ∑ j : Fin 256, (y (ix6 0 h r n a j) : EReal) * (z (ix6 0 h r n j d) : EReal) := by
  pointwise

/-- The reference's three results, as functions of the arguments. -/
def refQ (V0 : Valuation τ sig (Elt Ideal)) : FVec Ideal S512x8192 .bf16 :=
  shapeCast _ (truncf .bf16 (shapeCast _ (transpose S1x8192x8x64 [0, 2, 1, 3] (shapeCast _ (transpose S1x8x512x16x64 [0, 1, 3, 2, 4] (shapeCast _ (Host.dotGeneral (φ₁ := .f32) (φ₂ := .f32) dot_S1x8x16x4x128x256_S1x8x16x4x256x64_S1x8x16x4x128x64_5_4_4_5_0123_0123 none (res_main_v208 V0) (res_main_v18 V0)) shapeCasts_S1x8x16x4x128x64_S1x8x16x512x64) transposes_S1x8x16x512x64_S1x8x512x16x64_0_1_3_2_4) shapeCasts_S1x8x512x16x64_S1x8x8192x64) transposes_S1x8x8192x64_S1x8192x8x64_0_2_1_3) shapeCasts_S1x8192x8x64_S8192x512) bitsLt_bf16_f32) shapeCasts_S8192x512_S512x8192
def refK (V0 : Valuation τ sig (Elt Ideal)) : FVec Ideal S512x8192 .bf16 :=
  shapeCast _ (truncf .bf16 (shapeCast _ (transpose S1x8192x8x64 [0, 2, 1, 3] (shapeCast _ (transpose S1x8x512x16x64 [0, 1, 3, 2, 4] (extractStridedSlice S1x8x16x512x64 ![0, 0, 0, 128, 0] (res_main_v228 V0) slices_S1x8x16x640x64_S1x8x16x512x64_0_0_0_128_0) transposes_S1x8x16x512x64_S1x8x512x16x64_0_1_3_2_4) shapeCasts_S1x8x512x16x64_S1x8x8192x64) transposes_S1x8x8192x64_S1x8192x8x64_0_2_1_3) shapeCasts_S1x8192x8x64_S8192x512) bitsLt_bf16_f32) shapeCasts_S8192x512_S512x8192
def refV (V0 : Valuation τ sig (Elt Ideal)) : FVec Ideal S512x8192 .bf16 :=
  shapeCast _ (truncf .bf16 (shapeCast _ (transpose S1x8192x8x64 [0, 2, 1, 3] (shapeCast _ (transpose S1x8x512x16x64 [0, 1, 3, 2, 4] (extractStridedSlice S1x8x16x512x64 ![0, 0, 0, 128, 0] (res_main_v217 V0) slices_S1x8x16x640x64_S1x8x16x512x64_0_0_0_128_0) transposes_S1x8x16x512x64_S1x8x512x16x64_0_1_3_2_4) shapeCasts_S1x8x512x16x64_S1x8x8192x64) transposes_S1x8x8192x64_S1x8192x8x64_0_2_1_3) shapeCasts_S1x8192x8x64_S8192x512) bitsLt_bf16_f32) shapeCasts_S8192x512_S512x8192

include H in
theorem refQ_at : refQ V0 (ix2 ⟨n.val * 128 + a.val, by omega⟩ ⟨r.val * 512 + h.val * 64 + d.val, by omega⟩) = ((dq X h r n a d : ℝ) : EReal) := by
  have e1 := fun j => v208_at H h r n a j
  have e2 := fun j => v18_at H h r n j d
  unfold refQ
  clean_types
  rw [layout_at, query_gradient_at]
  simp only [e1, e2, ← EReal.coe_mul, ← coe_sum]
  refine congrArg _ ?_
  rw [dq, Finset.sum_mul]
  exact Finset.sum_congr rfl fun j _ => by ring

include H in
theorem refK_at : refK V0 (ix2 ⟨n.val * 128 + a.val, by omega⟩ ⟨r.val * 512 + h.val * 64 + d.val, by omega⟩) = ((dk X h r n a d : ℝ) : EReal) := by
  unfold refK res_main_v228
  clean_types
  rw [layout_at, halves_at h r n a d _ _ (fun n j d => v209_at H h r n j d)]
  rfl

include H in
theorem refV_at : refV V0 (ix2 ⟨n.val * 128 + a.val, by omega⟩ ⟨r.val * 512 + h.val * 64 + d.val, by omega⟩) = ((dv X h r n a d : ℝ) : EReal) := by
  unfold refV res_main_v217
  clean_types
  rw [layout_at, halves_at h r n a d _ _ (fun n j d => v189_at H h r n j d)]
  rfl

end Cert.MixAttn
end
-- ==== Proof.Finite.lean ====
/-
  What the precondition gives (untrusted): arrays whose elements are all finite are real arrays.
-/
module

public import proofs.«01_k».proof.Pre_finite
public import proofs.«01_k».proof.Proof.Rows
public import Idealize.ShloMosaic.Lib.ReduceAll
public import Idealize.ShloMosaic.Lib.Pointwise

@[expose] public section

noncomputable section

namespace Cert.MixAttn

open Idealize.ShloMosaic Cert.Pre_finite

theorem infinity : Ideal.ofBits .f32 0x7F800000#32 = (⊤ : EReal) := by simp [Ideal.ofBits, Ideal.ieee]

theorem real_of_below (x : EReal) (h : Ideal.cmp .olt (max x (-x)) (⊤ : EReal) = 1#1) : x = ((x.toReal : ℝ) : EReal) := by
  have hlt : max x (-x) < ⊤ := by
    by_contra hn
    unfold Ideal.cmp at h
    simp [hn] at h
  obtain ⟨h1, h2⟩ := max_lt_iff.1 hlt
  refine (EReal.coe_toReal h1.ne fun hb => ?_).symm
  subst hb
  simp at h2

instance : Subsingleton S_.Idx := ⟨fun _ _ => funext fun a => a.elim0⟩

variable [Cert.Pre_finite.Facts]

theorem all_real {s : Shape} {axes : List (Fin s.rank)} (x : FVec Ideal s .f32) (hb : S_.BroadcastsInDim s ![])
    (h : s.ReducesTo axes S_) (h0 : 0 < S_.numel) (j : S_.Idx)
    (e : Host.reduce IntOp.andi (cmpf .olt (Host.absf x) (broadcastInDim s ![] hb (constant S_ .f32 0x7F800000#32)))
      (constantI S_ 1 1#1) h h0 j = 1#1) (i : s.Idx) : x i = (((x i : EReal).toReal : ℝ) : EReal) := by
  have e1 := Host.reduce_andi_all _ _ h h0 j e i
  refine real_of_below _ ?_
  rw [← infinity]
  exact e1

theorem and_split (x y : IVec S_ 1) (j : S_.Idx) (h : andi x y j = 1#1) : x j = 1#1 ∧ y j = 1#1 := IntOp.andi_eq_one.1 h

variable (x0 x1 x2 x3 : FVec Ideal S8192x512 .f32) (x4 : FVec Ideal S1x8x8192x64 .f32) (x5 : FVec Ideal S1x8x8192 .f32)
  (x6 : FVec Ideal S1x8x8192x64 .f32) (x7 : FVec Ideal S1x8x8192 .f32)

/-- The arguments' real numbers. -/
def argsOf : Args where
  q s c := (x0 (ix2 s c) : EReal).toReal
  k s c := (x1 (ix2 s c) : EReal).toReal
  v s c := (x2 (ix2 s c) : EReal).toReal
  g s c := (x3 (ix2 s c) : EReal).toReal
  o1 h s d := (x4 (ix4 0 h s d) : EReal).toReal
  l1 h s := (x5 (ix3 0 h s) : EReal).toReal
  o4 h s d := (x6 (ix4 0 h s d) : EReal).toReal
  l4 h s := (x7 (ix3 0 h s) : EReal).toReal

theorem args_real (h : Cert.Pre_finite.fn x0 x1 x2 x3 x4 x5 x6 x7 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal))
    ∧ (∀ i, x4 i = (((x4 i : EReal).toReal : ℝ) : EReal)) ∧ (∀ i, x5 i = (((x5 i : EReal).toReal : ℝ) : EReal))
    ∧ (∀ i, x6 i = (((x6 i : EReal).toReal : ℝ) : EReal)) ∧ (∀ i, x7 i = (((x7 i : EReal).toReal : ℝ) : EReal)) := by
  have e := congrFun h (fun a => a.elim0)
  unfold Cert.Pre_finite.fn Cert.Pre_finite.fn_part1 Cert.Pre_finite.fn_part2 at e
  obtain ⟨e, e7⟩ := and_split _ _ _ e
  obtain ⟨e, e6⟩ := and_split _ _ _ e
  obtain ⟨e, e5⟩ := and_split _ _ _ e
  obtain ⟨e, e4⟩ := and_split _ _ _ e
  obtain ⟨e, e3⟩ := and_split _ _ _ e
  obtain ⟨e, e2⟩ := and_split _ _ _ e
  obtain ⟨e0, e1⟩ := and_split _ _ _ e
  exact ⟨all_real _ _ _ _ _ e0, all_real _ _ _ _ _ e1, all_real _ _ _ _ _ e2, all_real _ _ _ _ _ e3, all_real _ _ _ _ _ e4, all_real _ _ _ _ _ e5,
    all_real _ _ _ _ _ e6, all_real _ _ _ _ _ e7⟩

end Cert.MixAttn

end
-- ==== Proof.Final.lean ====
/-
  The claims (untrusted): both programs' runs, and the kernel's three result arrays equal to the reference's.
-/
module

public import proofs.«01_k».proof.Defs
public import proofs.«01_k».proof.Proof.Gen.Kernel.Frame
public import proofs.«01_k».proof.Proof.Gen.Pre_finite
public import proofs.«01_k».proof.Proof.KerArr
public import proofs.«01_k».proof.Proof.RefGrad
public import proofs.«01_k».proof.Proof.Finite
public import Idealize.ShloMosaic.Lib.Quiescent

@[expose] public section

noncomputable section

namespace Cert.MixAttn

open Idealize.ShloMosaic Idealize.ShloMosaic.TcCoe Idealize.SL.Sem Idealize.ShloMosaic.StableHlo

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial
theorem preserves : Cert.preserves_Kernel_KernelIdeal := trivial

variable {X : Args} (m : (ℓ : Loc Cert.KernelIdeal.nD Cert.KernelIdeal.τ Cert.KernelIdeal.sig) → Buf (Elt Ideal) ℓ) (c : Dev Cert.KernelIdeal.nD)
  (HK : Ker.Holds X (Ker.start m c)) {V0 : Valuation Cert.ReferenceIdeal.τ Cert.ReferenceIdeal.sig (Elt Ideal)} (HR : Holds X V0)

include HK HR in
theorem result_q : (refQ V0 : FVec Ideal Cert.KernelIdeal.S512x8192 .bf16) = (Cert.KernelIdeal.Gen.dats m 0 c).arrAt 8 Cert.KernelIdeal.cfg0.N := by
  refine Eq.trans (funext fun i => ?_) (Ker.final8 m c HK).symm
  obtain ⟨r, s, p, t, a, d, rfl⟩ := Ker.index_of i
  exact (refQ_at HR (Ker.head p t) r s a d).trans ((Ker.at_pos r s p t a d (fun r => (Ker.numbers X r).outQ)).trans (congrArg Real.toEReal (Ker.outQ_tie X r _ _ s p t a d))).symm
include HK HR in
theorem result_k : (refK V0 : FVec Ideal Cert.KernelIdeal.S512x8192 .bf16) = (Cert.KernelIdeal.Gen.dats m 0 c).arrAt 9 Cert.KernelIdeal.cfg0.N := by
  refine Eq.trans (funext fun i => ?_) (Ker.final9 m c HK).symm
  obtain ⟨r, s, p, t, a, d, rfl⟩ := Ker.index_of i
  exact (refK_at HR (Ker.head p t) r s a d).trans ((Ker.at_pos r s p t a d (fun r => Ker.outB (Ker.numbers X r).dks)).trans (congrArg Real.toEReal (Ker.outK_tie X r _ _ s p t a d))).symm
include HK HR in
theorem result_v : (refV V0 : FVec Ideal Cert.KernelIdeal.S512x8192 .bf16) = (Cert.KernelIdeal.Gen.dats m 0 c).arrAt 10 Cert.KernelIdeal.cfg0.N := by
  refine Eq.trans (funext fun i => ?_) (Ker.final10 m c HK).symm
  obtain ⟨r, s, p, t, a, d, rfl⟩ := Ker.index_of i
  exact (refV_at HR (Ker.head p t) r s a d).trans ((Ker.at_pos r s p t a d (fun r => Ker.outB (Ker.numbers X r).dvs)).trans (congrArg Real.toEReal (Ker.outV_tie X r _ _ s p t a d))).symm

theorem algebraic : Cert.algebraic_KernelIdeal_ReferenceIdeal_pre_finite := by
  intro m ρ m' ρ' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, ?_, ?_⟩
  · refine (θ_run _ _ _).mono (fun r h c => ?_) (Cert.KernelIdeal.Value.run_blocks m ρ)
    obtain ⟨h0, h1, h2, -, -, h3⟩ := h c
    exact ⟨h0, h1, h2, h3⟩
  · refine (θ_run _ _ _).mono (fun r h c => ?_) (Cert.ReferenceIdeal.Value.run (F := Ideal) m' ρ')
    obtain ⟨h0, h1, h2, h3⟩ := h c
    obtain ⟨e0, e1, e2, e3, e4, e5, e6, e7⟩ := args_real _ _ _ _ _ _ _ _ (hpre c)
    obtain ⟨a0, a1, a2, a3, a4, a5, a6, a7⟩ := hagree c
    have HK : Ker.Holds (argsOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))) (Ker.start m c) :=
      ⟨fun _ _ => e0 _, fun _ _ => e1 _, fun _ _ => e2 _, fun _ _ => e3 _, fun _ _ _ => e4 _, fun _ _ => e5 _, fun _ _ _ => e6 _, fun _ _ => e7 _⟩
    have HR : Holds (argsOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))) (launchContents m' c) :=
      ⟨fun _ _ => (congrFun a0 _).trans (e0 _), fun _ _ => (congrFun a1 _).trans (e1 _), fun _ _ => (congrFun a2 _).trans (e2 _),
        fun _ _ => (congrFun a3 _).trans (e3 _), fun _ _ _ => (congrFun a4 _).trans (e4 _), fun _ _ => (congrFun a5 _).trans (e5 _),
        fun _ _ _ => (congrFun a6 _).trans (e6 _), fun _ _ => (congrFun a7 _).trans (e7 _)⟩
    exact ⟨h0.trans (result_q m c HK HR), h1.trans (result_k m c HK HR), h2.trans (result_v m c HK HR), h3⟩

end Cert.MixAttn

end
-- ==== Proof.GradUp.lean ====
/-
  The gradient of the up projection's weight: the call's array is the reference's (untrusted).
-/
module

public import proofs.«01_k».proof.Defs
public import proofs.«01_k».proof.Proof.Gen.KernelUp.Frame
public import proofs.«01_k».proof.Proof.Gen.KernelUpIdeal.Value
public import proofs.«01_k».proof.Proof.Gen.ReferenceUpIdeal.Run
public import Idealize.ShloMosaic.Lib.Pipeline.ValueKit
public import Idealize.ShloMosaic.Lib.Quiescent

@[expose] public section

set_option maxRecDepth 16384

noncomputable section

namespace Cert.GradUp

open Idealize.ShloMosaic Idealize.ShloMosaic.TcCoe Idealize.SL.Sem Cert.KernelUpIdeal Cert.KernelUpIdeal.Gen
open Idealize.ShloMosaic.Pipeline (Dat)

variable (m : (ℓ : Loc nD τ sig) → Buf (Elt Ideal) ℓ)

/-- The cotangents' columns against the activations' columns, by reference: the whole product, cut into four groups of columns. -/
abbrev whole (ct : FVec Ideal Cert.ReferenceUpIdeal.S8192x5632 .f32) (h : FVec Ideal Cert.ReferenceUpIdeal.S8192x1024 .f32) :
    FVec Ideal Cert.ReferenceUpIdeal.S1024x5632 .f32 :=
  transpose Cert.ReferenceUpIdeal.S1024x5632 [1, 0] (Host.dotGeneral Cert.ReferenceUpIdeal.dot_S8192x5632_S8192x1024_S5632x1024_0_0_1_1_n_n none ct h)
    Cert.ReferenceUpIdeal.Gen.transposes_S5632x1024_S1024x5632_1_0

/-- An element of the whole product is a sum over the tokens. -/
theorem whole_at (ct : FVec Ideal Cert.ReferenceUpIdeal.S8192x5632 .f32) (h : FVec Ideal Cert.ReferenceUpIdeal.S8192x1024 .f32)
    (a : Fin 1024) (b : Fin 5632) : whole ct h (ix2 a b) = ∑ l : Fin 8192, ct (ix2 l b) * h (ix2 l a) := by
  pointwise [whole]

/-- The block is cleared at a run's first point. -/
theorem clear_at (j) : k0_pay1 (F := Ideal) j = 0 := by pointwise [k0_pay1]

/-- A point adds the product of its 2048 tokens. -/
theorem add_at (acc : Vec Ideal S1x1024x1408 .f32) (x : Vec Ideal S2048x1024 .bf16) (y : Vec Ideal S2048x1408 .bf16) (j) :
    k0_pay2 acc x y j = acc j + ∑ k : Fin 2048, x (ix2 k (j 1)) * y (ix2 k (j 2)) := by pointwise [k0_pay2]

theorem places : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The product over all tokens, cut into the four groups of columns. -/
def G (h : FVec Ideal S8192x1024 .f32) (ct : FVec Ideal S8192x5632 .f32) : FVec Ideal S4x1024x1408 .f32 := fun j =>
  ∑ l : Fin 8192, h (ix2 l (j 1)) * ct (ix2 l ⟨(j 0).val * 1408 + (j 2).val, by idx_bounds; omega⟩)

/-- The array after the run: the sum over the four points of a run is the sum over all tokens. -/
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_at, clear_at]) (fun t h j => by rw [outsAt0_B m c t h]; frame_out; rw [add_at])
    t ((flush0_2 t).mp hf) _, zero_add]
  unfold G
  refine Fin.sum_mul_add_congr fun s k hl => ?_
  blk_point [iblk, V, places t, places ⟨_, Pipeline.run_point_lt_of_flush t ((flush0_2 t).mp hf) s⟩]

/-- The reference's array: the four groups of columns stacked. -/
theorem stacked_at (W : FVec Ideal Cert.ReferenceUpIdeal.S1024x5632 .f32) (j : S4x1024x1408.Idx) :
    (concatenate Cert.ReferenceUpIdeal.S4x1024x1408 0
      [⟨Cert.ReferenceUpIdeal.S1x1024x1408, broadcastInDim Cert.ReferenceUpIdeal.S1x1024x1408 ![1, 2] Cert.ReferenceUpIdeal.Gen.bcast_S1024x1408_S1x1024x1408_1_2
        (extractStridedSlice Cert.ReferenceUpIdeal.S1024x1408 ![0, 0] W Cert.ReferenceUpIdeal.Gen.slices_S1024x5632_S1024x1408_0_0)⟩,
       ⟨Cert.ReferenceUpIdeal.S1x1024x1408, broadcastInDim Cert.ReferenceUpIdeal.S1x1024x1408 ![1, 2] Cert.ReferenceUpIdeal.Gen.bcast_S1024x1408_S1x1024x1408_1_2
        (extractStridedSlice Cert.ReferenceUpIdeal.S1024x1408 ![0, 1408] W Cert.ReferenceUpIdeal.Gen.slices_S1024x5632_S1024x1408_0_1408)⟩,
       ⟨Cert.ReferenceUpIdeal.S1x1024x1408, broadcastInDim Cert.ReferenceUpIdeal.S1x1024x1408 ![1, 2] Cert.ReferenceUpIdeal.Gen.bcast_S1024x1408_S1x1024x1408_1_2
        (extractStridedSlice Cert.ReferenceUpIdeal.S1024x1408 ![0, 2816] W Cert.ReferenceUpIdeal.Gen.slices_S1024x5632_S1024x1408_0_2816)⟩,
       ⟨Cert.ReferenceUpIdeal.S1x1024x1408, broadcastInDim Cert.ReferenceUpIdeal.S1x1024x1408 ![1, 2] Cert.ReferenceUpIdeal.Gen.bcast_S1024x1408_S1x1024x1408_1_2
        (extractStridedSlice Cert.ReferenceUpIdeal.S1024x1408 ![0, 4224] W Cert.ReferenceUpIdeal.Gen.slices_S1024x5632_S1024x1408_0_4224)⟩]
      Cert.ReferenceUpIdeal.Gen.concatenates_S1x1024x1408_S1x1024x1408_S1x1024x1408_S1x1024x1408_S4x1024x1408_d0 : FVec Ideal Cert.ReferenceUpIdeal.S4x1024x1408 .f32) j
      = W (ix2 (j 1) ⟨(j 0).val * 1408 + (j 2).val, by idx_bounds; omega⟩) := by
  pointwise []
  blk_point []

theorem frame_p : Cert.quiescent_KernelUp := fun m ρ _ => Cert.KernelUp.Gen.frame m ρ
theorem frame_pi : Cert.quiescent_KernelUpIdeal := fun m ρ _ => Cert.KernelUpIdeal.Gen.frame m ρ
theorem frame_ri : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)
theorem preserves : Cert.preserves_KernelUp_KernelUpIdeal := trivial

theorem algebraic : Cert.algebraic_KernelUpIdeal_ReferenceUpIdeal := by
  intro m ρ m' ρ' _ hagree
  refine ⟨fun c => (dats m 0 c).arrAt 2 cfg0.N, ?_, ?_⟩
  · exact (θ_run _ _ _).mono (fun r h c => h c) (Cert.KernelUpIdeal.Value.run_blocks m ρ)
  · refine (θ_run _ _ _).mono (fun r h c => ?_) (Cert.ReferenceUpIdeal.Value.run (F := Ideal) m' ρ')
    refine ⟨(h c).1.trans ?_, (h c).2⟩
    obtain ⟨a0, a1⟩ := hagree c
    refine Eq.trans (funext fun j => ?_) (final m c).symm
    rw [← a0, ← a1]
    refine (stacked_at _ j).trans ((whole_at _ _ _ _).trans ?_)
    exact Finset.sum_congr rfl fun l _ => mul_comm _ _

end Cert.GradUp

end
-- ==== Proof.GradDown.lean ====
/-
  The gradient of the down projection's weight: the call's array is the reference's (untrusted).
-/
module

public import proofs.«01_k».proof.Defs
public import proofs.«01_k».proof.Proof.Gen.KernelDown.Frame
public import proofs.«01_k».proof.Proof.Gen.KernelDownIdeal.Value
public import proofs.«01_k».proof.Proof.Gen.ReferenceDownIdeal.Run
public import Idealize.ShloMosaic.Lib.Pipeline.ValueKit
public import Idealize.ShloMosaic.Lib.Quiescent

@[expose] public section

set_option maxRecDepth 16384

noncomputable section

namespace Cert.GradDown

open Idealize.ShloMosaic Idealize.ShloMosaic.TcCoe Idealize.SL.Sem Cert.KernelDownIdeal Cert.KernelDownIdeal.Gen
open Idealize.ShloMosaic.Pipeline (Dat)

variable (m : (ℓ : Loc nD τ sig) → Buf (Elt Ideal) ℓ)

/-- The cotangents' columns against the activations' columns, by reference: the whole product. -/
abbrev whole (ct : FVec Ideal Cert.ReferenceDownIdeal.S8192x1024 .f32) (h : FVec Ideal Cert.ReferenceDownIdeal.S8192x2816 .f32) :
    FVec Ideal Cert.ReferenceDownIdeal.S2816x1024 .f32 :=
  transpose Cert.ReferenceDownIdeal.S2816x1024 [1, 0] (Host.dotGeneral Cert.ReferenceDownIdeal.dot_S8192x1024_S8192x2816_S1024x2816_0_0_1_1_n_n none ct h)
    Cert.ReferenceDownIdeal.Gen.transposes_S1024x2816_S2816x1024_1_0

/-- An element of the whole product is a sum over the tokens. -/
theorem whole_at (ct : FVec Ideal Cert.ReferenceDownIdeal.S8192x1024 .f32) (h : FVec Ideal Cert.ReferenceDownIdeal.S8192x2816 .f32)
    (a : Fin 2816) (b : Fin 1024) : whole ct h (ix2 a b) = ∑ l : Fin 8192, ct (ix2 l b) * h (ix2 l a) := by
  pointwise [whole]

/-- The block is cleared at a run's first point. -/
theorem clear_at (j) : k0_pay1 (F := Ideal) j = 0 := by pointwise [k0_pay1]

/-- A point adds the product of its 2048 tokens. -/
theorem add_at (acc : Vec Ideal S1x1408x1024 .f32) (x : Vec Ideal S2048x1408 .bf16) (y : Vec Ideal S2048x1024 .bf16) (j) :
    k0_pay2 acc x y j = acc j + ∑ k : Fin 2048, x (ix2 k (j 1)) * y (ix2 k (j 2)) := by pointwise [k0_pay2]

theorem places : ∀ t : Fin cfg0.N, win0_0.index t = ![t.val % 4, t.val / 4] ∧ win0_1.index t = ![t.val % 4, 0] ∧ win0_2.index t = ![0, t.val / 4, 0] :=
  (by decide +kernel : ∀ t : Fin grid0.N, _)

/-- The product over all tokens. -/
def G (h : FVec Ideal S8192x2816 .f32) (ct : FVec Ideal S8192x1024 .f32) : FVec Ideal S1x2816x1024 .f32 := fun j =>
  ∑ l : Fin 8192, h (ix2 l (j 1)) * ct (ix2 l (j 2))

/-- The array after the run: the sum over the four points of a run is the sum over all tokens. -/
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_at, clear_at]) (fun t h j => by rw [outsAt0_B m c t h]; frame_out; rw [add_at])
    t ((flush0_2 t).mp hf) _, zero_add]
  unfold G
  refine Fin.sum_mul_add_congr fun s k hl => ?_
  blk_point [iblk, V, places t, places ⟨_, Pipeline.run_point_lt_of_flush t ((flush0_2 t).mp hf) s⟩]

/-- The reference's array: the product with a leading axis of one. -/
theorem spread_at (W : FVec Ideal Cert.ReferenceDownIdeal.S2816x1024 .f32) (j : S1x2816x1024.Idx) :
    (broadcastInDim Cert.ReferenceDownIdeal.S1x2816x1024 ![1, 2] Cert.ReferenceDownIdeal.Gen.bcast_S2816x1024_S1x2816x1024_1_2 W :
      FVec Ideal Cert.ReferenceDownIdeal.S1x2816x1024 .f32) j = W (ix2 (j 1) (j 2)) := by
  pointwise []

theorem frame_p : Cert.quiescent_KernelDown := fun m ρ _ => Cert.KernelDown.Gen.frame m ρ
theorem frame_pi : Cert.quiescent_KernelDownIdeal := fun m ρ _ => Cert.KernelDownIdeal.Gen.frame m ρ
theorem frame_ri : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)
theorem preserves : Cert.preserves_KernelDown_KernelDownIdeal := trivial

theorem algebraic : Cert.algebraic_KernelDownIdeal_ReferenceDownIdeal := by
  intro m ρ m' ρ' _ hagree
  refine ⟨fun c => (dats m 0 c).arrAt 2 cfg0.N, ?_, ?_⟩
  · exact (θ_run _ _ _).mono (fun r h c => h c) (Cert.KernelDownIdeal.Value.run_blocks m ρ)
  · refine (θ_run _ _ _).mono (fun r h c => ?_) (Cert.ReferenceDownIdeal.Value.run (F := Ideal) m' ρ')
    refine ⟨(h c).1.trans ?_, (h c).2⟩
    obtain ⟨a0, a1⟩ := hagree c
    refine Eq.trans (funext fun j => ?_) (final m c).symm
    rw [← a0, ← a1]
    have e : (broadcastInDim Cert.ReferenceDownIdeal.S1x2816x1024 ![1, 2] Cert.ReferenceDownIdeal.Gen.bcast_S2816x1024_S1x2816x1024_1_2
        (whole (m' ((c.tc : Thread nD τ).loc Cert.ReferenceDownIdeal.main_arg1)) (m' ((c.tc : Thread nD τ).loc Cert.ReferenceDownIdeal.main_arg0))) :
        FVec Ideal Cert.ReferenceDownIdeal.S1x2816x1024 .f32) j = whole (m' ((c.tc : Thread nD τ).loc Cert.ReferenceDownIdeal.main_arg1))
        (m' ((c.tc : Thread nD τ).loc Cert.ReferenceDownIdeal.main_arg0)) (ix2 (j 1) (j 2)) := spread_at _ j
    refine e.trans ((whole_at _ _ _ _).trans ?_)
    exact Finset.sum_congr rfl fun l _ => mul_comm _ _

end Cert.GradDown

end
-- ==== Proof.GradOut.lean ====
/-
  The gradient of the output projection's weight: the call's array is the reference's (untrusted).
-/
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import Idealize.ShloMosaic.Lib.Pipeline.ValueKit
public import Idealize.ShloMosaic.Lib.Quiescent

@[expose] public section

set_option maxRecDepth 16384

noncomputable section

namespace Cert.GradOut

open Idealize.ShloMosaic Idealize.ShloMosaic.TcCoe Idealize.SL.Sem Cert.KernelOutIdeal Cert.KernelOutIdeal.Gen
open Idealize.ShloMosaic.Pipeline (Dat)

variable (m : (ℓ : Loc nD τ sig) → Buf (Elt Ideal) ℓ)

/-- The cotangents' columns against the activations' columns, by reference: the whole product. -/
abbrev whole (ct : FVec Ideal Cert.ReferenceOutIdeal.S8192x1024 .f32) (h : FVec Ideal Cert.ReferenceOutIdeal.S8192x1024 .f32) :
    FVec Ideal Cert.ReferenceOutIdeal.S1024x1024 .f32 :=
  transpose Cert.ReferenceOutIdeal.S1024x1024 [1, 0] (Host.dotGeneral Cert.ReferenceOutIdeal.dot_S8192x1024_S8192x1024_S1024x1024_0_0_1_1_n_n none ct h)
    Cert.ReferenceOutIdeal.Gen.transposes_S1024x1024_S1024x1024_1_0

/-- An element of the whole product is a sum over the tokens. -/
theorem whole_at (ct : FVec Ideal Cert.ReferenceOutIdeal.S8192x1024 .f32) (h : FVec Ideal Cert.ReferenceOutIdeal.S8192x1024 .f32)
    (a : Fin 1024) (b : Fin 1024) : whole ct h (ix2 a b) = ∑ l : Fin 8192, ct (ix2 l b) * h (ix2 l a) := by
  pointwise [whole]

/-- The block is cleared at a run's first point. -/
theorem clear_at (j) : k0_pay1 (F := Ideal) j = 0 := by pointwise [k0_pay1]

/-- A point adds the product of its 2048 tokens. -/
theorem add_at (acc : Vec Ideal S1x1024x1024 .f32) (x : Vec Ideal S2048x1024 .bf16) (y : Vec Ideal S2048x1024 .bf16) (j) :
    k0_pay2 acc x y j = acc j + ∑ k : Fin 2048, x (ix2 k (j 1)) * y (ix2 k (j 2)) := by pointwise [k0_pay2]

theorem places : ∀ t : Fin cfg0.N, win0_0.index t = ![t.val % 4, t.val / 4] ∧ win0_1.index t = ![t.val % 4, 0] ∧ win0_2.index t = ![0, t.val / 4, 0] :=
  (by decide +kernel : ∀ t : Fin grid0.N, _)

/-- The product over all tokens. -/
def G (h : FVec Ideal S8192x1024 .f32) (ct : FVec Ideal S8192x1024 .f32) : FVec Ideal S1x1024x1024 .f32 := fun j =>
  ∑ l : Fin 8192, h (ix2 l (j 1)) * ct (ix2 l (j 2))

/-- The array after the run: the sum over the four points of a run is the sum over all tokens. -/
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_at, clear_at]) (fun t h j => by rw [outsAt0_B m c t h]; frame_out; rw [add_at])
    t ((flush0_2 t).mp hf) _, zero_add]
  unfold G
  refine Fin.sum_mul_add_congr fun s k hl => ?_
  blk_point [iblk, V, places t, places ⟨_, Pipeline.run_point_lt_of_flush t ((flush0_2 t).mp hf) s⟩]

/-- The reference's array: the product with a leading axis of one. -/
theorem spread_at (W : FVec Ideal Cert.ReferenceOutIdeal.S1024x1024 .f32) (j : S1x1024x1024.Idx) :
    (broadcastInDim Cert.ReferenceOutIdeal.S1x1024x1024 ![1, 2] Cert.ReferenceOutIdeal.Gen.bcast_S1024x1024_S1x1024x1024_1_2 W :
      FVec Ideal Cert.ReferenceOutIdeal.S1x1024x1024 .f32) j = W (ix2 (j 1) (j 2)) := by
  pointwise []

theorem frame_p : Cert.quiescent_KernelOut := fun m ρ _ => Cert.KernelOut.Gen.frame m ρ
theorem frame_pi : Cert.quiescent_KernelOutIdeal := fun m ρ _ => Cert.KernelOutIdeal.Gen.frame m ρ
theorem frame_ri : Cert.quiescent_ReferenceOutIdeal := fun m ρ _ =>
  (θ_run Cert.ReferenceOutIdeal.defs _ _).mono (fun r h => ⟨fun c => (h c).2, Idealize.ShloMosaic.sem_eq_zero_of_no_sems (by decide) r.2⟩)
    (Cert.ReferenceOutIdeal.Value.run (F := Ideal) m ρ)
theorem preserves : Cert.preserves_KernelOut_KernelOutIdeal := trivial

theorem algebraic : Cert.algebraic_KernelOutIdeal_ReferenceOutIdeal := by
  intro m ρ m' ρ' _ hagree
  refine ⟨fun c => (dats m 0 c).arrAt 2 cfg0.N, ?_, ?_⟩
  · exact (θ_run _ _ _).mono (fun r h c => h c) (Cert.KernelOutIdeal.Value.run_blocks m ρ)
  · refine (θ_run _ _ _).mono (fun r h c => ?_) (Cert.ReferenceOutIdeal.Value.run (F := Ideal) m' ρ')
    refine ⟨(h c).1.trans ?_, (h c).2⟩
    obtain ⟨a0, a1⟩ := hagree c
    refine Eq.trans (funext fun j => ?_) (final m c).symm
    rw [← a0, ← a1]
    have e : (broadcastInDim Cert.ReferenceOutIdeal.S1x1024x1024 ![1, 2] Cert.ReferenceOutIdeal.Gen.bcast_S1024x1024_S1x1024x1024_1_2
        (whole (m' ((c.tc : Thread nD τ).loc Cert.ReferenceOutIdeal.main_arg1)) (m' ((c.tc : Thread nD τ).loc Cert.ReferenceOutIdeal.main_arg0))) :
        FVec Ideal Cert.ReferenceOutIdeal.S1x1024x1024 .f32) j = whole (m' ((c.tc : Thread nD τ).loc Cert.ReferenceOutIdeal.main_arg1))
        (m' ((c.tc : Thread nD τ).loc Cert.ReferenceOutIdeal.main_arg0)) (ix2 (j 1) (j 2)) := spread_at _ j
    refine e.trans ((whole_at _ _ _ _).trans ?_)
    exact Finset.sum_congr rfl fun l _ => mul_comm _ _

end Cert.GradOut

end
-- ==== Proof.GradIn.lean ====
/-
  The gradient of the input projection's weight: the call's array is the reference's (untrusted).
-/
module

public import proofs.«01_k».proof.Defs
public import proofs.«01_k».proof.Proof.Gen.KernelIn.Frame
public import proofs.«01_k».proof.Proof.Gen.KernelInIdeal.Value
public import proofs.«01_k».proof.Proof.Gen.ReferenceInIdeal.Run
public import Idealize.ShloMosaic.Lib.Pipeline.ValueKit
public import Idealize.ShloMosaic.Lib.Quiescent

@[expose] public section

set_option maxRecDepth 16384

noncomputable section

namespace Cert.GradIn

open Idealize.ShloMosaic Idealize.ShloMosaic.TcCoe Idealize.SL.Sem Cert.KernelInIdeal Cert.KernelInIdeal.Gen
open Idealize.ShloMosaic.Pipeline (Dat)

variable (m : (ℓ : Loc nD τ sig) → Buf (Elt Ideal) ℓ)

/-- The cotangents' columns against the activations' columns, by reference: the whole product, cut into four groups of columns. -/
abbrev whole (ct : FVec Ideal Cert.ReferenceInIdeal.S8192x2048 .f32) (h : FVec Ideal Cert.ReferenceInIdeal.S8192x1024 .f32) :
    FVec Ideal Cert.ReferenceInIdeal.S1024x2048 .f32 :=
  transpose Cert.ReferenceInIdeal.S1024x2048 [1, 0] (Host.dotGeneral Cert.ReferenceInIdeal.dot_S8192x2048_S8192x1024_S2048x1024_0_0_1_1_n_n none ct h)
    Cert.ReferenceInIdeal.Gen.transposes_S2048x1024_S1024x2048_1_0

/-- An element of the whole product is a sum over the tokens. -/
theorem whole_at (ct : FVec Ideal Cert.ReferenceInIdeal.S8192x2048 .f32) (h : FVec Ideal Cert.ReferenceInIdeal.S8192x1024 .f32)
    (a : Fin 1024) (b : Fin 2048) : whole ct h (ix2 a b) = ∑ l : Fin 8192, ct (ix2 l b) * h (ix2 l a) := by
  pointwise [whole]

/-- The block is cleared at a run's first point. -/
theorem clear_at (j) : k0_pay1 (F := Ideal) j = 0 := by pointwise [k0_pay1]

/-- A point adds the product of its 2048 tokens. -/
theorem add_at (acc : Vec Ideal S1x1024x512 .f32) (x : Vec Ideal S2048x1024 .bf16) (y : Vec Ideal S2048x512 .bf16) (j) :
    k0_pay2 acc x y j = acc j + ∑ k : Fin 2048, x (ix2 k (j 1)) * y (ix2 k (j 2)) := by pointwise [k0_pay2]

theorem places : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The product over all tokens, cut into the four groups of columns. -/
def G (h : FVec Ideal S8192x1024 .f32) (ct : FVec Ideal S8192x2048 .f32) : FVec Ideal S4x1024x512 .f32 := fun j =>
  ∑ l : Fin 8192, h (ix2 l (j 1)) * ct (ix2 l ⟨(j 0).val * 512 + (j 2).val, by idx_bounds; omega⟩)

/-- The array after the run: the sum over the four points of a run is the sum over all tokens. -/
theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_at, clear_at]) (fun t h j => by rw [outsAt0_B m c t h]; frame_out; rw [add_at])
    t ((flush0_2 t).mp hf) _, zero_add]
  unfold G
  refine Fin.sum_mul_add_congr fun s k hl => ?_
  blk_point [iblk, V, places t, places ⟨_, Pipeline.run_point_lt_of_flush t ((flush0_2 t).mp hf) s⟩]

/-- The reference's array: the four groups of columns stacked. -/
theorem stacked_at (W : FVec Ideal Cert.ReferenceInIdeal.S1024x2048 .f32) (j : S4x1024x512.Idx) :
    (concatenate Cert.ReferenceInIdeal.S4x1024x512 0
      [⟨Cert.ReferenceInIdeal.S1x1024x512, broadcastInDim Cert.ReferenceInIdeal.S1x1024x512 ![1, 2] Cert.ReferenceInIdeal.Gen.bcast_S1024x512_S1x1024x512_1_2
        (extractStridedSlice Cert.ReferenceInIdeal.S1024x512 ![0, 0] W Cert.ReferenceInIdeal.Gen.slices_S1024x2048_S1024x512_0_0)⟩,
       ⟨Cert.ReferenceInIdeal.S1x1024x512, broadcastInDim Cert.ReferenceInIdeal.S1x1024x512 ![1, 2] Cert.ReferenceInIdeal.Gen.bcast_S1024x512_S1x1024x512_1_2
        (extractStridedSlice Cert.ReferenceInIdeal.S1024x512 ![0, 512] W Cert.ReferenceInIdeal.Gen.slices_S1024x2048_S1024x512_0_512)⟩,
       ⟨Cert.ReferenceInIdeal.S1x1024x512, broadcastInDim Cert.ReferenceInIdeal.S1x1024x512 ![1, 2] Cert.ReferenceInIdeal.Gen.bcast_S1024x512_S1x1024x512_1_2
        (extractStridedSlice Cert.ReferenceInIdeal.S1024x512 ![0, 1024] W Cert.ReferenceInIdeal.Gen.slices_S1024x2048_S1024x512_0_1024)⟩,
       ⟨Cert.ReferenceInIdeal.S1x1024x512, broadcastInDim Cert.ReferenceInIdeal.S1x1024x512 ![1, 2] Cert.ReferenceInIdeal.Gen.bcast_S1024x512_S1x1024x512_1_2
        (extractStridedSlice Cert.ReferenceInIdeal.S1024x512 ![0, 1536] W Cert.ReferenceInIdeal.Gen.slices_S1024x2048_S1024x512_0_1536)⟩]
      Cert.ReferenceInIdeal.Gen.concatenates_S1x1024x512_S1x1024x512_S1x1024x512_S1x1024x512_S4x1024x512_d0 : FVec Ideal Cert.ReferenceInIdeal.S4x1024x512 .f32) j
      = W (ix2 (j 1) ⟨(j 0).val * 512 + (j 2).val, by idx_bounds; omega⟩) := by
  pointwise []
  blk_point []

theorem frame_p : Cert.quiescent_KernelIn := fun m ρ _ => Cert.KernelIn.Gen.frame m ρ
theorem frame_pi : Cert.quiescent_KernelInIdeal := fun m ρ _ => Cert.KernelInIdeal.Gen.frame m ρ
theorem frame_ri : Cert.quiescent_ReferenceInIdeal := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := Ideal) m ρ)
theorem preserves : Cert.preserves_KernelIn_KernelInIdeal := trivial

theorem algebraic : Cert.algebraic_KernelInIdeal_ReferenceInIdeal := by
  intro m ρ m' ρ' _ hagree
  refine ⟨fun c => (dats m 0 c).arrAt 2 cfg0.N, ?_, ?_⟩
  · exact (θ_run _ _ _).mono (fun r h c => h c) (Cert.KernelInIdeal.Value.run_blocks m ρ)
  · refine (θ_run _ _ _).mono (fun r h c => ?_) (Cert.ReferenceInIdeal.Value.run (F := Ideal) m' ρ')
    refine ⟨(h c).1.trans ?_, (h c).2⟩
    obtain ⟨a0, a1⟩ := hagree c
    refine Eq.trans (funext fun j => ?_) (final m c).symm
    rw [← a0, ← a1]
    refine (stacked_at _ j).trans ((whole_at _ _ _ _).trans ?_)
    exact Finset.sum_congr rfl fun l _ => mul_comm _ _

end Cert.GradIn

end
-- ==== Proof.FfnRow.lean ====
/-
  One row's normalization gradient: the two programs' forms of it are equal at every row (untrusted).
-/
module

public import proofs.«01_k».proof.Defs
public import Idealize.ShloMosaic.Lib.Pipeline.ValueKit

@[expose] public section

noncomputable section

namespace Cert.GradFfn

open Idealize.ShloMosaic

theorem word_width : Ideal.ofBits .f32 0x44800000#32 = ((1024 : ℝ) : EReal) := by
  simp [Ideal.ofBits, Ideal.ieee, -EReal.coe_mul]; norm_num
theorem word_half : Ideal.ofBits .f32 0xBF000000#32 = ((-(1 / 2) : ℝ) : EReal) := by
  simp [Ideal.ofBits, Ideal.ieee, -EReal.coe_mul]; norm_num
theorem word_eps : ∃ e : ℝ, 0 < e ∧ Ideal.ofBits .f32 0x358637BD#32 = (e : EReal) := by
  refine ⟨_, ?_, by simp only [Ideal.ofBits, Ideal.ieee, BitVec.reduceExtractLsb', BitVec.toNat_ofNat]; rfl⟩
  norm_num
  rw [if_neg (by decide)]
  norm_num

/-- A row's mean square, shifted. -/
def shift (x : Fin 1024 → EReal) : EReal :=
  Ideal.div (∑ l, x l * x l) (Ideal.ofBits .f32 0x44800000#32) + Ideal.ofBits .f32 0x358637BD#32
/-- The reciprocal of a row's root mean square. -/
def recip (x : Fin 1024 → EReal) : EReal := Ideal.rsqrt (shift x)

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- The shifted mean square is infinite or a positive number. -/
theorem shift_cases (x : Fin 1024 → EReal) : shift x = ⊤ ∨ ∃ v : ℝ, 0 < v ∧ shift x = (v : EReal) := by
  obtain ⟨e, he, hw⟩ := word_eps
  have hpos : 0 < shift x := by
    unfold shift
    rw [hw, word_width, Ideal.div_coe (by norm_num)]
    have h1 : (0 : EReal) ≤ (∑ l, x l * x l) * ((1 / 1024 : ℝ) : EReal) :=
      mul_nonneg (Finset.sum_nonneg fun l _ => sq_nonneg _) (by exact_mod_cast (by norm_num : (0:ℝ) ≤ 1 / 1024))
    exact lt_of_lt_of_le (by exact_mod_cast he : (0 : EReal) < (e : EReal)) (le_add_of_nonneg_left h1)
  induction h : shift x with
  | bot => rw [h] at hpos; simp at hpos
  | top => exact .inl rfl
  | coe v => rw [h] at hpos; exact .inr ⟨v, by exact_mod_cast hpos, rfl⟩

theorem recip_cases (x : Fin 1024 → EReal) :
    (shift x = ⊤ ∧ recip x = 0) ∨ ∃ v r : ℝ, 0 < v ∧ 0 < r ∧ r * r * v = 1 ∧ shift x = (v : EReal) ∧ recip x = (r : EReal) := by
  rcases shift_cases x with h | ⟨v, hv, h⟩
  · exact .inl ⟨h, by rw [recip, h, Ideal.rsqrt_top]⟩
  · have hs := Real.sqrt_pos.mpr hv
    refine .inr ⟨v, (Real.sqrt v)⁻¹, hv, inv_pos.mpr hs, ?_, h, ?_⟩
    · rw [← mul_inv, Real.mul_self_sqrt hv.le, inv_mul_cancel₀ hv.ne']
    · rw [recip, h, Ideal.rsqrt_coe, if_neg (not_lt.mpr hv.le), if_neg hv.ne']

theorem scale_add (r : ℝ) (hr : 0 < r) (a b : EReal) : (r : EReal) * (a + b) = r * a + r * b :=
  EReal.left_distrib_of_nonneg_of_ne_top (by exact_mod_cast hr.le) (EReal.coe_ne_top r) a b

theorem scale_sum (r : ℝ) (hr : 0 < r) {ι : Type} (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, scale_add r hr, ih]

/-- Twice half of a negative multiple. -/
theorem double (z : EReal) (k : ℝ) (hk : 0 < k) : z * ((-(k / 2) : ℝ) : EReal) + z * ((-(k / 2) : ℝ) : EReal) = -(z * (k : EReal)) := by
  have h2 : -(k / 2) < 0 := by linarith
  induction z with
  | bot => rw [EReal.bot_mul_coe_of_neg h2, EReal.bot_mul_coe_of_pos hk]; rfl
  | top => rw [EReal.top_mul_coe_of_neg h2, EReal.top_mul_coe_of_pos hk]; rfl
  | coe z => rw [← EReal.coe_mul, ← EReal.coe_mul, ← EReal.coe_add, ← EReal.coe_neg]; congr 1; ring

/-- The gradient of a row through its normalization, in the shorter form. -/
def short (x n : Fin 1024 → EReal) (i : Fin 1024) : EReal :=
  recip x * (n i - x i * recip x * Ideal.div (∑ l, n l * (x l * recip x)) (Ideal.ofBits .f32 0x44800000#32))

/-- What multiplies a row's entries, in the longer form. -/
def pull (x n : Fin 1024 → EReal) : EReal :=
  Ideal.div ((∑ l, x l * n l) * (Ideal.ofBits .f32 0xBF000000#32 * Ideal.div (recip x) (shift x))) (Ideal.ofBits .f32 0x44800000#32)
/-- The gradient of a row through its normalization, in the longer form. -/
def long (x n : Fin 1024 → EReal) (i : Fin 1024) : EReal := n i * recip x + x i * pull x n + pull x n * x i

theorem short_eq_long (x n : Fin 1024 → EReal) (i : Fin 1024) : short x n i = long x n i := by
  unfold short long pull
  rw [word_width, word_half, Ideal.div_coe (by norm_num), Ideal.div_coe (by norm_num)]
  rcases recip_cases x with ⟨hs, hr⟩ | ⟨v, r, hv, hr0, hrv, hs, hr⟩
  · rw [hs, hr]
    have : Ideal.div 0 ⊤ = 0 := by simp [Ideal.div]
    simp [this]
  · rw [hs, hr, Ideal.div_coe hv.ne']
    have hsum : (∑ l, n l * (x l * (r : EReal))) = (r : EReal) * ∑ l, x l * n l := by
      rw [scale_sum r hr0]
      exact Finset.sum_congr rfl fun l _ => by rw [mul_comm (r : EReal), mul_comm (x l) (n l), mul_assoc]
    rw [hsum]
    generalize (∑ l, x l * n l) = A
    have hk : 0 < r * r * r * (1 / 1024) := by positivity
    have e1 : A * (((-(1 / 2) : ℝ) : EReal) * ((r : EReal) * ((1 / v : ℝ) : EReal))) * ((1 / 1024 : ℝ) : EReal)
        = A * ((-(r * r * r * (1 / 1024) / 2) : ℝ) : EReal) := by
      rw [mul_assoc, ← EReal.coe_mul, ← EReal.coe_mul, ← EReal.coe_mul]
      congr 2
      have : 1 / v = r * r := by field_simp; linarith
      rw [this]; ring
    have e2 : x i * (r : EReal) * ((r : EReal) * A * ((1 / 1024 : ℝ) : EReal)) = (x i * A) * ((r * r * (1 / 1024) : ℝ) : EReal) := by
      rw [EReal.coe_mul, EReal.coe_mul]; ac_rfl
    rw [e1, e2, mul_comm (A * _) (x i), add_assoc, ← mul_assoc, double _ _ hk, sub_eq_add_neg, scale_add r hr0, mul_comm (n i)]
    congr 1
    rw [mul_neg]
    congr 1
    rw [mul_left_comm, ← EReal.coe_mul]
    congr 2; ring

end Cert.GradFfn

end
-- ==== Proof.FfnTile.lean ====
/-
  The feed-forward call's numbers, and what one point of its grid computes of them (untrusted).
-/
module

public import proofs.«01_k».proof.Defs
public import proofs.«01_k».proof.Proof.Gen.KernelFfnIdeal.Value
public import proofs.«01_k».proof.Proof.FfnRow
public import Idealize.ShloMosaic.Lib.Pipeline.ValueKit

@[expose] public section

set_option maxRecDepth 16384

noncomputable section

namespace Cert.GradFfn

open Idealize.ShloMosaic Idealize.ShloMosaic.TcCoe Idealize.SL.Sem Cert.KernelFfnIdeal Cert.KernelFfnIdeal.Gen

/-- The call's arguments. -/
structure Args where
  dc : FVec Ideal S8192x5632 .f32
  cw : FVec Ideal S3x5632 .f32
  wu : FVec Ideal S1024x5632 .f32
  x : FVec Ideal S8192x1024 .f32
  g : FVec Ideal S1024 .f32
  dy : FVec Ideal S8192x1024 .f32

namespace Args
variable (A : Args)

/-- The cotangent `k` tokens on, nothing past the end. -/
def later (t : Fin 8192) (k : ℕ) (f : Fin 5632) : EReal := if h : t.val + k < 8192 then A.dc (ix2 ⟨t.val + k, h⟩ f) else 0
/-- The gradient in the up projection's output. -/
def du (t : Fin 8192) (f : Fin 5632) : EReal :=
  A.cw (ix2 2 f) * A.dc (ix2 t f) + A.cw (ix2 1 f) * A.later t 1 f + A.cw (ix2 0 f) * A.later t 2 f
/-- The gradient in the normalized, scaled input. -/
def dh (t : Fin 8192) (d : Fin 1024) : EReal := ∑ f : Fin 5632, A.du t f * A.wu (ix2 d f)
/-- A token's row. -/
def row (t : Fin 8192) : Fin 1024 → EReal := fun l => A.x (ix2 t l)
/-- The gradient in a token's normalized row. -/
def dn (t : Fin 8192) : Fin 1024 → EReal := fun l => A.dh t l * A.g (ix1 l)
/-- The gradient in the residual. -/
def dx (t : Fin 8192) (d : Fin 1024) : EReal := A.dy (ix2 t d) + short (A.row t) (A.dn t) d
/-- A token's share of the gradient in the norm's scale. -/
def share (t : Fin 8192) (d : Fin 1024) : EReal := A.dh t d * (A.row t d * recip (A.row t))
end Args

/-- The shifted rows of a tile: its own, then the first of the next tile. -/
theorem conv_at (v3 : BitVec 1) (h : Vec Ideal S8x1408 .bf16) (b : Vec Ideal S256x1408 .bf16) (c2 c1 c0 : Vec Ideal S1x1x1408 .f32) (r : Fin 256) (f : Fin 1408) :
    k0_pay9 v3 h b c2 c1 c0 (ix2 r f)
      = c2 (ix3 0 0 f) * b (ix2 r f)
        + c1 (ix3 0 0 f) * (if hr : r.val + 1 < 256 then b (ix2 ⟨r.val + 1, hr⟩ f) else Scalar.select v3 (h (ix2 ⟨r.val + 1 - 256, by omega⟩ f)) 0)
        + c0 (ix3 0 0 f) * (if hr : r.val + 2 < 256 then b (ix2 ⟨r.val + 2, hr⟩ f) else Scalar.select v3 (h (ix2 ⟨r.val + 2 - 256, by omega⟩ f)) 0) := by
  pointwise [k0_pay9]
  have e1 : (r.val + 264 - 263) % 264 = r.val + 1 := by omega
  have e2 : (r.val + 264 - 262) % 264 = r.val + 2 := by omega
  simp only [e1, e2]

theorem conv_first (i : grid0.Coords) (h : Vec Ideal S8x1408 .bf16) (b : Vec Ideal S256x1408 .bf16) (c2 c1 c0 : Vec Ideal S1x1x1408 .f32) :
    k0_pay7 i h b c2 c1 c0 = k0_pay9 (Scalar.cmpi .slt (BitVec.ofNat 32 (i 0).val) 31#32) h b c2 c1 c0 := rfl
theorem conv_third (v3 : BitVec 1) (h : Vec Ideal S8x1408 .bf16) (b : Vec Ideal S256x1408 .bf16) (c2 c1 c0 : Vec Ideal S1x1x1408 .f32) :
    k0_pay11 v3 h b c2 c1 c0 = k0_pay9 v3 h b c2 c1 c0 := rfl
theorem conv_fourth (v3 : BitVec 1) (h : Vec Ideal S8x1408 .bf16) (b : Vec Ideal S256x1408 .bf16) (c2 c1 c0 : Vec Ideal S1x1x1408 .f32) :
    k0_pay13 v3 h b c2 c1 c0 = k0_pay9 v3 h b c2 c1 c0 := rfl

/-- What the call's buffers hold at its point `p`. -/
structure Holds (A : Args) (p : ℕ) (x0 : Vec Ideal S256x5632 .bf16) (x1 : Vec Ideal S8x5632 .bf16) (x2 : Vec Ideal S3x1x5632 .f32)
    (x3 : Vec Ideal S4x1024x1408 .bf16) (x4 : Vec Ideal S256x1024 .f32) (x5 : Vec Ideal S1x1024 .f32) (x6 : Vec Ideal S256x1024 .f32) : Prop where
  point : p < 32
  dc : ∀ (r : Fin 256) (f : Fin 5632), x0 (ix2 r f) = A.dc (ix2 ⟨256 * p + r.val, by omega⟩ f)
  next : ∀ (h : p < 31) (r : Fin 8) (f : Fin 5632), x1 (ix2 r f) = A.dc (ix2 ⟨256 * (p + 1) + r.val, by omega⟩ f)
  cw : ∀ (k : Fin 3) (f : Fin 5632), x2 (ix3 k 0 f) = A.cw (ix2 k f)
  wu : ∀ (j : Fin 4) (d : Fin 1024) (f : Fin 1408), x3 (ix3 j d f) = A.wu (ix2 d ⟨j.val * 1408 + f.val, by omega⟩)
  x : ∀ (r : Fin 256) (d : Fin 1024), x4 (ix2 r d) = A.x (ix2 ⟨256 * p + r.val, by omega⟩ d)
  g : ∀ d : Fin 1024, x5 (ix2 0 d) = A.g (ix1 d)
  dy : ∀ (r : Fin 256) (d : Fin 1024), x6 (ix2 r d) = A.dy (ix2 ⟨256 * p + r.val, by omega⟩ d)

/-- A row of a tile. -/
abbrev tok {p : ℕ} (hp : p < 32) (r : Fin 256) : Fin 8192 := ⟨256 * p + r.val, by omega⟩

/-- A tile of one group of columns of the gradient in the up projection's output. -/
theorem conv_eq (A : Args) {p : ℕ} (hp : p < 32) (v3 : BitVec 1) (h : Vec Ideal S8x1408 .bf16) (b : Vec Ideal S256x1408 .bf16)
    (c2 c1 c0 : Vec Ideal S1x1x1408 .f32) (r : Fin 256) (f : Fin 1408) (F : Fin 5632)
    (h3 : v3 = if p < 31 then 1#1 else 0#1)
    (hb : ∀ r : Fin 256, b (ix2 r f) = A.dc (ix2 (tok hp r) F))
    (hh : ∀ (h' : p < 31) (r : Fin 8), h (ix2 r f) = A.dc (ix2 ⟨256 * (p + 1) + r.val, by omega⟩ F))
    (h2 : c2 (ix3 0 0 f) = A.cw (ix2 2 F)) (h1 : c1 (ix3 0 0 f) = A.cw (ix2 1 F)) (h0 : c0 (ix3 0 0 f) = A.cw (ix2 0 F)) :
    k0_pay9 v3 h b c2 c1 c0 (ix2 r f) = A.du (tok hp r) F := by
  have key : ∀ (k : ℕ) (hk : k < 8), (if hr : r.val + k < 256 then b (ix2 ⟨r.val + k, hr⟩ f)
      else Scalar.select v3 (h (ix2 ⟨r.val + k - 256, by omega⟩ f)) (0 : EReal)) = A.later (tok hp r) k F := by
    intro k hk
    unfold Args.later
    by_cases hr : r.val + k < 256
    · rw [dif_pos hr, dif_pos (show 256 * p + r.val + k < 8192 by omega), hb]
      congr 2; apply Fin.ext; show 256 * p + (r.val + k) = 256 * p + r.val + k; omega
    · rw [dif_neg hr, h3]
      by_cases h' : p < 31
      · rw [if_pos h', dif_pos (show 256 * p + r.val + k < 8192 by omega), hh h']
        refine Eq.trans (if_pos rfl) ?_
        congr 2; apply Fin.ext; show 256 * (p + 1) + (r.val + k - 256) = 256 * p + r.val + k; omega
      · rw [if_neg h', dif_neg (show ¬ 256 * p + r.val + k < 8192 by omega)]
        exact if_neg (by decide)
  rw [conv_at, h2, h1, h0, hb r]
  refine congrArg₂ (· + ·) (congrArg (_ + ·) (congrArg (_ * ·) (key 1 (by omega)))) (congrArg (_ * ·) (key 2 (by omega)))

/-- A tile's product with the four groups of columns. -/
theorem prod_at (v3 : BitVec 1) (u0 u1 u2 : FVec Ideal S256x1408 .bf16) (w0 w1 w2 w3 : Vec Ideal S1x1024x1408 .bf16) (h : Vec Ideal S8x1408 .bf16)
    (b : Vec Ideal S256x1408 .bf16) (c2 c1 c0 : Vec Ideal S1x1x1408 .f32) (z : FVec Ideal S256x1024 .f32) (hz : ∀ j, z j = 0) (r : Fin 256) (d : Fin 1024) :
    k0_pay14 v3 (k0_pay10 (k0_pay8 k0_pay6 u0 w0) u1 w1) u2 (k0_pay12 w2) z h b c2 c1 c0 w3 (ix2 r d)
      = (∑ k : Fin 1408, u0 (ix2 r k) * w0 (ix3 0 d k)) + (∑ k : Fin 1408, u1 (ix2 r k) * w1 (ix3 0 d k))
        + (∑ k : Fin 1408, u2 (ix2 r k) * w2 (ix3 0 d k)) + (∑ k : Fin 1408, k0_pay9 v3 h b c2 c1 c0 (ix2 r k) * w3 (ix3 0 d k)) := by
  rw [← conv_fourth]
  pointwise [k0_pay14, k0_pay10, k0_pay8, k0_pay6, k0_pay12, hz]

/-- The sum over all columns, by groups. -/
theorem dh_groups (A : Args) (t : Fin 8192) (d : Fin 1024) (G : Fin 4 → EReal)
    (hG : ∀ j : Fin 4, G j = ∑ k : Fin 1408, A.du t ⟨j.val * 1408 + k.val, by omega⟩ * A.wu (ix2 d ⟨j.val * 1408 + k.val, by omega⟩)) :
    G 0 + G 1 + G 2 + G 3 = A.dh t d := by
  rw [← Fin.sum_univ_four G]
  simp only [hG]
  exact Fin.sum_mul_add_fin 4 1408 (fun f : Fin 5632 => A.du t f * A.wu (ix2 d f))

/-- The residual's gradient at a tile's entry. -/
theorem resid_at (dh : FVec Ideal S256x1024 .f32) (x : Vec Ideal S256x1024 .f32) (g : Vec Ideal S1x1024 .f32) (dy : Vec Ideal S256x1024 .f32) (r : Fin 256) (d : Fin 1024) :
    k0_pay4 dh x g dy (ix2 r d) = dy (ix2 r d) + short (fun l => x (ix2 r l)) (fun l => dh (ix2 r l) * g (ix2 0 l)) d := by
  pointwise [k0_pay4, k0_pay2, k0_pay1, short, recip, shift]

/-- A point adds its tile's share of the gradient in the scale. -/
theorem scale_at (dh : FVec Ideal S256x1024 .f32) (x : Vec Ideal S256x1024 .f32) (acc : Vec Ideal S1x1024 .f32) (d : Fin 1024) :
    k0_pay3 dh x acc (ix2 0 d) = acc (ix2 0 d) + ∑ r : Fin 256, dh (ix2 r d) * (x (ix2 r d) * recip (fun l => x (ix2 r l))) := by
  pointwise [k0_pay3, k0_pay2, k0_pay1, recip, shift]

theorem clear_at (j) : k0_pay5 (F := Ideal) j = 0 := by pointwise [k0_pay5]

end Cert.GradFfn

end
-- ==== Proof.FfnRef.lean ====
/-
  The feed-forward gradients by reference, entry by entry (untrusted).
-/
module

public import proofs.«01_k».proof.Defs
public import proofs.«01_k».proof.Proof.Gen.ReferenceFfnIdeal.Run
public import proofs.«01_k».proof.Proof.FfnTile
public import Idealize.ShloMosaic.Lib.Pipeline.ValueKit

@[expose] public section

set_option maxRecDepth 16384

noncomputable section

namespace Cert.GradFfn

open Idealize.ShloMosaic Idealize.ShloMosaic.TcCoe Idealize.SL.Sem Idealize.ShloMosaic.StableHlo Cert.ReferenceFfnIdeal Cert.ReferenceFfnIdeal.Gen

/-- The gradient in the up projection's output, by reference. -/
abbrev refU (dc : FVec Ideal S8192x5632 .f32) (cw : FVec Ideal S3x5632 .f32) : FVec Ideal S8192x5632 .f32 :=
  extractStridedSlice S8192x5632 ![2, 0] (addf (addf (pad S8194x5632 ![2, 0] ![0, 0] ![0, 0] (mulf (shapeCast _ dc shapeCasts_S8192x5632_S8192x5632)
        (broadcastInDim S8192x5632 ![0, 1] bcast_S1x5632_S8192x5632_0_1 (broadcastInDim S1x5632 ![1] bcast_S5632_S1x5632_1 (shapeCast _
        (extractStridedSlice S1x5632 ![2, 0] cw slices_S3x5632_S1x5632_2_0) shapeCasts_S1x5632_S5632)))) (constant S_ .f32 0x00000000#32)
        pads_S8192x5632_S8194x5632_200_000 h_S_) (pad S8194x5632 ![1, 0] ![1, 0] ![0, 0] (mulf (shapeCast _ dc shapeCasts_S8192x5632_S8192x5632)
        (broadcastInDim S8192x5632 ![0, 1] bcast_S1x5632_S8192x5632_0_1 (broadcastInDim S1x5632 ![1] bcast_S5632_S1x5632_1 (shapeCast _
        (extractStridedSlice S1x5632 ![1, 0] cw slices_S3x5632_S1x5632_1_0) shapeCasts_S1x5632_S5632)))) (constant S_ .f32 0x00000000#32)
        pads_S8192x5632_S8194x5632_110_000 h_S_)) (pad S8194x5632 ![0, 0] ![2, 0] ![0, 0] (mulf (shapeCast _ dc shapeCasts_S8192x5632_S8192x5632)
        (broadcastInDim S8192x5632 ![0, 1] bcast_S1x5632_S8192x5632_0_1 (broadcastInDim S1x5632 ![1] bcast_S5632_S1x5632_1 (shapeCast _
        (extractStridedSlice S1x5632 ![0, 0] cw slices_S3x5632_S1x5632_0_0) shapeCasts_S1x5632_S5632)))) (constant S_ .f32 0x00000000#32)
        pads_S8192x5632_S8194x5632_020_000 h_S_)) slices_S8194x5632_S8192x5632_2_0

/-- The gradient in the normalized, scaled input, by reference. -/
abbrev refH (u : FVec Ideal S8192x5632 .f32) (wu : FVec Ideal S1024x5632 .f32) : FVec Ideal S8192x1024 .f32 :=
  Host.dotGeneral dot_S8192x5632_S1024x5632_S8192x1024_1_1_0_0_n_n none u wu

/-- The gradient in the residual, by reference. -/
abbrev refX (dh : FVec Ideal S8192x1024 .f32) (x : FVec Ideal S8192x1024 .f32) (g : FVec Ideal S1024 .f32) (dy : FVec Ideal S8192x1024 .f32) : FVec Ideal S8192x1024 .bf16 :=
  truncf .bf16 (addf dy (addf (addf (mulf (mulf dh (broadcastInDim S8192x1024 ![0, 1] bcast_S1x1024_S8192x1024_0_1 (broadcastInDim S1x1024 ![1]
        bcast_S1024_S1x1024_1 g))) (broadcastInDim S8192x1024 ![0, 1] bcast_S8192x1_S8192x1024_0_1 (Host.rsqrt (addf (Host.divf (broadcastInDim S8192x1
        ![0] bcast_S8192_S8192x1_0 (Host.reduceAdd (mulf x x) (constant S_ .f32 0x00000000#32) reducesTo_S8192x1024_S8192_d1 h_S_)) (broadcastInDim S8192x1
        ![] bcast_S_S8192x1 (constant S_ .f32 0x44800000#32))) (broadcastInDim S8192x1 ![] bcast_S_S8192x1 (constant S_ .f32 0x358637BD#32)))))) (mulf x
        (broadcastInDim S8192x1024 ![0] bcast_S8192_S8192x1024_0 (Host.reduceAdd (Host.divf (mulf (shapeCast _ (Host.reduceAdd (mulf x (mulf dh
        (broadcastInDim S8192x1024 ![0, 1] bcast_S1x1024_S8192x1024_0_1 (broadcastInDim S1x1024 ![1] bcast_S1024_S1x1024_1 g)))) (constant S_ .f32
        0x00000000#32) reducesTo_S8192x1024_S8192_d1 h_S_) shapeCasts_S8192_S8192x1) (mulf (broadcastInDim S8192x1 ![] bcast_S_S8192x1 (constant S_ .f32
        0xBF000000#32)) (Host.divf (Host.rsqrt (addf (Host.divf (broadcastInDim S8192x1 ![0] bcast_S8192_S8192x1_0 (Host.reduceAdd (mulf x x) (constant S_
        .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32)))) (addf (Host.divf (broadcastInDim S8192x1 ![0] bcast_S8192_S8192x1_0
        (Host.reduceAdd (mulf x x) (constant S_ .f32 0x00000000#32) reducesTo_S8192x1024_S8192_d1 h_S_)) (broadcastInDim S8192x1 ![] bcast_S_S8192x1
        (constant S_ .f32 0x44800000#32))) (broadcastInDim S8192x1 ![] bcast_S_S8192x1 (constant S_ .f32 0x358637BD#32)))))) (broadcastInDim S8192x1 ![]
        bcast_S_S8192x1 (constant S_ .f32 0x44800000#32))) (constant S_ .f32 0x00000000#32) reducesTo_S8192x1_S8192_d1 h_S_)))) (mulf (broadcastInDim
        S8192x1024 ![0] bcast_S8192_S8192x1024_0 (Host.reduceAdd (Host.divf (mulf (shapeCast _ (Host.reduceAdd (mulf x (mulf dh (broadcastInDim S8192x1024
        ![0, 1] bcast_S1x1024_S8192x1024_0_1 (broadcastInDim S1x1024 ![1] bcast_S1024_S1x1024_1 g)))) (constant S_ .f32 0x00000000#32)
        reducesTo_S8192x1024_S8192_d1 h_S_) shapeCasts_S8192_S8192x1) (mulf (broadcastInDim S8192x1 ![] bcast_S_S8192x1 (constant S_ .f32 0xBF000000#32))
        (Host.divf (Host.rsqrt (addf (Host.divf (broadcastInDim S8192x1 ![0] bcast_S8192_S8192x1_0 (Host.reduceAdd (mulf x x) (constant S_ .f32
        0x00000000#32) reducesTo_S8192x1024_S8192_d1 h_S_)) (broadcastInDim S8192x1 ![] bcast_S_S8192x1 (constant S_ .f32 0x44800000#32))) (broadcastInDim
        S8192x1 ![] bcast_S_S8192x1 (constant S_ .f32 0x358637BD#32)))) (addf (Host.divf (broadcastInDim S8192x1 ![0] bcast_S8192_S8192x1_0 (Host.reduceAdd
        (mulf x x) (constant S_ .f32 0x00000000#32) reducesTo_S8192x1024_S8192_d1 h_S_)) (broadcastInDim S8192x1 ![] bcast_S_S8192x1 (constant S_ .f32
        0x44800000#32))) (broadcastInDim S8192x1 ![] bcast_S_S8192x1 (constant S_ .f32 0x358637BD#32)))))) (broadcastInDim S8192x1 ![] bcast_S_S8192x1
        (constant S_ .f32 0x44800000#32))) (constant S_ .f32 0x00000000#32) reducesTo_S8192x1_S8192_d1 h_S_)) x))) bitsLt_bf16_f32

/-- The gradient in the norm's scale, by reference. -/
abbrev refG (dh : FVec Ideal S8192x1024 .f32) (x : FVec Ideal S8192x1024 .f32) : FVec Ideal S1x1024 .f32 :=
  broadcastInDim S1x1024 ![1] bcast_S1024_S1x1024_1 (Host.reduceAdd (shapeCast _ (Host.reduceAdd (mulf (mulf x (broadcastInDim S8192x1024 ![0, 1]
        bcast_S8192x1_S8192x1024_0_1 (Host.rsqrt (addf (Host.divf (broadcastInDim S8192x1 ![0] bcast_S8192_S8192x1_0 (Host.reduceAdd (mulf x x) (constant
        S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32)))))) dh) (constant S_ .f32 0x00000000#32)
        reducesTo_S8192x1024_S1024_d0 h_S_) shapeCasts_S1024_S1x1024) (constant S_ .f32 0x00000000#32) reducesTo_S1x1024_S1024_d0 h_S_)

/-- The arguments as the reference's run finds them. -/
def refArgs (m : (ℓ : Loc nD τ sig) → Buf (Elt Ideal) ℓ) (c : Dev nD) : Args where
  dc := m ((c.tc : Thread nD τ).loc main_arg0)
  cw := m ((c.tc : Thread nD τ).loc main_arg1)
  wu := m ((c.tc : Thread nD τ).loc main_arg2)
  x := m ((c.tc : Thread nD τ).loc main_arg3)
  g := m ((c.tc : Thread nD τ).loc main_arg4)
  dy := m ((c.tc : Thread nD τ).loc main_arg5)

theorem second_eq (m : (ℓ : Loc nD τ sig) → Buf (Elt Ideal) ℓ) (c : Dev nD) :
    Value.res_main_v80 m c = refX (refH (refU (refArgs m c).dc (refArgs m c).cw) (refArgs m c).wu) (refArgs m c).x (refArgs m c).g (refArgs m c).dy := by
  unfold Value.res_main_v80
  rfl

theorem refU_at (A : Args) (t : Fin 8192) (f : Fin 5632) : refU A.dc A.cw (ix2 t f) = A.du t f := by
  unfold Args.du Args.later
  pointwise [refU]
  refine congrArg₂ (· + ·) (congrArg₂ (· + ·) (mul_comm _ _) ?_) ?_
  · by_cases h : t.val + 1 < 8192
    · rw [dif_pos h, dif_pos (show 1 ≤ 2 + t.val ∧ 2 + t.val - 1 < 8192 by omega), mul_comm]
      refine congrArg (_ * ·) (congrArg (fun t => A.dc (ix2 t f)) (Fin.ext ?_))
      show 2 + t.val - 1 = t.val + 1; omega
    · rw [dif_neg h, dif_neg (show ¬ (1 ≤ 2 + t.val ∧ 2 + t.val - 1 < 8192) by omega), mul_zero]
  · by_cases h : t.val + 2 < 8192
    · rw [dif_pos h, dif_pos (show 2 + t.val < 8192 by omega), mul_comm]
      refine congrArg (_ * ·) (congrArg (fun t => A.dc (ix2 t f)) (Fin.ext ?_))
      show 2 + t.val = t.val + 2; omega
    · rw [dif_neg h, dif_neg (show ¬ 2 + t.val < 8192 by omega), mul_zero]

theorem refH_at (u : FVec Ideal S8192x5632 .f32) (wu : FVec Ideal S1024x5632 .f32) (t : Fin 8192) (d : Fin 1024) :
    refH u wu (ix2 t d) = ∑ f : Fin 5632, u (ix2 t f) * wu (ix2 d f) := by
  pointwise [refH]

theorem refX_at (dh : FVec Ideal S8192x1024 .f32) (x : FVec Ideal S8192x1024 .f32) (g : FVec Ideal S1024 .f32) (dy : FVec Ideal S8192x1024 .f32)
    (t : Fin 8192) (d : Fin 1024) :
    refX dh x g dy (ix2 t d) = dy (ix2 t d) + long (fun l => x (ix2 t l)) (fun l => dh (ix2 t l) * g (ix1 l)) d := by
  pointwise [refX, long, pull, recip, shift]
  simp only [Fin.sum_univ_one]

theorem refG_at (dh : FVec Ideal S8192x1024 .f32) (x : FVec Ideal S8192x1024 .f32) (d : Fin 1024) :
    refG dh x (ix2 0 d) = ∑ t : Fin 8192, x (ix2 t d) * recip (fun l => x (ix2 t l)) * dh (ix2 t d) := by
  pointwise [refG, recip, shift]
  simp only [Fin.sum_univ_one]

end Cert.GradFfn

end
-- ==== Proof.GradFfn.lean ====
/-
  The feed-forward gradients: the call's arrays are the reference's (untrusted).
-/
module

public import proofs.«01_k».proof.Defs
public import proofs.«01_k».proof.Proof.Gen.KernelFfn.Frame
public import proofs.«01_k».proof.Proof.Gen.KernelFfnIdeal.Value
public import proofs.«01_k».proof.Proof.FfnRef
public import Idealize.ShloMosaic.Lib.Pipeline.ValueKit
public import Idealize.ShloMosaic.Lib.Quiescent

@[expose] public section

set_option maxRecDepth 16384

noncomputable section

namespace Cert.GradFfn

open Idealize.ShloMosaic Idealize.ShloMosaic.TcCoe Idealize.SL.Sem Cert.KernelFfnIdeal Cert.KernelFfnIdeal.Gen
open Idealize.ShloMosaic.Pipeline (Dat)

variable (m : (ℓ : Loc nD τ sig) → Buf (Elt Ideal) ℓ)

/-- The arguments as the run finds them. -/
def args (c : Dev nD) : Args where
  dc := m ((c : Thread nD τ).loc main_arg0)
  cw := m ((c : Thread nD τ).loc main_arg1)
  wu := m ((c : Thread nD τ).loc main_arg2)
  x := m ((c : Thread nD τ).loc main_arg3)
  g := m ((c : Thread nD τ).loc main_arg4)
  dy := m ((c : Thread nD τ).loc main_arg5)

theorem places : ∀ t : Fin cfg0.N, win0_0.index t = ![t.val, 0] ∧ win0_1.index t = ![min ((t.val + 1) * 32) 1023, 0] ∧ win0_2.index t = ![0, 0, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

theorem flag : ∀ t : Fin cfg0.N, Scalar.cmpi .slt (BitVec.ofNat 32 ((grid0.coords t) 0).val) 31#32 = if t.val < 31 then 1#1 else 0#1 :=
  (by decide +kernel : ∀ t : Fin grid0.N, _)

theorem point_lt (t : Fin cfg0.N) : t.val < 32 := t.isLt

theorem holds (c : Dev nD) (t : Fin cfg0.N) :
    Holds (args m c) t.val (iblk m c 0 t) (iblk m c 1 t) (iblk m c 2 t) (iblk m c 3 t) (iblk m c 4 t) (iblk m c 5 t) (iblk m c 6 t) := by
  have ht := point_lt t
  refine ⟨ht, ?_, ?_, ?_, ?_, ?_, ?_, ?_⟩
  · intro r f; blk_point [iblk, V, args, places t]
  · intro h r f; blk_point [iblk, V, args, places t]
  · intro k f; blk_point [iblk, V, args, places t]
  · intro j d f; blk_point [iblk, V, args, places t]
  · intro r d; blk_point [iblk, V, args, places t]
  · intro d; blk_point [iblk, V, args, places t]
  · intro r d; blk_point [iblk, V, args, places t]

/-- A tile of one group of columns, read off the call's buffers. -/
theorem tile {A : Args} {p : ℕ} {x0 : Vec Ideal S256x5632 .bf16} {x1 : Vec Ideal S8x5632 .bf16} {x2 : Vec Ideal S3x1x5632 .f32}
    {x3 : Vec Ideal S4x1024x1408 .bf16} {x4 : Vec Ideal S256x1024 .f32} {x5 : Vec Ideal S1x1024 .f32} {x6 : Vec Ideal S256x1024 .f32}
    (H : Holds A p x0 x1 x2 x3 x4 x5 x6) (v3 : BitVec 1) (h3 : v3 = if p < 31 then 1#1 else 0#1) (o : ℕ) (ho : o + 1408 ≤ 5632)
    (i1 : ∀ a, (![0, o] : Fin 2 → ℕ) a + (![8, 1408] : Fin 2 → ℕ) a ≤ S8x5632.size a)
    (i0 : ∀ a, (![0, o] : Fin 2 → ℕ) a + (![256, 1408] : Fin 2 → ℕ) a ≤ S256x5632.size a)
    (j2 : ∀ a, (![2, 0, o] : Fin 3 → ℕ) a + (![1, 1, 1408] : Fin 3 → ℕ) a ≤ S3x1x5632.size a)
    (j1 : ∀ a, (![1, 0, o] : Fin 3 → ℕ) a + (![1, 1, 1408] : Fin 3 → ℕ) a ≤ S3x1x5632.size a)
    (j0 : ∀ a, (![0, 0, o] : Fin 3 → ℕ) a + (![1, 1, 1408] : Fin 3 → ℕ) a ≤ S3x1x5632.size a)
    (r : Fin 256) (f : Fin 1408) (t : Fin 8192) (F : Fin 5632) (hr : t.val = 256 * p + r.val) (hF : F.val = o + f.val) :
    k0_pay9 v3 (View.ld x1 (Rect.unit ![0, o] ![8, 1408] i1)) (View.ld x0 (Rect.unit ![0, o] ![256, 1408] i0))
      (View.ld x2 (Rect.unit ![2, 0, o] ![1, 1, 1408] j2)) (View.ld x2 (Rect.unit ![1, 0, o] ![1, 1, 1408] j1))
      (View.ld x2 (Rect.unit ![0, 0, o] ![1, 1, 1408] j0)) (ix2 r f) = A.du t F := by
  have hf : o + f.val < 5632 := by omega
  obtain rfl : F = ⟨o + f.val, hf⟩ := Fin.ext hF
  obtain rfl : t = tok H.point r := Fin.ext hr
  refine conv_eq A H.point _ _ _ _ _ _ r f _ h3 ?_ ?_ ?_ ?_ ?_
  · intro r; pointwise []; exact H.dc _ _
  · intro h r; pointwise []; exact H.next h _ _
  · pointwise []; exact H.cw 2 _
  · pointwise []; exact H.cw 1 _
  · pointwise []; exact H.cw 0 _

/-- A tile's product, read off the call's buffers. -/
abbrev prod (i : grid0.Coords) (x0 : Vec Ideal S256x5632 .bf16) (x1 : Vec Ideal S8x5632 .bf16) (x2 : Vec Ideal S3x1x5632 .f32)
    (x3 : Vec Ideal S4x1024x1408 .bf16) : FVec Ideal S256x1024 .f32 :=
  k0_pay14 (Scalar.cmpi .slt (BitVec.ofNat 32 (i 0).val) 31#32)
      (k0_pay10 (k0_pay8 k0_pay6
        (k0_pay7 i (View.ld x1 (Rect.unit ![0, 0] ![8, 1408] inb_S8x5632_S8x1408_0_0)) (View.ld x0 (Rect.unit ![0, 0] ![256, 1408] inb_S256x5632_S256x1408_0_0))
        (View.ld x2 (Rect.unit ![2, 0, 0] ![1, 1, 1408] inb_S3x1x5632_S1x1x1408_2_0_0)) (View.ld x2 (Rect.unit ![1, 0, 0] ![1, 1, 1408] inb_S3x1x5632_S1x1x1408_1_0_0))
        (View.ld x2 (Rect.unit ![0, 0, 0] ![1, 1, 1408] inb_S3x1x5632_S1x1x1408_0_0_0)))
        (View.ld x3 (Rect.unit ![0, 0, 0] ![1, 1024, 1408] inb_S4x1024x1408_S1x1024x1408_0_0_0)))
        (k0_pay9 (Scalar.cmpi .slt (BitVec.ofNat 32 (i 0).val) 31#32) (View.ld x1 (Rect.unit ![0, 1408] ![8, 1408] inb_S8x5632_S8x1408_0_1408)) (View.ld x0 (Rect.unit ![0, 1408] ![256, 1408] inb_S256x5632_S256x1408_0_1408))
        (View.ld x2 (Rect.unit ![2, 0, 1408] ![1, 1, 1408] inb_S3x1x5632_S1x1x1408_2_0_1408)) (View.ld x2 (Rect.unit ![1, 0, 1408] ![1, 1, 1408] inb_S3x1x5632_S1x1x1408_1_0_1408))
        (View.ld x2 (Rect.unit ![0, 0, 1408] ![1, 1, 1408] inb_S3x1x5632_S1x1x1408_0_0_1408)))
        (View.ld x3 (Rect.unit ![1, 0, 0] ![1, 1024, 1408] inb_S4x1024x1408_S1x1024x1408_1_0_0)))
      (k0_pay11 (Scalar.cmpi .slt (BitVec.ofNat 32 (i 0).val) 31#32) (View.ld x1 (Rect.unit ![0, 2816] ![8, 1408] inb_S8x5632_S8x1408_0_2816)) (View.ld x0 (Rect.unit ![0, 2816] ![256, 1408] inb_S256x5632_S256x1408_0_2816))
        (View.ld x2 (Rect.unit ![2, 0, 2816] ![1, 1, 1408] inb_S3x1x5632_S1x1x1408_2_0_2816)) (View.ld x2 (Rect.unit ![1, 0, 2816] ![1, 1, 1408] inb_S3x1x5632_S1x1x1408_1_0_2816))
        (View.ld x2 (Rect.unit ![0, 0, 2816] ![1, 1, 1408] inb_S3x1x5632_S1x1x1408_0_0_2816)))
      (k0_pay12 (View.ld x3 (Rect.unit ![2, 0, 0] ![1, 1024, 1408] inb_S4x1024x1408_S1x1024x1408_2_0_0)))
      (constant S256x1024 .f32 0x00000000#32)
      (View.ld x1 (Rect.unit ![0, 4224] ![8, 1408] inb_S8x5632_S8x1408_0_4224)) (View.ld x0 (Rect.unit ![0, 4224] ![256, 1408] inb_S256x5632_S256x1408_0_4224))
        (View.ld x2 (Rect.unit ![2, 0, 4224] ![1, 1, 1408] inb_S3x1x5632_S1x1x1408_2_0_4224)) (View.ld x2 (Rect.unit ![1, 0, 4224] ![1, 1, 1408] inb_S3x1x5632_S1x1x1408_1_0_4224))
        (View.ld x2 (Rect.unit ![0, 0, 4224] ![1, 1, 1408] inb_S3x1x5632_S1x1x1408_0_0_4224))
      (View.ld x3 (Rect.unit ![3, 0, 0] ![1, 1024, 1408] inb_S4x1024x1408_S1x1024x1408_3_0_0))

theorem prod_eq {A : Args} {p : ℕ} {x0 : Vec Ideal S256x5632 .bf16} {x1 : Vec Ideal S8x5632 .bf16} {x2 : Vec Ideal S3x1x5632 .f32}
    {x3 : Vec Ideal S4x1024x1408 .bf16} {x4 : Vec Ideal S256x1024 .f32} {x5 : Vec Ideal S1x1024 .f32} {x6 : Vec Ideal S256x1024 .f32}
    (H : Holds A p x0 x1 x2 x3 x4 x5 x6) (i : grid0.Coords) (h3 : Scalar.cmpi .slt (BitVec.ofNat 32 (i 0).val) 31#32 = if p < 31 then 1#1 else 0#1)
    (r : Fin 256) (d : Fin 1024) : prod i x0 x1 x2 x3 (ix2 r d) = A.dh (tok H.point r) d := by
  refine (prod_at _ _ _ _ _ _ _ _ _ _ _ _ _ _ (fun j => by pointwise []) r d).trans (Eq.trans ?_ (dh_groups A _ d (fun j => ∑ k : Fin 1408,
    A.du (tok H.point r) ⟨j.val * 1408 + k.val, by omega⟩ * A.wu (ix2 d ⟨j.val * 1408 + k.val, by omega⟩)) (fun j => rfl)))
  refine congrArg₂ (· + ·) (congrArg₂ (· + ·) (congrArg₂ (· + ·) ?_ ?_) ?_) ?_
  · refine Finset.sum_congr rfl fun k _ => congrArg₂ (· * ·) ?_ ?_
    · rw [conv_first]; exact tile H _ h3 0 (by omega) _ _ _ _ _ r k _ _ rfl (by simp)
    · pointwise []; exact (H.wu 0 d k).trans (congrArg (fun f => A.wu (ix2 d f)) (Fin.ext (by show 0 * 1408 + k.val = k.val; omega)))
  · refine Finset.sum_congr rfl fun k _ => congrArg₂ (· * ·) ?_ ?_
    · exact tile H _ h3 1408 (by omega) _ _ _ _ _ r k _ _ rfl (by simp)
    · pointwise []; exact H.wu 1 d k
  · refine Finset.sum_congr rfl fun k _ => congrArg₂ (· * ·) ?_ ?_
    · rw [conv_third]; exact tile H _ h3 2816 (by omega) _ _ _ _ _ r k _ _ rfl (by simp)
    · pointwise []; exact H.wu 2 d k
  · refine Finset.sum_congr rfl fun k _ => congrArg₂ (· * ·) ?_ ?_
    · exact tile H _ h3 4224 (by omega) _ _ _ _ _ r k _ _ rfl (by simp)
    · pointwise []; exact H.wu 3 d k

theorem resid_eq {A : Args} {p : ℕ} {x0 : Vec Ideal S256x5632 .bf16} {x1 : Vec Ideal S8x5632 .bf16} {x2 : Vec Ideal S3x1x5632 .f32}
    {x3 : Vec Ideal S4x1024x1408 .bf16} {x4 : Vec Ideal S256x1024 .f32} {x5 : Vec Ideal S1x1024 .f32} {x6 : Vec Ideal S256x1024 .f32}
    (H : Holds A p x0 x1 x2 x3 x4 x5 x6) (i : grid0.Coords) (h3 : Scalar.cmpi .slt (BitVec.ofNat 32 (i 0).val) 31#32 = if p < 31 then 1#1 else 0#1)
    (r : Fin 256) (d : Fin 1024) : k0_pay4 (prod i x0 x1 x2 x3) x4 x5 x6 (ix2 r d) = A.dx (tok H.point r) d := by
  refine (resid_at _ _ _ _ r d).trans ?_
  unfold Args.dx
  refine congrArg₂ (· + ·) (H.dy r d) (congrArg₂ (fun a b => short a b d) (funext fun l => H.x r l) (funext fun l => ?_))
  exact congrArg₂ (· * ·) (prod_eq H i h3 r l) (H.g l)

theorem share_eq {A : Args} {p : ℕ} {x0 : Vec Ideal S256x5632 .bf16} {x1 : Vec Ideal S8x5632 .bf16} {x2 : Vec Ideal S3x1x5632 .f32}
    {x3 : Vec Ideal S4x1024x1408 .bf16} {x4 : Vec Ideal S256x1024 .f32} {x5 : Vec Ideal S1x1024 .f32} {x6 : Vec Ideal S256x1024 .f32}
    (H : Holds A p x0 x1 x2 x3 x4 x5 x6) (i : grid0.Coords) (h3 : Scalar.cmpi .slt (BitVec.ofNat 32 (i 0).val) 31#32 = if p < 31 then 1#1 else 0#1)
    (acc : Vec Ideal S1x1024 .f32) (j : S1x1024.Idx) :
    k0_pay3 (prod i x0 x1 x2 x3) x4 acc j = acc j + ∑ r : Fin 256, A.share (tok H.point r) (j 1) := by
  obtain ⟨z, d, rfl⟩ : ∃ (z : Fin 1) (d : Fin 1024), j = ix2 z d := ⟨j 0, j 1, by ext a; fin_cases a <;> rfl⟩
  obtain rfl : z = 0 := Subsingleton.elim _ _
  refine (scale_at _ _ acc d).trans (congrArg (_ + ·) (Finset.sum_congr rfl fun r _ => ?_))
  exact congrArg₂ (· * ·) (prod_eq H i h3 r d) (congrArg₂ (· * ·) (H.x r d) (congrArg recip (funext fun l => H.x r l)))

theorem final7 (c : Dev nD) : (dats m 0 c).arrAt 7 (cfgs 0).N = (fun j => (args m c).du (j 0) (j 1) : FVec Ideal S8192x5632 .bf16) := by
  refine (dats m 0 c).arrAt_eq_of_covers 7 _ (by decide +kernel) fun t hf y => ?_
  blk_simp
  rw [after0_7]
  have H := holds m c t
  have hfl := flag t
  have hp := places t
  by_cases h0 : t.val % 32 = 0
  · rw [outsAt0_A m c t h0]
    frame_out
    clear h0
    canon_tiles x h
    all_goals idx_vars x
    case' piece0 => rw [conv_fourth]; refine tile H _ hfl 4224 (by omega) _ _ _ _ _ _ _ _ _ ?_ ?_
    case' piece1 => rw [conv_third]; refine tile H _ hfl 2816 (by omega) _ _ _ _ _ _ _ _ _ ?_ ?_
    case' piece2 => refine tile H _ hfl 1408 (by omega) _ _ _ _ _ _ _ _ _ ?_ ?_
    case' piece3 => rw [conv_first]; refine tile H _ hfl 0 (by omega) _ _ _ _ _ _ _ _ _ ?_ ?_
    all_goals (blk_simp [hp] <;> try omega)
  · rw [outsAt0_B m c t h0]
    frame_out
    clear h0
    canon_tiles x h
    all_goals idx_vars x
    case' piece0 => rw [conv_fourth]; refine tile H _ hfl 4224 (by omega) _ _ _ _ _ _ _ _ _ ?_ ?_
    case' piece1 => rw [conv_third]; refine tile H _ hfl 2816 (by omega) _ _ _ _ _ _ _ _ _ ?_ ?_
    case' piece2 => refine tile H _ hfl 1408 (by omega) _ _ _ _ _ _ _ _ _ ?_ ?_
    case' piece3 => rw [conv_first]; refine tile H _ hfl 0 (by omega) _ _ _ _ _ _ _ _ _ ?_ ?_
    all_goals (blk_simp [hp] <;> try omega)

theorem final8 (c : Dev nD) : (dats m 0 c).arrAt 8 (cfgs 0).N = (fun j => (args m c).dx (j 0) (j 1) : FVec Ideal S8192x1024 .bf16) := by
  refine (dats m 0 c).arrAt_eq_of_covers 8 _ (by decide +kernel) fun t hf y => ?_
  blk_simp
  rw [after0_8]
  have H := holds m c t
  have hfl := flag t
  have hp := places t
  by_cases h0 : t.val % 32 = 0
  on_goal 1 => rw [outsAt0_A m c t h0]
  on_goal 2 => rw [outsAt0_B m c t h0]
  all_goals
    frame_out
    clear h0
    refine Eq.trans ?_ ((resid_eq H _ hfl (y 0) (y 1)).trans ?_)
  case' pos.refine_1 => exact congrArg _ (funext fun a => by fin_cases a <;> rfl)
  case' neg.refine_1 => exact congrArg _ (funext fun a => by fin_cases a <;> rfl)
  all_goals
    refine congrArg₂ _ (Fin.ext ?_) (Fin.ext ?_) <;> (blk_simp [hp] <;> try (show 256 * _ + _ = _; omega))

theorem final9 (c : Dev nD) : (dats m 0 c).arrAt 9 (cfgs 0).N = (fun j => ∑ t, (args m c).share t (j 1) : FVec Ideal S1x1024 .f32) := by
  refine (dats m 0 c).arrAt_eq_of_covers 9 _ (by decide +kernel) fun t hf y => ?_
  blk_simp
  rw [after0_9, Pipeline.eq_sum_fin_of_reset_step_apply_of_flush (fun n h => (outsAt0 m c n h).2.2) 32 (fun _ => 0)
    (fun (t : Fin cfg0.N) j => ∑ r : Fin 256, (args m c).share (tok (point_lt t) r) (j 1))
    (fun t h j => by rw [outsAt0_A m c t h]; frame_out; rw [share_eq (holds m c t) _ (flag t), clear_at])
    (fun t h j => by rw [outsAt0_B m c t h]; frame_out; rw [share_eq (holds m c t) _ (flag t)])
    t ((flush0_9 t).mp hf) _, zero_add]
  refine Fin.sum_mul_add_congr fun s k hl => ?_
  have hp := places t
  have ht := point_lt t
  refine congrArg₂ _ (Fin.ext ?_) (Fin.ext ?_)
  · show 256 * (32 * (t.val / 32) + s.val) + k.val = s.val * 256 + k.val; omega
  · blk_simp [hp]

theorem frame_p : Cert.quiescent_KernelFfn := fun m ρ _ => Cert.KernelFfn.Gen.frame m ρ
theorem frame_pi : Cert.quiescent_KernelFfnIdeal := fun m ρ _ => Cert.KernelFfnIdeal.Gen.frame m ρ
theorem frame_ri : Cert.quiescent_ReferenceFfnIdeal := fun m ρ _ =>
  (θ_run Cert.ReferenceFfnIdeal.defs _ _).mono (fun r h => ⟨fun c => (h c).2.2.2, Idealize.ShloMosaic.sem_eq_zero_of_no_sems (by decide) r.2⟩)
    (Cert.ReferenceFfnIdeal.Value.run (F := Ideal) m ρ)
theorem preserves : Cert.preserves_KernelFfn_KernelFfnIdeal := trivial

theorem refH_eq (A : Args) (t : Fin 8192) (d : Fin 1024) : refH (refU A.dc A.cw) A.wu (ix2 t d) = A.dh t d :=
  (refH_at _ _ t d).trans (Finset.sum_congr rfl fun f _ => congrArg (· * _) (refU_at A t f))

theorem result_u (A : Args) : (truncf .bf16 (refU A.dc A.cw) Cert.ReferenceFfnIdeal.Gen.bitsLt_bf16_f32 : FVec Ideal S8192x5632 .bf16) = fun j => A.du (j 0) (j 1) := by
  funext j
  idx_vars j
  exact refU_at A _ _

theorem result_x (A : Args) : (refX (refH (refU A.dc A.cw) A.wu) A.x A.g A.dy : FVec Ideal S8192x1024 .bf16) = fun j => A.dx (j 0) (j 1) := by
  funext j
  obtain ⟨t, d, rfl⟩ : ∃ (t : Fin 8192) (d : Fin 1024), j = ix2 t d := ⟨j 0, j 1, by ext a; fin_cases a <;> rfl⟩
  refine (refX_at _ _ _ _ t d).trans (congrArg (_ + ·) ?_)
  refine (short_eq_long _ _ d).symm.trans (congrArg (fun n => short _ n d) (funext fun l => ?_))
  exact congrArg (· * _) (refH_eq A t l)

theorem result_g (A : Args) : (refG (refH (refU A.dc A.cw) A.wu) A.x : FVec Ideal S1x1024 .f32) = fun j => ∑ t, A.share t (j 1) := by
  funext j
  obtain ⟨z, d, rfl⟩ : ∃ (z : Fin 1) (d : Fin 1024), j = ix2 z d := ⟨j 0, j 1, by ext a; fin_cases a <;> rfl⟩
  obtain rfl : z = 0 := Subsingleton.elim _ _
  refine (refG_at _ _ d).trans (Finset.sum_congr rfl fun t _ => ?_)
  exact (congrArg (_ * ·) (refH_eq A t d)).trans (mul_comm _ _)

theorem algebraic : Cert.algebraic_KernelFfnIdeal_ReferenceFfnIdeal := by
  intro m ρ m' ρ' _ hagree
  refine ⟨fun c => (dats m 0 c).arrAt 7 cfg0.N, fun c => (dats m 0 c).arrAt 8 cfg0.N, fun c => (dats m 0 c).arrAt 9 cfg0.N, ?_, ?_⟩
  · refine (θ_run _ _ _).mono (fun r h c => ?_) (Cert.KernelFfnIdeal.Value.run_blocks m ρ)
    obtain ⟨h0, h1, h2, h3⟩ := h c
    exact ⟨h0, h1, h2, h3⟩
  · refine (θ_run _ _ _).mono (fun r h c => ?_) (Cert.ReferenceFfnIdeal.Value.run (F := Ideal) m' ρ')
    obtain ⟨h0, h1, h2, h3⟩ := h c
    obtain ⟨a0, a1, a2, a3, a4, a5⟩ := hagree c
    have hA : refArgs m' c = args m c := by
      unfold refArgs args
      rw [a0, a1, a2, a3, a4, a5]
    refine ⟨h0.trans (Eq.trans ?_ (final7 m c).symm), h1.trans (Eq.trans ?_ (final8 m c).symm), h2.trans (Eq.trans ?_ (final9 m c).symm), h3⟩
    · rw [← hA]; exact result_u (refArgs m' c)
    · rw [← hA]; exact (second_eq m' c).trans (result_x (refArgs m' c))
    · rw [← hA]; exact result_g (refArgs m' c)

end Cert.GradFfn

end
-- ==== Proof.MixOut.lean ====
/-
  The mixers' product, its norm added to the residual, and the next norm: the call's arrays, entry by entry (untrusted).
-/
module

public import proofs.«01_k».proof.Defs
public import proofs.«01_k».proof.Proof.Gen.KernelMixIdeal.Value
public import proofs.«01_k».proof.Proof.FfnRow
public import Idealize.ShloMosaic.Lib.Pipeline.ValueKit

@[expose] public section

set_option maxRecDepth 16384

noncomputable section

namespace Cert.MixOut

open Idealize.ShloMosaic Idealize.ShloMosaic.TcCoe Idealize.SL.Sem Idealize.ShloMosaic.StableHlo Cert.KernelMixIdeal Cert.KernelMixIdeal.Gen
open Cert.GradFfn (recip shift)
open Idealize.ShloMosaic.Pipeline (Dat)

/-- The call's arguments. -/
structure Args where
  a : FVec Ideal S8192x512 .f32
  p : FVec Ideal S8192x512 .f32
  w : FVec Ideal S1024x1024 .f32
  x : FVec Ideal S8192x1024 .f32
  gp : FVec Ideal S1024 .f32
  gf : FVec Ideal S1024 .f32

namespace Args
variable (A : Args)

/-- Both mixers' outputs side by side. -/
def cat (t : Fin 8192) (k : Fin 1024) : EReal := if h : k.val < 512 then A.a (ix2 t ⟨k.val, h⟩) else A.p (ix2 t ⟨k.val - 512, by omega⟩)
/-- The product, one mixer after the other. -/
def mix (t : Fin 8192) (d : Fin 1024) : EReal :=
  (∑ k : Fin 512, A.a (ix2 t k) * A.w (ix2 ⟨k.val, by omega⟩ d)) + ∑ k : Fin 512, A.p (ix2 t k) * A.w (ix2 ⟨512 + k.val, by omega⟩ d)
/-- The residual after the mixers. -/
def res (t : Fin 8192) (d : Fin 1024) : EReal := A.x (ix2 t d) + A.mix t d * recip (A.mix t) * A.gp (ix1 d)
/-- The feed-forward part's normalized input. -/
def nrm (t : Fin 8192) (d : Fin 1024) : EReal := A.res t d * recip (A.res t) * A.gf (ix1 d)
end Args

theorem prod_at (v0 : Vec Ideal S512x512 .bf16) (v6 : Vec Ideal S512x1024 .bf16) (v9 : Vec Ideal S512x512 .bf16) (v11 : Vec Ideal S512x1024 .bf16)
    (r : Fin 512) (d : Fin 1024) :
    k0_pay5 v0 v6 v9 v11 (ix2 r d) = (∑ k : Fin 512, v0 (ix2 r k) * v6 (ix2 k d)) + ∑ k : Fin 512, v9 (ix2 r k) * v11 (ix2 k d) := by
  pointwise [k0_pay5, k0_pay3]

theorem unit_at (v0 : Vec Ideal S512x512 .bf16) (v6 : Vec Ideal S512x1024 .bf16) (v9 : Vec Ideal S512x512 .bf16) (v11 : Vec Ideal S512x1024 .bf16)
    (M : Fin 1024 → EReal) (r : Fin 512) (h : ∀ d, k0_pay5 v0 v6 v9 v11 (ix2 r d) = M d) (d : Fin 1024) :
    k0_pay7 v0 v6 v9 v11 (ix2 r d) = M d * recip M := by
  obtain rfl : M = fun d => k0_pay5 v0 v6 v9 v11 (ix2 r d) := funext fun d => (h d).symm
  clear h
  unfold k0_pay7
  generalize k0_pay5 v0 v6 v9 v11 = m
  pointwise [recip, shift]

theorem scale_at (v28 : Vec Ideal S1x1024 .f32) (r : Fin 512) (d : Fin 1024) : k0_pay8 v28 (ix2 r d) = v28 (ix2 0 d) := by
  pointwise [k0_pay8]

theorem res_at (v26 : FVec Ideal S512x1024 .f32) (v27 : Vec Ideal S512x1024 .f32) (v30 : FVec Ideal S512x1024 .f32) (r : Fin 512) (d : Fin 1024) :
    k0_pay1 v26 v27 v30 (ix2 r d) = v27 (ix2 r d) + v26 (ix2 r d) * v30 (ix2 r d) := by
  pointwise [k0_pay1]

theorem nrm_at (v26 : FVec Ideal S512x1024 .f32) (v27 : Vec Ideal S512x1024 .f32) (v30 : FVec Ideal S512x1024 .f32) (v44 : Vec Ideal S1x1024 .f32)
    (M : Fin 1024 → EReal) (r : Fin 512) (h : ∀ d, k0_pay1 v26 v27 v30 (ix2 r d) = M d) (d : Fin 1024) :
    k0_pay2 v26 v27 v30 v44 (ix2 r d) = M d * recip M * v44 (ix2 0 d) := by
  obtain rfl : M = fun d => k0_pay1 v26 v27 v30 (ix2 r d) := funext fun d => (h d).symm
  clear h
  unfold k0_pay2
  generalize k0_pay1 v26 v27 v30 = m
  pointwise [recip, shift]

variable (m : (ℓ : Loc nD τ sig) → Buf (Elt Ideal) ℓ)

/-- The arguments as the run finds them. -/
def args (c : Dev nD) : Args where
  a := m ((c : Thread nD τ).loc main_arg0)
  p := m ((c : Thread nD τ).loc main_arg1)
  w := m ((c : Thread nD τ).loc main_arg2)
  x := m ((c : Thread nD τ).loc main_arg3)
  gp := m ((c : Thread nD τ).loc main_arg4)
  gf := m ((c : Thread nD τ).loc main_arg5)

theorem places : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem point_lt (t : Fin cfg0.N) : t.val < 16 := t.isLt

/-- A row of a tile. -/
abbrev tok {p : ℕ} (hp : p < 16) (r : Fin 512) : Fin 8192 := ⟨512 * p + r.val, by omega⟩

/-- What the call's buffers hold at its point `p`. -/
structure Holds (A : Args) (p : ℕ) (x0 x1 : Vec Ideal S512x512 .bf16) (x2 : Vec Ideal S1024x1024 .bf16)
    (x3 : Vec Ideal S512x1024 .f32) (x4 x5 : Vec Ideal S1x1024 .f32) : Prop where
  point : p < 16
  a : ∀ (r : Fin 512) (k : Fin 512), x0 (ix2 r k) = A.a (ix2 ⟨512 * p + r.val, by omega⟩ k)
  q : ∀ (r : Fin 512) (k : Fin 512), x1 (ix2 r k) = A.p (ix2 ⟨512 * p + r.val, by omega⟩ k)
  w : ∀ k d : Fin 1024, x2 (ix2 k d) = A.w (ix2 k d)
  x : ∀ (r : Fin 512) (d : Fin 1024), x3 (ix2 r d) = A.x (ix2 ⟨512 * p + r.val, by omega⟩ d)
  gp : ∀ d : Fin 1024, x4 (ix2 0 d) = A.gp (ix1 d)
  gf : ∀ d : Fin 1024, x5 (ix2 0 d) = A.gf (ix1 d)

theorem holds (c : Dev nD) (t : Fin cfg0.N) :
    Holds (args m c) t.val (iblk m c 0 t) (iblk m c 1 t) (iblk m c 2 t) (iblk m c 3 t) (iblk m c 4 t) (iblk m c 5 t) := by
  have ht := point_lt t
  refine ⟨ht, ?_, ?_, ?_, ?_, ?_, ?_⟩
  · intro r k; blk_point [iblk, V, args, places t]
  · intro r k; blk_point [iblk, V, args, places t]
  · intro k d; blk_point [iblk, V, args, places t]
  · intro r d; blk_point [iblk, V, args, places t]
  · intro d; blk_point [iblk, V, args, places t]
  · intro d; blk_point [iblk, V, args, places t]

section
variable {A : Args} {p : ℕ} {x0 x1 : Vec Ideal S512x512 .bf16} {x2 : Vec Ideal S1024x1024 .bf16} {x3 : Vec Ideal S512x1024 .f32}
  {x4 x5 : Vec Ideal S1x1024 .f32} (H : Holds A p x0 x1 x2 x3 x4 x5)

theorem whole_ld (x : Vec Ideal S512x512 .bf16) : View.ld x r0_0 = x := by funext j; idx_vars j; pointwise [r0_0]

include H in
theorem mix_eq (r : Fin 512) (d : Fin 1024) :
    k0_pay5 x0 (View.ld x2 r0_3) x1 (View.ld x2 r0_4) (ix2 r d) = A.mix (tok H.point r) d := by
  refine (prod_at _ _ _ _ r d).trans ?_
  unfold Args.mix
  refine congrArg₂ (· + ·) (Finset.sum_congr rfl fun k _ => congrArg₂ (· * ·) ?_ ?_) (Finset.sum_congr rfl fun k _ => congrArg₂ (· * ·) ?_ ?_)
  · exact H.a r k
  · pointwise [r0_3]; exact H.w _ d
  · exact H.q r k
  · pointwise [r0_4]; exact H.w _ d

include H in
theorem res_eq (r : Fin 512) (d : Fin 1024) :
    k0_pay1 (k0_pay9 x0 x1 x2 x3 x4 x5) x3 (k0_pay10 x0 x1 x2 x3 x4 x5) (ix2 r d) = A.res (tok H.point r) d := by
  refine (res_at _ _ _ r d).trans ?_
  unfold Args.res
  refine congrArg₂ (· + ·) (H.x r d) (congrArg₂ (· * ·) ?_ ?_)
  · rw [show k0_pay9 x0 x1 x2 x3 x4 x5 = k0_pay7 x0 (View.ld x2 r0_3) x1 (View.ld x2 r0_4) from congrArg₂ (fun a b => k0_pay7 a _ b _) (whole_ld x0) (whole_ld x1)]
    exact unit_at _ _ _ _ _ r (mix_eq H r) d
  · rw [show k0_pay10 x0 x1 x2 x3 x4 x5 = k0_pay8 x4 from congrArg k0_pay8 (by funext j; idx_vars j; obtain rfl : j0 = 0 := Subsingleton.elim _ _; pointwise [r0_6])]
    exact (scale_at _ r d).trans (H.gp d)

include H in
theorem nrm_eq (r : Fin 512) (d : Fin 1024) :
    k0_pay2 (k0_pay9 x0 x1 x2 x3 x4 x5) x3 (k0_pay10 x0 x1 x2 x3 x4 x5) x5 (ix2 r d) = A.nrm (tok H.point r) d := by
  refine (nrm_at _ _ _ _ _ r (res_eq H r) d).trans ?_
  exact congrArg (A.res (tok H.point r) d * recip (A.res (tok H.point r)) * ·) (H.gf d)
end

theorem final6 (c : Dev nD) : (dats m 0 c).arrAt 6 (cfgs 0).N = (fun j => (args m c).mix (j 0) (j 1) : FVec Ideal S8192x1024 .bf16) := by
  refine (dats m 0 c).arrAt_eq_of_covers 6 _ (by decide +kernel) fun t hf y => ?_
  blk_simp
  rw [after0_6]
  have H := holds m c t
  have hp := places t
  frame_out
  idx_vars y
  refine (mix_eq H _ _).trans ?_
  refine congrArg₂ _ (Fin.ext ?_) (Fin.ext ?_) <;> (blk_simp [hp] <;> try (show 512 * _ + _ = _; omega))

theorem final7 (c : Dev nD) : (dats m 0 c).arrAt 7 (cfgs 0).N = (fun j => (args m c).res (j 0) (j 1) : FVec Ideal S8192x1024 .f32) := by
  refine (dats m 0 c).arrAt_eq_of_covers 7 _ (by decide +kernel) fun t hf y => ?_
  blk_simp
  rw [after0_7]
  have H := holds m c t
  have hp := places t
  frame_out
  idx_vars y
  refine (res_eq H _ _).trans ?_
  refine congrArg₂ _ (Fin.ext ?_) (Fin.ext ?_) <;> (blk_simp [hp] <;> try (show 512 * _ + _ = _; omega))

theorem final8 (c : Dev nD) : (dats m 0 c).arrAt 8 (cfgs 0).N = (fun j => (args m c).nrm (j 0) (j 1) : FVec Ideal S8192x1024 .bf16) := by
  refine (dats m 0 c).arrAt_eq_of_covers 8 _ (by decide +kernel) fun t hf y => ?_
  blk_simp
  rw [after0_8]
  have H := holds m c t
  have hp := places t
  frame_out
  idx_vars y
  refine (nrm_eq H _ _).trans ?_
  refine congrArg₂ _ (Fin.ext ?_) (Fin.ext ?_) <;> (blk_simp [hp] <;> try (show 512 * _ + _ = _; omega))

theorem final9 (c : Dev nD) : (dats m 0 c).arrAt 9 (cfgs 0).N = (fun j => (args m c).cat (j 0) (j 1) : FVec Ideal S8192x1024 .bf16) := by
  refine (dats m 0 c).arrAt_eq_of_covers 9 _ (by decide +kernel) fun t hf y => ?_
  blk_simp
  rw [after0_9]
  have H := holds m c t
  have hp := places t
  frame_out
  canon_tiles x h
  all_goals idx_vars x
  case' piece0 =>
    rw [show k0_pay4 (iblk m c 1 t) = iblk m c 1 t by unfold k0_pay4; pointwise []]
    refine (H.q x0 x1).trans ?_
    unfold Args.cat
    rw [dif_neg (by blk_simp [hp]; omega)]
  case' piece1 =>
    rw [show k0_pay3 (iblk m c 0 t) = iblk m c 0 t by unfold k0_pay3; pointwise []]
    refine (H.a x0 x1).trans ?_
    unfold Args.cat
    rw [dif_pos (by blk_simp [hp]; omega)]
  all_goals refine congrArg _ (congrArg₂ _ (Fin.ext ?_) (Fin.ext ?_)) <;> (blk_simp [hp] <;> try (dsimp only; omega))

end Cert.MixOut

end
-- ==== Proof.MixRef.lean ====
/-
  The mixers' product, its norm added to the residual, and the next norm: the reference's arrays, entry by entry (untrusted).
-/
module

public import proofs.«01_k».proof.Defs
public import proofs.«01_k».proof.Proof.Gen.ReferenceMixIdeal.Run
public import proofs.«01_k».proof.Proof.MixOut
public import Idealize.ShloMosaic.Lib.Pipeline.ValueKit

@[expose] public section

set_option maxRecDepth 16384

noncomputable section

namespace Cert.MixOut

open Idealize.ShloMosaic Idealize.ShloMosaic.TcCoe Idealize.SL.Sem Idealize.ShloMosaic.StableHlo Cert.ReferenceMixIdeal Cert.ReferenceMixIdeal.Gen
open Cert.GradFfn (recip shift)

/-- Both mixers' outputs side by side, by reference. -/
abbrev refC (a p : FVec Ideal S8192x512 .f32) : FVec Ideal S8192x1024 .f32 :=
  concatenate S8192x1024 1 [⟨S8192x512, a⟩, ⟨S8192x512, p⟩] concatenates_S8192x512_S8192x512_S8192x1024_d1
/-- Their product, by reference. -/
abbrev refM (cat : FVec Ideal S8192x1024 .f32) (w : FVec Ideal S1024x1024 .f32) : FVec Ideal S8192x1024 .f32 :=
  Host.dotGeneral dot_S8192x1024_S1024x1024_S8192x1024_1_0_0_1_n_n none cat w
/-- A norm with its scale, by reference. -/
abbrev refN (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0]
    bcast_S8192_S8192x1_0 (Host.reduceAdd (mulf x x) (constant S_ .f32 0x00000000#32) reducesTo_S8192x1024_S8192_d1 h_S_)) (broadcastInDim S8192x1
    ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- The arguments as the reference's run finds them. -/
def refArgs (m : (ℓ : Loc nD τ sig) → Buf (Elt Ideal) ℓ) (c : Dev nD) : Args where
  a := m ((c.tc : Thread nD τ).loc main_arg0)
  p := m ((c.tc : Thread nD τ).loc main_arg1)
  w := m ((c.tc : Thread nD τ).loc main_arg2)
  x := m ((c.tc : Thread nD τ).loc main_arg3)
  gp := m ((c.tc : Thread nD τ).loc main_arg4)
  gf := m ((c.tc : Thread nD τ).loc main_arg5)

theorem third_eq (m : (ℓ : Loc nD τ sig) → Buf (Elt Ideal) ℓ) (c : Dev nD) :
    Value.res_main_v30 m c = truncf .bf16 (refN (addf (refArgs m c).x (refN (refM (refC (refArgs m c).a (refArgs m c).p) (refArgs m c).w)
      (refArgs m c).gp)) (refArgs m c).gf) bitsLt_bf16_f32 := by
  unfold Value.res_main_v30
  rfl

theorem refC_at (A : Args) (t : Fin 8192) (k : Fin 1024) : refC A.a A.p (ix2 t k) = A.cat t k := by
  unfold Args.cat
  pointwise [refC]

theorem refM_at (cat : FVec Ideal S8192x1024 .f32) (w : FVec Ideal S1024x1024 .f32) (t : Fin 8192) (d : Fin 1024) :
    refM cat w (ix2 t d) = ∑ k : Fin 1024, cat (ix2 t k) * w (ix2 k d) := by
  pointwise [refM]

theorem refN_at (x : FVec Ideal S8192x1024 .f32) (g : FVec Ideal S1024 .f32) (t : Fin 8192) (d : Fin 1024) :
    refN x g (ix2 t d) = x (ix2 t d) * recip (fun l => x (ix2 t l)) * g (ix1 d) := by
  pointwise [refN, recip, shift]

theorem refM_eq (A : Args) (t : Fin 8192) (d : Fin 1024) : refM (refC A.a A.p) A.w (ix2 t d) = A.mix t d := by
  refine (refM_at _ _ t d).trans ((Fin.sum_univ_add (a := 512) (b := 512) _).trans ?_)
  unfold Args.mix
  refine congrArg₂ (· + ·) (Finset.sum_congr rfl fun k _ => congrArg₂ (· * ·) ?_ ?_) (Finset.sum_congr rfl fun k _ => congrArg₂ (· * ·) ?_ ?_)
  · refine (refC_at A t _).trans ?_
    unfold Args.cat
    exact dif_pos k.isLt
  · rfl
  · refine (refC_at A t _).trans ?_
    unfold Args.cat
    refine (dif_neg (by show ¬ 512 + k.val < 512; omega)).trans (congrArg (fun k => A.p (ix2 t k)) (Fin.ext ?_))
    show 512 + k.val - 512 = k.val; omega
  · rfl

theorem result_m (A : Args) : (truncf .bf16 (refM (refC A.a A.p) A.w) bitsLt_bf16_f32 : FVec Ideal S8192x1024 .bf16) = fun j => A.mix (j 0) (j 1) := by
  funext j
  idx_vars j
  exact refM_eq A _ _

theorem result_c (A : Args) : (truncf .bf16 (refC A.a A.p) bitsLt_bf16_f32 : FVec Ideal S8192x1024 .bf16) = fun j => A.cat (j 0) (j 1) := by
  funext j
  idx_vars j
  exact refC_at A _ _

theorem refR_eq (A : Args) (t : Fin 8192) (d : Fin 1024) : addf A.x (refN (refM (refC A.a A.p) A.w) A.gp) (ix2 t d) = A.res t d := by
  refine congrArg (A.x (ix2 t d) + ·) ((refN_at _ _ t d).trans ?_)
  rw [refM_eq, show (fun l => refM (refC A.a A.p) A.w (ix2 t l)) = A.mix t from funext fun l => refM_eq A t l]

theorem result_r (A : Args) : (addf A.x (refN (refM (refC A.a A.p) A.w) A.gp) : FVec Ideal S8192x1024 .f32) = fun j => A.res (j 0) (j 1) := by
  funext j
  idx_vars j
  exact refR_eq A _ _

theorem result_n (A : Args) : (truncf .bf16 (refN (addf A.x (refN (refM (refC A.a A.p) A.w) A.gp)) A.gf) bitsLt_bf16_f32 : FVec Ideal S8192x1024 .bf16)
    = fun j => A.nrm (j 0) (j 1) := by
  rw [result_r]
  funext j
  idx_vars j
  exact refN_at _ _ _ _

end Cert.MixOut

end
-- ==== Proof.MixClaims.lean ====
/-
  The mixers' product, its norm added to the residual, and the next norm: the five claims (untrusted).
-/
module

public import proofs.«01_k».proof.Defs
public import proofs.«01_k».proof.Proof.Gen.KernelMix.Frame
public import proofs.«01_k».proof.Proof.Gen.KernelMixIdeal.Value
public import proofs.«01_k».proof.Proof.MixRef
public import Idealize.ShloMosaic.Lib.Pipeline.ValueKit
public import Idealize.ShloMosaic.Lib.Quiescent

@[expose] public section

set_option maxRecDepth 16384

noncomputable section

namespace Cert.MixOut

open Idealize.ShloMosaic Idealize.ShloMosaic.TcCoe Idealize.SL.Sem Idealize.ShloMosaic.StableHlo Cert.KernelMixIdeal Cert.KernelMixIdeal.Gen
open Cert.GradFfn (recip shift)
open Idealize.ShloMosaic.Pipeline (Dat)

theorem frame_p : Cert.quiescent_KernelMix := fun m ρ _ => Cert.KernelMix.Gen.frame m ρ
theorem frame_pi : Cert.quiescent_KernelMixIdeal := fun m ρ _ => Cert.KernelMixIdeal.Gen.frame m ρ
theorem frame_ri : Cert.quiescent_ReferenceMixIdeal := fun m ρ _ =>
  (θ_run Cert.ReferenceMixIdeal.defs _ _).mono (fun r h => ⟨fun c => (h c).2.2.2.2, Idealize.ShloMosaic.sem_eq_zero_of_no_sems (by decide) r.2⟩)
    (Cert.ReferenceMixIdeal.Value.run (F := Ideal) m ρ)
theorem preserves : Cert.preserves_KernelMix_KernelMixIdeal := trivial

theorem algebraic : Cert.algebraic_KernelMixIdeal_ReferenceMixIdeal := by
  intro m ρ m' ρ' _ hagree
  refine ⟨fun c => (dats m 0 c).arrAt 6 cfg0.N, fun c => (dats m 0 c).arrAt 7 cfg0.N, fun c => (dats m 0 c).arrAt 8 cfg0.N,
    fun c => (dats m 0 c).arrAt 9 cfg0.N, ?_, ?_⟩
  · refine (θ_run _ _ _).mono (fun r h c => ?_) (Cert.KernelMixIdeal.Value.run_blocks m ρ)
    obtain ⟨h0, h1, h2, h3, h4⟩ := h c
    exact ⟨h0, h1, h2, h3, h4⟩
  · refine (θ_run _ _ _).mono (fun r h c => ?_) (Cert.ReferenceMixIdeal.Value.run (F := Ideal) m' ρ')
    obtain ⟨h0, h1, h2, h3, h4⟩ := h c
    obtain ⟨a0, a1, a2, a3, a4, a5⟩ := hagree c
    have hA : refArgs m' c = args m c := by
      unfold refArgs args
      rw [a0, a1, a2, a3, a4, a5]
    refine ⟨h0.trans (Eq.trans ?_ (final6 m c).symm), h1.trans (Eq.trans ?_ (final7 m c).symm), h2.trans (Eq.trans ?_ (final8 m c).symm),
      h3.trans (Eq.trans ?_ (final9 m c).symm), h4⟩
    · rw [← hA]; exact result_m (refArgs m' c)
    · rw [← hA]; exact result_r (refArgs m' c)
    · rw [← hA]; exact (third_eq m' c).trans (result_n (refArgs m' c))
    · rw [← hA]; exact result_c (refArgs m' c)

end Cert.MixOut

end
-- ==== Proof.ProjTile.lean ====
/-
  The mixers' inputs: what a point of the call computes (untrusted).
-/
module

public import proofs.«01_k».proof.Defs
public import proofs.«01_k».proof.Proof.Gen.KernelProjIdeal.Value
public import proofs.«01_k».proof.Proof.FfnRow
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Cert.GradFfn (recip shift)
open Idealize.ShloMosaic.Pipeline (Dat)

/-- The call's arguments. -/
structure Args where
  x : FVec Ideal S8192x1024 .f32
  g : FVec Ideal S1024 .f32
  w : FVec Ideal S1024x2048 .f32

/-- The scale of the queries. -/
def eighth : EReal := Ideal.ofBits .f32 0x3E000000#32

namespace Args
variable (A : Args)

/-- The normalized input. -/
def nrm (t : Fin 8192) (k : Fin 1024) : EReal := A.x (ix2 t k) * recip (fun l => A.x (ix2 t l)) * A.g (ix1 k)
/-- Its product with one group of columns. -/
def part (b : Fin 4) (t : Fin 8192) (j : Fin 512) : EReal := ∑ k : Fin 1024, A.nrm t k * A.w (ix2 k ⟨512 * b.val + j.val, by omega⟩)
/-- The queries. -/
def query (t : Fin 8192) (j : Fin 512) : EReal := A.part 0 t j * eighth
end Args

theorem nrm_at (v0 : Vec Ideal S512x1024 .f32) (v11 : Vec Ideal S1x1024 .f32) (r : Fin 512) (k : Fin 1024) :
    k0_pay3 v0 v11 (ix2 r k) = v0 (ix2 r k) * recip (fun l => v0 (ix2 r l)) * v11 (ix2 0 k) := by
  pointwise [k0_pay3, recip, shift]

theorem query_at (v0 : Vec Ideal S512x1024 .f32) (v11 : Vec Ideal S1x1024 .f32) (v : Vec Ideal S1x1024x512 .bf16) (r j : Fin 512) :
    k0_pay4 v0 v11 v (ix2 r j) = (∑ k : Fin 1024, k0_pay3 v0 v11 (ix2 r k) * v (ix3 0 k j)) * eighth := by
  unfold k0_pay4
  generalize k0_pay3 v0 v11 = n
  pointwise [eighth]

theorem key_at (n : FVec Ideal S512x1024 .bf16) (v : Vec Ideal S1x1024x512 .bf16) (r j : Fin 512) :
    k0_pay91 n v (ix2 r j) = ∑ k : Fin 1024, n (ix2 r k) * v (ix3 0 k j) := by
  pointwise [k0_pay91]

theorem value_at (n : FVec Ideal S512x1024 .bf16) (v : Vec Ideal S1x1024x512 .bf16) (r j : Fin 512) :
    k0_pay178 n v (ix2 r j) = ∑ k : Fin 1024, n (ix2 r k) * v (ix3 0 k j) := by
  pointwise [k0_pay178]

theorem pool_at (n : FVec Ideal S512x1024 .bf16) (v : Vec Ideal S1x1024x512 .bf16) (r j : Fin 512) :
    k0_pay2 n v (ix2 r j) = ∑ k : Fin 1024, n (ix2 r k) * v (ix3 0 k j) := by
  pointwise [k0_pay2]

/-- A chunk of 128 columns starting at column `o`. -/
def Chunk (w : FVec Ideal S512x128 .f32) (o : ℕ) (f : Fin 512 → Fin 512 → EReal) : Prop :=
  ∀ (r : Fin 512) (l : Fin 128) (C : Fin 512), C.val = o + l.val → w (ix2 r l) = f r C

section
variable (v0 : Vec Ideal S512x1024 .f32) (v11 : Vec Ideal S1x1024 .f32) (v : Vec Ideal S1x1024x512 .bf16) (n : FVec Ideal S512x1024 .bf16)
  (p : FVec Ideal S512x512 .f32) (f : Fin 512 → Fin 512 → EReal)

theorem query0 (h : ∀ r j, k0_pay4 v0 v11 v (ix2 r j) = f r j) : Chunk (k0_pay5 v0 v11 v) 0 f := by
  intro r l C hC; refine Eq.trans ?_ (h r C); unfold k0_pay5; generalize k0_pay4 v0 v11 v = q; pointwise []; blk_ext
theorem query1 (h : ∀ r j, k0_pay4 v0 v11 v (ix2 r j) = f r j) : Chunk (k0_pay6 v0 v11 v) 128 f := by
  intro r l C hC; refine Eq.trans ?_ (h r C); unfold k0_pay6; generalize k0_pay4 v0 v11 v = q; pointwise []; blk_ext
theorem query2 (h : ∀ r j, k0_pay4 v0 v11 v (ix2 r j) = f r j) : Chunk (k0_pay7 v0 v11 v) 256 f := by
  intro r l C hC; refine Eq.trans ?_ (h r C); unfold k0_pay7; generalize k0_pay4 v0 v11 v = q; pointwise []; blk_ext
theorem query3 (h : ∀ r j, k0_pay4 v0 v11 v (ix2 r j) = f r j) : Chunk (k0_pay9 (k0_pay8 v0 v11 v)) 384 f := by
  intro r l C hC; refine Eq.trans ?_ (h r C); unfold k0_pay9 k0_pay8; generalize k0_pay4 v0 v11 v = q; pointwise []; blk_ext
theorem key0 (h : ∀ r j, k0_pay91 n v (ix2 r j) = f r j) : Chunk (k0_pay93 (k0_pay92 n v)) 0 f := by
  intro r l C hC; refine Eq.trans ?_ (h r C); unfold k0_pay93 k0_pay92; generalize k0_pay91 n v = q; pointwise []; blk_ext
theorem key1 (h : ∀ r j, p (ix2 r j) = f r j) : Chunk (k0_pay94 p) 128 f := by
  intro r l C hC; refine Eq.trans ?_ (h r C); unfold k0_pay94; pointwise []; blk_ext
theorem key2 (h : ∀ r j, p (ix2 r j) = f r j) : Chunk (k0_pay95 p) 256 f := by
  intro r l C hC; refine Eq.trans ?_ (h r C); unfold k0_pay95; pointwise []; blk_ext
theorem key3 (h : ∀ r j, p (ix2 r j) = f r j) : Chunk (k0_pay96 p) 384 f := by
  intro r l C hC; refine Eq.trans ?_ (h r C); unfold k0_pay96; pointwise []; blk_ext
theorem value0 (h : ∀ r j, k0_pay178 n v (ix2 r j) = f r j) : Chunk (k0_pay179 n v) 0 f := by
  intro r l C hC; refine Eq.trans ?_ (h r C); unfold k0_pay179; generalize k0_pay178 n v = q; pointwise []; blk_ext
theorem value1 (h : ∀ r j, k0_pay178 n v (ix2 r j) = f r j) : Chunk (k0_pay180 n v) 128 f := by
  intro r l C hC; refine Eq.trans ?_ (h r C); unfold k0_pay180; generalize k0_pay178 n v = q; pointwise []; blk_ext
theorem value2 (h : ∀ r j, k0_pay178 n v (ix2 r j) = f r j) : Chunk (k0_pay181 n v) 256 f := by
  intro r l C hC; refine Eq.trans ?_ (h r C); unfold k0_pay181; generalize k0_pay178 n v = q; pointwise []; blk_ext
theorem value3 (h : ∀ r j, k0_pay178 n v (ix2 r j) = f r j) : Chunk (k0_pay182 n v) 384 f := by
  intro r l C hC; refine Eq.trans ?_ (h r C); unfold k0_pay182; generalize k0_pay178 n v = q; pointwise []; blk_ext
end

section
variable {sg : RefSig} {κ : Kind} {sp : Space}

/-- Rows of a chunk at one distance, read back from the buffer that holds it. -/
theorem read_rows {n d : ℕ} {w : FVec Ideal S512x128 .f32} {o : ℕ} {f : Fin 512 → Fin 512 → EReal} (hw : Chunk w o f) (v : View sg κ sp S512x128 .f32)
    (inb : ∀ a, (![0, 0] : Fin 2 → ℕ) a + S512x128.size a ≤ S512x128.size a) (L : List (View.Piece (Elt Ideal) S512x128 .f32)) (r : ℕ)
    (inb' : ∀ a, (![n, 128] : Fin 2 → ℕ) a = 0 ∨ (![r, 0] : Fin 2 → ℕ) a + (![d, 1] : Fin 2 → ℕ) a * ((![n, 128] : Fin 2 → ℕ) a - 1) < S512x128.size a)
    (i : Fin n) (l : Fin 128) (R C : Fin 512) (hR : R.val = d * i.val + r) (hC : C.val = o + l.val) :
    v.readCov ((⟨Rect.unit ![0, 0] S512x128.size inb, w⟩ : View.Piece (Elt Ideal) S512x128 .f32) :: L)
      { off := ![r, 0], size := ![n, 128], stride := ![d, 1], inb := inb' } (ix2 i l) = f R C := by
  rw [View.readCov_eq_canon', View.canon_cons_unit_lit' inb w L (by decide)]
  refine Eq.trans ?_ (hw R l C hC)
  refine congrArg w (funext fun a => Fin.ext ?_)
  match a with
  | ⟨0, _⟩ => show r + d * i.val = R.val; omega
  | ⟨1, _⟩ => show 0 + 1 * l.val = l.val; omega
end

theorem ld_at (x : Vec Ideal S4x1024x512 .bf16) (b : Fin 4)
    (inb : ∀ a, (![b.val, 0, 0] : Fin 3 → ℕ) a + (![1, 1024, 512] : Fin 3 → ℕ) a ≤ S4x1024x512.size a) (k : Fin 1024) (j : Fin 512) :
    View.ld x (Rect.unit ![b.val, 0, 0] ![1, 1024, 512] inb) (ix3 0 k j) = x (ix3 b k j) := by
  refine congrArg x (funext fun a => Fin.ext ?_)
  match a with
  | ⟨0, _⟩ => show b.val + 1 * 0 = b.val; omega
  | ⟨1, _⟩ => show 0 + 1 * k.val = k.val; omega
  | ⟨2, _⟩ => show 0 + 1 * j.val = j.val; omega

variable (m : (ℓ : Loc nD τ sig) → Buf (Elt Ideal) ℓ)

/-- The arguments as the run finds them. -/
def args (c : Dev nD) : Args where
  x := m ((c : Thread nD τ).loc main_arg0)
  g := m ((c : Thread nD τ).loc main_arg1)
  w := m ((c : Thread nD τ).loc main_arg2)

theorem places : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem point_lt (t : Fin cfg0.N) : t.val < 16 := t.isLt

/-- A row of a tile. -/
abbrev tok {p : ℕ} (hp : p < 16) (r : Fin 512) : Fin 8192 := ⟨512 * p + r.val, by omega⟩

/-- A stored piece: rows of a chunk at one distance, as rows of the whole call's array. -/
theorem piece {sg : RefSig} {κ : Kind} {sp : Space} {p n d : ℕ} {w : FVec Ideal S512x128 .f32} {o : ℕ} (F : Fin 8192 → Fin 512 → EReal) (hp : p < 16) (hw : Chunk w o (fun r j => F (tok hp r) j))
    (v : View sg κ sp S512x128 .f32)
    (inb : ∀ a, (![0, 0] : Fin 2 → ℕ) a + S512x128.size a ≤ S512x128.size a) (L : List (View.Piece (Elt Ideal) S512x128 .f32)) (r : ℕ)
    (inb' : ∀ a, (![n, 128] : Fin 2 → ℕ) a = 0 ∨ (![r, 0] : Fin 2 → ℕ) a + (![d, 1] : Fin 2 → ℕ) a * ((![n, 128] : Fin 2 → ℕ) a - 1) < S512x128.size a)
    (i : Fin n) (l : Fin 128) (T : Fin 8192) (C : Fin 512) (hd : d * i.val + r < 512) (hT : T.val = 512 * p + (d * i.val + r)) (hC : C.val = o + l.val) :
    (truncf .bf16 (show FVec Ideal ⟨2, ![n, 128]⟩ .f32 from v.readCov ((⟨Rect.unit ![0, 0] S512x128.size inb, w⟩ : View.Piece (Elt Ideal) S512x128 .f32) :: L)
      { off := ![r, 0], size := ![n, 128], stride := ![d, 1], inb := inb' }) bitsLt_bf16_f32 : FVec Ideal ⟨2, ![n, 128]⟩ .bf16) (ix2 i l) = F T C := by
  refine (read_rows hw v inb L r inb' i l ⟨d * i.val + r, hd⟩ C rfl hC).trans ?_
  exact congrArg (F · C) (Fin.ext hT.symm)

/-- What the call's buffers hold at its point `p`. -/
structure Holds (A : Args) (p : ℕ) (x0 : Vec Ideal S512x1024 .f32) (x1 : Vec Ideal S1x1024 .f32) (x2 : Vec Ideal S4x1024x512 .bf16) : Prop where
  point : p < 16
  x : ∀ (r : Fin 512) (k : Fin 1024), x0 (ix2 r k) = A.x (ix2 ⟨512 * p + r.val, by omega⟩ k)
  g : ∀ k : Fin 1024, x1 (ix2 0 k) = A.g (ix1 k)
  w : ∀ (b : Fin 4) (k : Fin 1024) (j : Fin 512), x2 (ix3 b k j) = A.w (ix2 k ⟨512 * b.val + j.val, by omega⟩)

theorem holds (c : Dev nD) (t : Fin cfg0.N) : Holds (args m c) t.val (iblk m c 0 t) (iblk m c 1 t) (iblk m c 2 t) := by
  have ht := point_lt t
  refine ⟨ht, ?_, ?_, ?_⟩
  · intro r k; blk_point [iblk, V, args, places t]
  · intro k; blk_point [iblk, V, args, places t]
  · intro b k j; blk_point [iblk, V, args, places t]

section
variable {A : Args} {p : ℕ} {x0 : Vec Ideal S512x1024 .f32} {x1 : Vec Ideal S1x1024 .f32} {x2 : Vec Ideal S4x1024x512 .bf16} (H : Holds A p x0 x1 x2)

include H in
theorem nrm_eq (r : Fin 512) (k : Fin 1024) : k0_pay3 x0 x1 (ix2 r k) = A.nrm (tok H.point r) k := by
  refine (nrm_at _ _ r k).trans ?_
  unfold Args.nrm
  rw [H.x r k, H.g k, show (fun l => x0 (ix2 r l)) = fun l => A.x (ix2 (tok H.point r) l) from funext (H.x r)]

include H in
theorem sum_eq (b : Fin 4) (inb) (r j : Fin 512) :
    (∑ k : Fin 1024, k0_pay3 x0 x1 (ix2 r k) * View.ld x2 (Rect.unit ![b.val, 0, 0] ![1, 1024, 512] inb) (ix3 0 k j)) = A.part b (tok H.point r) j :=
  Finset.sum_congr rfl fun k _ => congrArg₂ (· * ·) (nrm_eq H r k) ((ld_at x2 b inb k j).trans (H.w b k j))

include H in
theorem query_eq (inb) (r j : Fin 512) :
    k0_pay4 x0 x1 (View.ld x2 (Rect.unit ![0, 0, 0] ![1, 1024, 512] inb)) (ix2 r j) = A.query (tok H.point r) j :=
  (query_at _ _ _ r j).trans (congrArg (· * eighth) (sum_eq H 0 inb r j))

include H in
theorem key_eq (inb) (r j : Fin 512) :
    k0_pay91 (k0_pay3 x0 x1) (View.ld x2 (Rect.unit ![1, 0, 0] ![1, 1024, 512] inb)) (ix2 r j) = A.part 1 (tok H.point r) j :=
  (key_at _ _ r j).trans (sum_eq H 1 inb r j)

include H in
theorem value_eq (inb) (r j : Fin 512) :
    k0_pay178 (k0_pay3 x0 x1) (View.ld x2 (Rect.unit ![2, 0, 0] ![1, 1024, 512] inb)) (ix2 r j) = A.part 2 (tok H.point r) j :=
  (value_at _ _ r j).trans (sum_eq H 2 inb r j)

include H in
theorem pool_eq (inb) (r j : Fin 512) :
    k0_pay2 (k0_pay3 x0 x1) (View.ld x2 (Rect.unit ![3, 0, 0] ![1, 1024, 512] inb)) (ix2 r j) = A.part 3 (tok H.point r) j :=
  (pool_at _ _ r j).trans (sum_eq H 3 inb r j)
end

end Cert.ProjOut

end
-- ==== Proof.ProjOut.lean ====
/-
  The mixers' inputs: the call's arrays, entry by entry (untrusted).
-/
module

public import proofs.«01_k».proof.Defs
public import proofs.«01_k».proof.Proof.ProjTile
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

theorem final3 (c : Dev nD) : (dats m 0 c).arrAt 3 (cfgs 0).N = (fun j => (args m c).query (j 0) (j 1) : FVec Ideal S8192x512 .bf16) := by
  refine (dats m 0 c).arrAt_eq_of_covers 3 _ (by decide +kernel) fun t hf y => ?_
  blk_simp
  rw [after0_3]
  unfold Gen.outsAt0
  have H := holds m c t
  have hp := places t
  frame_out
  idx_vars y
  refine (query_eq H _ _ _).trans ?_
  refine congrArg₂ _ (Fin.ext ?_) (Fin.ext ?_) <;> (blk_simp [hp] <;> try (show 512 * _ + _ = _; omega))

theorem final4 (c : Dev nD) : (dats m 0 c).arrAt 4 (cfgs 0).N = (fun j => (args m c).part 1 (j 0) (j 1) : FVec Ideal S8192x512 .bf16) := by
  refine (dats m 0 c).arrAt_eq_of_covers 4 _ (by decide +kernel) fun t hf y => ?_
  blk_simp
  rw [after0_4]
  unfold Gen.outsAt0
  have H := holds m c t
  have hp := places t
  frame_out
  idx_vars y
  refine (key_eq H _ _ _).trans ?_
  refine congrArg₂ _ (Fin.ext ?_) (Fin.ext ?_) <;> (blk_simp [hp] <;> try (show 512 * _ + _ = _; omega))

theorem final5 (c : Dev nD) : (dats m 0 c).arrAt 5 (cfgs 0).N = (fun j => (args m c).part 2 (j 0) (j 1) : FVec Ideal S8192x512 .bf16) := by
  refine (dats m 0 c).arrAt_eq_of_covers 5 _ (by decide +kernel) fun t hf y => ?_
  blk_simp
  rw [after0_5]
  unfold Gen.outsAt0
  have H := holds m c t
  have hp := places t
  frame_out
  idx_vars y
  refine (value_eq H _ _ _).trans ?_
  refine congrArg₂ _ (Fin.ext ?_) (Fin.ext ?_) <;> (blk_simp [hp] <;> try (show 512 * _ + _ = _; omega))

theorem final12 (c : Dev nD) : (dats m 0 c).arrAt 12 (cfgs 0).N = (fun j => (args m c).part 3 (j 0) (j 1) : FVec Ideal S8192x512 .f32) := by
  refine (dats m 0 c).arrAt_eq_of_covers 12 _ (by decide +kernel) fun t hf y => ?_
  blk_simp
  rw [after0_12]
  unfold Gen.outsAt0
  have H := holds m c t
  have hp := places t
  frame_out
  idx_vars y
  refine (pool_eq H _ _ _).trans ?_
  refine congrArg₂ _ (Fin.ext ?_) (Fin.ext ?_) <;> (blk_simp [hp] <;> try (show 512 * _ + _ = _; omega))

theorem final13 (c : Dev nD) : (dats m 0 c).arrAt 13 (cfgs 0).N = (fun j => (args m c).nrm (j 0) (j 1) : FVec Ideal S8192x1024 .bf16) := by
  refine (dats m 0 c).arrAt_eq_of_covers 13 _ (by decide +kernel) fun t hf y => ?_
  blk_simp
  rw [after0_13]
  unfold Gen.outsAt0
  have H := holds m c t
  have hp := places t
  frame_out
  idx_vars y
  refine (nrm_eq H _ _).trans ?_
  refine congrArg₂ _ (Fin.ext ?_) (Fin.ext ?_) <;> (blk_simp [hp] <;> try (show 512 * _ + _ = _; omega))

/-- An array in the order of the residues of four: row by row, one residue after the other. -/
abbrev by4 (f : Fin 8192 → Fin 512 → EReal) : FVec Ideal S2048x2048 .bf16 := fun j => f ⟨4 * (j 0).val + (j 1).val / 512, by have := (j 0).isLt; have := (j 1).isLt; dsimp at *; omega⟩ ⟨(j 1).val % 512, by omega⟩
/-- The same of sixteen. -/
abbrev by16 (f : Fin 8192 → Fin 512 → EReal) : FVec Ideal S512x8192 .bf16 := fun j => f ⟨16 * (j 0).val + (j 1).val / 512, by have := (j 0).isLt; have := (j 1).isLt; dsimp at *; omega⟩ ⟨(j 1).val % 512, by omega⟩

/-- A stored piece of an array in the order of the residues of four. -/
theorem stored4 {sg : RefSig} {κ : Kind} {sp : Space} {p : ℕ} {w : FVec Ideal S512x128 .f32} {o : ℕ} (F : Fin 8192 → Fin 512 → EReal) (hp : p < 16) (hw : Chunk w o (fun r j => F (tok hp r) j))
    (v : View sg κ sp S512x128 .f32)
    (inb : ∀ a, (![0, 0] : Fin 2 → ℕ) a + S512x128.size a ≤ S512x128.size a) (L : List (View.Piece (Elt Ideal) S512x128 .f32)) (r : ℕ)
    (inb' : ∀ a, (![128, 128] : Fin 2 → ℕ) a = 0 ∨ (![r, 0] : Fin 2 → ℕ) a + (![4, 1] : Fin 2 → ℕ) a * ((![128, 128] : Fin 2 → ℕ) a - 1) < S512x128.size a)
    (i : Fin 128) (l : Fin 128) (Y : S2048x2048.Idx) (e0 : (Y 0).val = 128 * p + i.val) (e1 : (Y 1).val = 512 * r + o + l.val) (ho : o ≤ 384) (hr : r < 4) :
    (truncf .bf16 (show FVec Ideal ⟨2, ![128, 128]⟩ .f32 from v.readCov ((⟨Rect.unit ![0, 0] S512x128.size inb, w⟩ : View.Piece (Elt Ideal) S512x128 .f32) :: L)
      { off := ![r, 0], size := ![128, 128], stride := ![4, 1], inb := inb' }) bitsLt_bf16_f32 : FVec Ideal ⟨2, ![128, 128]⟩ .bf16) (ix2 i l) = by4 F Y := by
  refine piece F hp hw v inb L r inb' i l _ _ ?_ ?_ ?_
  · omega
  · show 4 * (Y 0).val + (Y 1).val / 512 = 512 * p + (4 * i.val + r); omega
  · show (Y 1).val % 512 = o + l.val; omega

/-- A stored piece of an array in the order of the residues of sixteen. -/
theorem stored16 {sg : RefSig} {κ : Kind} {sp : Space} {p : ℕ} {w : FVec Ideal S512x128 .f32} {o : ℕ} (F : Fin 8192 → Fin 512 → EReal) (hp : p < 16) (hw : Chunk w o (fun r j => F (tok hp r) j))
    (v : View sg κ sp S512x128 .f32)
    (inb : ∀ a, (![0, 0] : Fin 2 → ℕ) a + S512x128.size a ≤ S512x128.size a) (L : List (View.Piece (Elt Ideal) S512x128 .f32)) (r : ℕ)
    (inb' : ∀ a, (![32, 128] : Fin 2 → ℕ) a = 0 ∨ (![r, 0] : Fin 2 → ℕ) a + (![16, 1] : Fin 2 → ℕ) a * ((![32, 128] : Fin 2 → ℕ) a - 1) < S512x128.size a)
    (i : Fin 32) (l : Fin 128) (Y : S512x8192.Idx) (e0 : (Y 0).val = 32 * p + i.val) (e1 : (Y 1).val = 512 * r + o + l.val) (ho : o ≤ 384) (hr : r < 16) :
    (truncf .bf16 (show FVec Ideal ⟨2, ![32, 128]⟩ .f32 from v.readCov ((⟨Rect.unit ![0, 0] S512x128.size inb, w⟩ : View.Piece (Elt Ideal) S512x128 .f32) :: L)
      { off := ![r, 0], size := ![32, 128], stride := ![16, 1], inb := inb' }) bitsLt_bf16_f32 : FVec Ideal ⟨2, ![32, 128]⟩ .bf16) (ix2 i l) = by16 F Y := by
  refine piece F hp hw v inb L r inb' i l _ _ ?_ ?_ ?_
  · omega
  · show 16 * (Y 0).val + (Y 1).val / 512 = 512 * p + (16 * i.val + r); omega
  · show (Y 1).val % 512 = o + l.val; omega

end Cert.ProjOut

end
-- ==== Proof.ProjQuery4.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final6 (c : Dev nD) : (dats m 0 c).arrAt 6 (cfgs 0).N = by4 (args m c).query := by
  refine (dats m 0 c).arrAt_eq_of_covers 6 _ (by decide +kernel) fun t hf y => ?_
  blk_simp
  rw [after0_6]
  unfold Gen.outsAt0
  have H := holds m c t
  have hp := places t
  have e0 : ((((View.whole main_v4_3).slice (win0_6.rect t)).emb y) 0).val = 128 * t.val + (y 0).val := by blk_simp [hp]; omega
  have e1 : ((((View.whole main_v4_3).slice (win0_6.rect t)).emb y) 1).val = (y 1).val := by blk_simp [hp]
  have u0 := query0 _ _ _ _ (query_eq H inb_S4x1024x512_S1x1024x512_0_0_0)
  have u1 := query1 _ _ _ _ (query_eq H inb_S4x1024x512_S1x1024x512_0_0_0)
  have u2 := query2 _ _ _ _ (query_eq H inb_S4x1024x512_S1x1024x512_0_0_0)
  have u3 := query3 _ _ _ _ (query_eq H inb_S4x1024x512_S1x1024x512_0_0_0)
  frame_out
  canon_tiles x h
  all_goals idx_vars x
  case' piece0 =>
    unfold k0_pay26
    exact stored4 (args m c).query H.point u3 _ _ _ 3 _ x0 x1 _ (e0.trans (congrArg _ h0)) (e1.trans h1) (by decide) (by decide)
  case' piece1 =>
    unfold k0_pay25
    exact stored4 (args m c).query H.point u2 _ _ _ 3 _ x0 x1 _ (e0.trans (congrArg _ h0)) (e1.trans h1) (by decide) (by decide)
  case' piece2 =>
    unfold k0_pay24
    exact stored4 (args m c).query H.point u1 _ _ _ 3 _ x0 x1 _ (e0.trans (congrArg _ h0)) (e1.trans h1) (by decide) (by decide)
  case' piece3 =>
    unfold k0_pay23
    exact stored4 (args m c).query H.point u0 _ _ _ 3 _ x0 x1 _ (e0.trans (congrArg _ h0)) (e1.trans h1) (by decide) (by decide)
  case' piece4 =>
    unfold k0_pay22
    exact stored4 (args m c).query H.point u3 _ _ _ 2 _ x0 x1 _ (e0.trans (congrArg _ h0)) (e1.trans h1) (by decide) (by decide)
  case' piece5 =>
    unfold k0_pay21
    exact stored4 (args m c).query H.point u2 _ _ _ 2 _ x0 x1 _ (e0.trans (congrArg _ h0)) (e1.trans h1) (by decide) (by decide)
  case' piece6 =>
    unfold k0_pay20
    exact stored4 (args m c).query H.point u1 _ _ _ 2 _ x0 x1 _ (e0.trans (congrArg _ h0)) (e1.trans h1) (by decide) (by decide)
  case' piece7 =>
    unfold k0_pay19
    exact stored4 (args m c).query H.point u0 _ _ _ 2 _ x0 x1 _ (e0.trans (congrArg _ h0)) (e1.trans h1) (by decide) (by decide)
  case' piece8 =>
    unfold k0_pay18
    exact stored4 (args m c).query H.point u3 _ _ _ 1 _ x0 x1 _ (e0.trans (congrArg _ h0)) (e1.trans h1) (by decide) (by decide)
  case' piece9 =>
    unfold k0_pay17
    exact stored4 (args m c).query H.point u2 _ _ _ 1 _ x0 x1 _ (e0.trans (congrArg _ h0)) (e1.trans h1) (by decide) (by decide)
  case' piece10 =>
    unfold k0_pay16
    exact stored4 (args m c).query H.point u1 _ _ _ 1 _ x0 x1 _ (e0.trans (congrArg _ h0)) (e1.trans h1) (by decide) (by decide)
  case' piece11 =>
    unfold k0_pay15
    exact stored4 (args m c).query H.point u0 _ _ _ 1 _ x0 x1 _ (e0.trans (congrArg _ h0)) (e1.trans h1) (by decide) (by decide)
  case' piece12 =>
    unfold k0_pay14
    exact stored4 (args m c).query H.point u3 _ _ _ 0 _ x0 x1 _ (e0.trans (congrArg _ h0)) (e1.trans h1) (by decide) (by decide)
  case' piece13 =>
    unfold k0_pay13
    exact stored4 (args m c).query H.point u2 _ _ _ 0 _ x0 x1 _ (e0.trans (congrArg _ h0)) (e1.trans h1) (by decide) (by decide)
  case' piece14 =>
    unfold k0_pay12
    exact stored4 (args m c).query H.point u1 _ _ _ 0 _ x0 x1 _ (e0.trans (congrArg _ h0)) (e1.trans h1) (by decide) (by decide)
  case' piece15 =>
    unfold k0_pay11
    exact stored4 (args m c).query H.point u0 _ _ _ 0 _ x0 x1 _ (e0.trans (congrArg _ h0)) (e1.trans (h1.trans (Nat.zero_add _).symm)) (by decide) (by decide)

end Cert.ProjOut

end
-- ==== Proof.ProjKey4.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final7 (c : Dev nD) : (dats m 0 c).arrAt 7 (cfgs 0).N = by4 ((args m c).part 1) := by
  refine (dats m 0 c).arrAt_eq_of_covers 7 _ (by decide +kernel) fun t hf y => ?_
  blk_simp
  rw [after0_7]
  unfold Gen.outsAt0
  have H := holds m c t
  have hp := places t
  have e0 : ((((View.whole main_v4_4).slice (win0_7.rect t)).emb y) 0).val = 128 * t.val + (y 0).val := by blk_simp [hp]; omega
  have e1 : ((((View.whole main_v4_4).slice (win0_7.rect t)).emb y) 1).val = (y 1).val := by blk_simp [hp]
  have u0 := key0 _ _ _ (key_eq H inb_S4x1024x512_S1x1024x512_1_0_0)
  have u1 := key1 _ _ (key_eq H inb_S4x1024x512_S1x1024x512_1_0_0)
  have u2 := key2 _ _ (key_eq H inb_S4x1024x512_S1x1024x512_1_0_0)
  have u3 := key3 _ _ (key_eq H inb_S4x1024x512_S1x1024x512_1_0_0)
  frame_out
  canon_tiles x h
  all_goals idx_vars x
  case' piece0 =>
    unfold k0_pay113
    exact stored4 ((args m c).part 1) H.point u3 _ _ _ 3 _ x0 x1 _ (e0.trans (congrArg _ h0)) (e1.trans h1) (by decide) (by decide)
  case' piece1 =>
    unfold k0_pay112
    exact stored4 ((args m c).part 1) H.point u2 _ _ _ 3 _ x0 x1 _ (e0.trans (congrArg _ h0)) (e1.trans h1) (by decide) (by decide)
  case' piece2 =>
    unfold k0_pay111
    exact stored4 ((args m c).part 1) H.point u1 _ _ _ 3 _ x0 x1 _ (e0.trans (congrArg _ h0)) (e1.trans h1) (by decide) (by decide)
  case' piece3 =>
    unfold k0_pay110
    exact stored4 ((args m c).part 1) H.point u0 _ _ _ 3 _ x0 x1 _ (e0.trans (congrArg _ h0)) (e1.trans h1) (by decide) (by decide)
  case' piece4 =>
    unfold k0_pay109
    exact stored4 ((args m c).part 1) H.point u3 _ _ _ 2 _ x0 x1 _ (e0.trans (congrArg _ h0)) (e1.trans h1) (by decide) (by decide)
  case' piece5 =>
    unfold k0_pay108
    exact stored4 ((args m c).part 1) H.point u2 _ _ _ 2 _ x0 x1 _ (e0.trans (congrArg _ h0)) (e1.trans h1) (by decide) (by decide)
  case' piece6 =>
    unfold k0_pay107
    exact stored4 ((args m c).part 1) H.point u1 _ _ _ 2 _ x0 x1 _ (e0.trans (congrArg _ h0)) (e1.trans h1) (by decide) (by decide)
  case' piece7 =>
    unfold k0_pay106
    exact stored4 ((args m c).part 1) H.point u0 _ _ _ 2 _ x0 x1 _ (e0.trans (congrArg _ h0)) (e1.trans h1) (by decide) (by decide)
  case' piece8 =>
    unfold k0_pay105
    exact stored4 ((args m c).part 1) H.point u3 _ _ _ 1 _ x0 x1 _ (e0.trans (congrArg _ h0)) (e1.trans h1) (by decide) (by decide)
  case' piece9 =>
    unfold k0_pay104
    exact stored4 ((args m c).part 1) H.point u2 _ _ _ 1 _ x0 x1 _ (e0.trans (congrArg _ h0)) (e1.trans h1) (by decide) (by decide)
  case' piece10 =>
    unfold k0_pay103
    exact stored4 ((args m c).part 1) H.point u1 _ _ _ 1 _ x0 x1 _ (e0.trans (congrArg _ h0)) (e1.trans h1) (by decide) (by decide)
  case' piece11 =>
    unfold k0_pay102
    exact stored4 ((args m c).part 1) H.point u0 _ _ _ 1 _ x0 x1 _ (e0.trans (congrArg _ h0)) (e1.trans h1) (by decide) (by decide)
  case' piece12 =>
    unfold k0_pay101
    exact stored4 ((args m c).part 1) H.point u3 _ _ _ 0 _ x0 x1 _ (e0.trans (congrArg _ h0)) (e1.trans h1) (by decide) (by decide)
  case' piece13 =>
    unfold k0_pay100
    exact stored4 ((args m c).part 1) H.point u2 _ _ _ 0 _ x0 x1 _ (e0.trans (congrArg _ h0)) (e1.trans h1) (by decide) (by decide)
  case' piece14 =>
    unfold k0_pay99
    exact stored4 ((args m c).part 1) H.point u1 _ _ _ 0 _ x0 x1 _ (e0.trans (congrArg _ h0)) (e1.trans h1) (by decide) (by decide)
  case' piece15 =>
    unfold k0_pay98
    exact stored4 ((args m c).part 1) H.point u0 _ _ _ 0 _ x0 x1 _ (e0.trans (congrArg _ h0)) (e1.trans (h1.trans (Nat.zero_add _).symm)) (by decide) (by decide)

end Cert.ProjOut

end
-- ==== Proof.ProjValue4.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final8 (c : Dev nD) : (dats m 0 c).arrAt 8 (cfgs 0).N = by4 ((args m c).part 2) := by
  refine (dats m 0 c).arrAt_eq_of_covers 8 _ (by decide +kernel) fun t hf y => ?_
  blk_simp
  rw [after0_8]
  unfold Gen.outsAt0
  have H := holds m c t
  have hp := places t
  have e0 : ((((View.whole main_v4_5).slice (win0_8.rect t)).emb y) 0).val = 128 * t.val + (y 0).val := by blk_simp [hp]; omega
  have e1 : ((((View.whole main_v4_5).slice (win0_8.rect t)).emb y) 1).val = (y 1).val := by blk_simp [hp]
  have u0 := value0 _ _ _ (value_eq H inb_S4x1024x512_S1x1024x512_2_0_0)
  have u1 := value1 _ _ _ (value_eq H inb_S4x1024x512_S1x1024x512_2_0_0)
  have u2 := value2 _ _ _ (value_eq H inb_S4x1024x512_S1x1024x512_2_0_0)
  have u3 := value3 _ _ _ (value_eq H inb_S4x1024x512_S1x1024x512_2_0_0)
  frame_out
  canon_tiles x h
  all_goals idx_vars x
  case' piece0 =>
    unfold k0_pay199
    exact stored4 ((args m c).part 2) H.point u3 _ _ _ 3 _ x0 x1 _ (e0.trans (congrArg _ h0)) (e1.trans h1) (by decide) (by decide)
  case' piece1 =>
    unfold k0_pay198
    exact stored4 ((args m c).part 2) H.point u2 _ _ _ 3 _ x0 x1 _ (e0.trans (congrArg _ h0)) (e1.trans h1) (by decide) (by decide)
  case' piece2 =>
    unfold k0_pay197
    exact stored4 ((args m c).part 2) H.point u1 _ _ _ 3 _ x0 x1 _ (e0.trans (congrArg _ h0)) (e1.trans h1) (by decide) (by decide)
  case' piece3 =>
    unfold k0_pay196
    exact stored4 ((args m c).part 2) H.point u0 _ _ _ 3 _ x0 x1 _ (e0.trans (congrArg _ h0)) (e1.trans h1) (by decide) (by decide)
  case' piece4 =>
    unfold k0_pay195
    exact stored4 ((args m c).part 2) H.point u3 _ _ _ 2 _ x0 x1 _ (e0.trans (congrArg _ h0)) (e1.trans h1) (by decide) (by decide)
  case' piece5 =>
    unfold k0_pay194
    exact stored4 ((args m c).part 2) H.point u2 _ _ _ 2 _ x0 x1 _ (e0.trans (congrArg _ h0)) (e1.trans h1) (by decide) (by decide)
  case' piece6 =>
    unfold k0_pay193
    exact stored4 ((args m c).part 2) H.point u1 _ _ _ 2 _ x0 x1 _ (e0.trans (congrArg _ h0)) (e1.trans h1) (by decide) (by decide)
  case' piece7 =>
    unfold k0_pay192
    exact stored4 ((args m c).part 2) H.point u0 _ _ _ 2 _ x0 x1 _ (e0.trans (congrArg _ h0)) (e1.trans h1) (by decide) (by decide)
  case' piece8 =>
    unfold k0_pay191
    exact stored4 ((args m c).part 2) H.point u3 _ _ _ 1 _ x0 x1 _ (e0.trans (congrArg _ h0)) (e1.trans h1) (by decide) (by decide)
  case' piece9 =>
    unfold k0_pay190
    exact stored4 ((args m c).part 2) H.point u2 _ _ _ 1 _ x0 x1 _ (e0.trans (congrArg _ h0)) (e1.trans h1) (by decide) (by decide)
  case' piece10 =>
    unfold k0_pay189
    exact stored4 ((args m c).part 2) H.point u1 _ _ _ 1 _ x0 x1 _ (e0.trans (congrArg _ h0)) (e1.trans h1) (by decide) (by decide)
  case' piece11 =>
    unfold k0_pay188
    exact stored4 ((args m c).part 2) H.point u0 _ _ _ 1 _ x0 x1 _ (e0.trans (congrArg _ h0)) (e1.trans h1) (by decide) (by decide)
  case' piece12 =>
    unfold k0_pay187
    exact stored4 ((args m c).part 2) H.point u3 _ _ _ 0 _ x0 x1 _ (e0.trans (congrArg _ h0)) (e1.trans h1) (by decide) (by decide)
  case' piece13 =>
    unfold k0_pay186
    exact stored4 ((args m c).part 2) H.point u2 _ _ _ 0 _ x0 x1 _ (e0.trans (congrArg _ h0)) (e1.trans h1) (by decide) (by decide)
  case' piece14 =>
    unfold k0_pay185
    exact stored4 ((args m c).part 2) H.point u1 _ _ _ 0 _ x0 x1 _ (e0.trans (congrArg _ h0)) (e1.trans h1) (by decide) (by decide)
  case' piece15 =>
    unfold k0_pay184
    exact stored4 ((args m c).part 2) H.point u0 _ _ _ 0 _ x0 x1 _ (e0.trans (congrArg _ h0)) (e1.trans (h1.trans (Nat.zero_add _).symm)) (by decide) (by decide)

end Cert.ProjOut

end
-- ==== Proof.ProjQuery16.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final9 (c : Dev nD) : (dats m 0 c).arrAt 9 (cfgs 0).N = by16 (args m c).query := by
  refine (dats m 0 c).arrAt_eq_of_covers 9 _ (by decide +kernel) fun t hf y => ?_
  blk_simp
  rw [after0_9]
  unfold Gen.outsAt0
  have H := holds m c t
  have hp := places t
  have e0 : ((((View.whole main_v4_6).slice (win0_9.rect t)).emb y) 0).val = 32 * t.val + (y 0).val := by blk_simp [hp]; omega
  have e1 : ((((View.whole main_v4_6).slice (win0_9.rect t)).emb y) 1).val = (y 1).val := by blk_simp [hp]
  have u0 := query0 _ _ _ _ (query_eq H inb_S4x1024x512_S1x1024x512_0_0_0)
  have u1 := query1 _ _ _ _ (query_eq H inb_S4x1024x512_S1x1024x512_0_0_0)
  have u2 := query2 _ _ _ _ (query_eq H inb_S4x1024x512_S1x1024x512_0_0_0)
  have u3 := query3 _ _ _ _ (query_eq H inb_S4x1024x512_S1x1024x512_0_0_0)
  frame_out
  canon_tiles x h
  all_goals idx_vars x
  case' piece0 =>
    unfold k0_pay90
    exact stored16 (args m c).query H.point u3 _ _ _ 15 _ x0 x1 _ (e0.trans (congrArg _ h0)) (e1.trans h1) (by decide) (by decide)
  case' piece1 =>
    unfold k0_pay89
    exact stored16 (args m c).query H.point u2 _ _ _ 15 _ x0 x1 _ (e0.trans (congrArg _ h0)) (e1.trans h1) (by decide) (by decide)
  case' piece2 =>
    unfold k0_pay88
    exact stored16 (args m c).query H.point u1 _ _ _ 15 _ x0 x1 _ (e0.trans (congrArg _ h0)) (e1.trans h1) (by decide) (by decide)
  case' piece3 =>
    unfold k0_pay87
    exact stored16 (args m c).query H.point u0 _ _ _ 15 _ x0 x1 _ (e0.trans (congrArg _ h0)) (e1.trans h1) (by decide) (by decide)
  case' piece4 =>
    unfold k0_pay86
    exact stored16 (args m c).query H.point u3 _ _ _ 14 _ x0 x1 _ (e0.trans (congrArg _ h0)) (e1.trans h1) (by decide) (by decide)
  case' piece5 =>
    unfold k0_pay85
    exact stored16 (args m c).query H.point u2 _ _ _ 14 _ x0 x1 _ (e0.trans (congrArg _ h0)) (e1.trans h1) (by decide) (by decide)
  case' piece6 =>
    unfold k0_pay84
    exact stored16 (args m c).query H.point u1 _ _ _ 14 _ x0 x1 _ (e0.trans (congrArg _ h0)) (e1.trans h1) (by decide) (by decide)
  case' piece7 =>
    unfold k0_pay83
    exact stored16 (args m c).query H.point u0 _ _ _ 14 _ x0 x1 _ (e0.trans (congrArg _ h0)) (e1.trans h1) (by decide) (by decide)
  case' piece8 =>
    unfold k0_pay82
    exact stored16 (args m c).query H.point u3 _ _ _ 13 _ x0 x1 _ (e0.trans (congrArg _ h0)) (e1.trans h1) (by decide) (by decide)
  case' piece9 =>
    unfold k0_pay81
    exact stored16 (args m c).query H.point u2 _ _ _ 13 _ x0 x1 _ (e0.trans (congrArg _ h0)) (e1.trans h1) (by decide) (by decide)
  case' piece10 =>
    unfold k0_pay80
    exact stored16 (args m c).query H.point u1 _ _ _ 13 _ x0 x1 _ (e0.trans (congrArg _ h0)) (e1.trans h1) (by decide) (by decide)
  case' piece11 =>
    unfold k0_pay79
    exact stored16 (args m c).query H.point u0 _ _ _ 13 _ x0 x1 _ (e0.trans (congrArg _ h0)) (e1.trans h1) (by decide) (by decide)
  case' piece12 =>
    unfold k0_pay78
    exact stored16 (args m c).query H.point u3 _ _ _ 12 _ x0 x1 _ (e0.trans (congrArg _ h0)) (e1.trans h1) (by decide) (by decide)
  case' piece13 =>
    unfold k0_pay77
    exact stored16 (args m c).query H.point u2 _ _ _ 12 _ x0 x1 _ (e0.trans (congrArg _ h0)) (e1.trans h1) (by decide) (by decide)
  case' piece14 =>
    unfold k0_pay76
    exact stored16 (args m c).query H.point u1 _ _ _ 12 _ x0 x1 _ (e0.trans (congrArg _ h0)) (e1.trans h1) (by decide) (by decide)
  case' piece15 =>
    unfold k0_pay75
    exact stored16 (args m c).query H.point u0 _ _ _ 12 _ x0 x1 _ (e0.trans (congrArg _ h0)) (e1.trans h1) (by decide) (by decide)
  case' piece16 =>
    unfold k0_pay74
    exact stored16 (args m c).query H.point u3 _ _ _ 11 _ x0 x1 _ (e0.trans (congrArg _ h0)) (e1.trans h1) (by decide) (by decide)
  case' piece17 =>
    unfold k0_pay73
    exact stored16 (args m c).query H.point u2 _ _ _ 11 _ x0 x1 _ (e0.trans (congrArg _ h0)) (e1.trans h1) (by decide) (by decide)
  case' piece18 =>
    unfold k0_pay72
    exact stored16 (args m c).query H.point u1 _ _ _ 11 _ x0 x1 _ (e0.trans (congrArg _ h0)) (e1.trans h1) (by decide) (by decide)
  case' piece19 =>
    unfold k0_pay71
    exact stored16 (args m c).query H.point u0 _ _ _ 11 _ x0 x1 _ (e0.trans (congrArg _ h0)) (e1.trans h1) (by decide) (by decide)
  case' piece20 =>
    unfold k0_pay70
    exact stored16 (args m c).query H.point u3 _ _ _ 10 _ x0 x1 _ (e0.trans (congrArg _ h0)) (e1.trans h1) (by decide) (by decide)
  case' piece21 =>
    unfold k0_pay69
    exact stored16 (args m c).query H.point u2 _ _ _ 10 _ x0 x1 _ (e0.trans (congrArg _ h0)) (e1.trans h1) (by decide) (by decide)
  case' piece22 =>
    unfold k0_pay68
    exact stored16 (args m c).query H.point u1 _ _ _ 10 _ x0 x1 _ (e0.trans (congrArg _ h0)) (e1.trans h1) (by decide) (by decide)
  case' piece23 =>
    unfold k0_pay67
    exact stored16 (args m c).query H.point u0 _ _ _ 10 _ x0 x1 _ (e0.trans (congrArg _ h0)) (e1.trans h1) (by decide) (by decide)
  case' piece24 =>
    unfold k0_pay66
    exact stored16 (args m c).query H.point u3 _ _ _ 9 _ x0 x1 _ (e0.trans (congrArg _ h0)) (e1.trans h1) (by decide) (by decide)
  case' piece25 =>
    unfold k0_pay65
    exact stored16 (args m c).query H.point u2 _ _ _ 9 _ x0 x1 _ (e0.trans (congrArg _ h0)) (e1.trans h1) (by decide) (by decide)
  case' piece26 =>
    unfold k0_pay64
    exact stored16 (args m c).query H.point u1 _ _ _ 9 _ x0 x1 _ (e0.trans (congrArg _ h0)) (e1.trans h1) (by decide) (by decide)
  case' piece27 =>
    unfold k0_pay63
    exact stored16 (args m c).query H.point u0 _ _ _ 9 _ x0 x1 _ (e0.trans (congrArg _ h0)) (e1.trans h1) (by decide) (by decide)
  case' piece28 =>
    unfold k0_pay62
    exact stored16 (args m c).query H.point u3 _ _ _ 8 _ x0 x1 _ (e0.trans (congrArg _ h0)) (e1.trans h1) (by decide) (by decide)
  case' piece29 =>
    unfold k0_pay61
    exact stored16 (args m c).query H.point u2 _ _ _ 8 _ x0 x1 _ (e0.trans (congrArg _ h0)) (e1.trans h1) (by decide) (by decide)
  case' piece30 =>
    unfold k0_pay60
    exact stored16 (args m c).query H.point u1 _ _ _ 8 _ x0 x1 _ (e0.trans (congrArg _ h0)) (e1.trans h1) (by decide) (by decide)
  case' piece31 =>
    unfold k0_pay59
    exact stored16 (args m c).query H.point u0 _ _ _ 8 _ x0 x1 _ (e0.trans (congrArg _ h0)) (e1.trans h1) (by decide) (by decide)
  case' piece32 =>
    unfold k0_pay58
    exact stored16 (args m c).query H.point u3 _ _ _ 7 _ x0 x1 _ (e0.trans (congrArg _ h0)) (e1.trans h1) (by decide) (by decide)
  case' piece33 =>
    unfold k0_pay57
    exact stored16 (args m c).query H.point u2 _ _ _ 7 _ x0 x1 _ (e0.trans (congrArg _ h0)) (e1.trans h1) (by decide) (by decide)
  case' piece34 =>
    unfold k0_pay56
    exact stored16 (args m c).query H.point u1 _ _ _ 7 _ x0 x1 _ (e0.trans (congrArg _ h0)) (e1.trans h1) (by decide) (by decide)
  case' piece35 =>
    unfold k0_pay55
    exact stored16 (args m c).query H.point u0 _ _ _ 7 _ x0 x1 _ (e0.trans (congrArg _ h0)) (e1.trans h1) (by decide) (by decide)
  case' piece36 =>
    unfold k0_pay54
    exact stored16 (args m c).query H.point u3 _ _ _ 6 _ x0 x1 _ (e0.trans (congrArg _ h0)) (e1.trans h1) (by decide) (by decide)
  case' piece37 =>
    unfold k0_pay53
    exact stored16 (args m c).query H.point u2 _ _ _ 6 _ x0 x1 _ (e0.trans (congrArg _ h0)) (e1.trans h1) (by decide) (by decide)
  case' piece38 =>
    unfold k0_pay52
    exact stored16 (args m c).query H.point u1 _ _ _ 6 _ x0 x1 _ (e0.trans (congrArg _ h0)) (e1.trans h1) (by decide) (by decide)
  case' piece39 =>
    unfold k0_pay51
    exact stored16 (args m c).query H.point u0 _ _ _ 6 _ x0 x1 _ (e0.trans (congrArg _ h0)) (e1.trans h1) (by decide) (by decide)
  case' piece40 =>
    unfold k0_pay50
    exact stored16 (args m c).query H.point u3 _ _ _ 5 _ x0 x1 _ (e0.trans (congrArg _ h0)) (e1.trans h1) (by decide) (by decide)
  case' piece41 =>
    unfold k0_pay49
    exact stored16 (args m c).query H.point u2 _ _ _ 5 _ x0 x1 _ (e0.trans (congrArg _ h0)) (e1.trans h1) (by decide) (by decide)
  case' piece42 =>
    unfold k0_pay48
    exact stored16 (args m c).query H.point u1 _ _ _ 5 _ x0 x1 _ (e0.trans (congrArg _ h0)) (e1.trans h1) (by decide) (by decide)
  case' piece43 =>
    unfold k0_pay47
    exact stored16 (args m c).query H.point u0 _ _ _ 5 _ x0 x1 _ (e0.trans (congrArg _ h0)) (e1.trans h1) (by decide) (by decide)
  case' piece44 =>
    unfold k0_pay46
    exact stored16 (args m c).query H.point u3 _ _ _ 4 _ x0 x1 _ (e0.trans (congrArg _ h0)) (e1.trans h1) (by decide) (by decide)
  case' piece45 =>
    unfold k0_pay45
    exact stored16 (args m c).query H.point u2 _ _ _ 4 _ x0 x1 _ (e0.trans (congrArg _ h0)) (e1.trans h1) (by decide) (by decide)
  case' piece46 =>
    unfold k0_pay44
    exact stored16 (args m c).query H.point u1 _ _ _ 4 _ x0 x1 _ (e0.trans (congrArg _ h0)) (e1.trans h1) (by decide) (by decide)
  case' piece47 =>
    unfold k0_pay43
    exact stored16 (args m c).query H.point u0 _ _ _ 4 _ x0 x1 _ (e0.trans (congrArg _ h0)) (e1.trans h1) (by decide) (by decide)
  case' piece48 =>
    unfold k0_pay42
    exact stored16 (args m c).query H.point u3 _ _ _ 3 _ x0 x1 _ (e0.trans (congrArg _ h0)) (e1.trans h1) (by decide) (by decide)
  case' piece49 =>
    unfold k0_pay41
    exact stored16 (args m c).query H.point u2 _ _ _ 3 _ x0 x1 _ (e0.trans (congrArg _ h0)) (e1.trans h1) (by decide) (by decide)
  case' piece50 =>
    unfold k0_pay40
    exact stored16 (args m c).query H.point u1 _ _ _ 3 _ x0 x1 _ (e0.trans (congrArg _ h0)) (e1.trans h1) (by decide) (by decide)
  case' piece51 =>
    unfold k0_pay39
    exact stored16 (args m c).query H.point u0 _ _ _ 3 _ x0 x1 _ (e0.trans (congrArg _ h0)) (e1.trans h1) (by decide) (by decide)
  case' piece52 =>
    unfold k0_pay38
    exact stored16 (args m c).query H.point u3 _ _ _ 2 _ x0 x1 _ (e0.trans (congrArg _ h0)) (e1.trans h1) (by decide) (by decide)
  case' piece53 =>
    unfold k0_pay37
    exact stored16 (args m c).query H.point u2 _ _ _ 2 _ x0 x1 _ (e0.trans (congrArg _ h0)) (e1.trans h1) (by decide) (by decide)
  case' piece54 =>
    unfold k0_pay36
    exact stored16 (args m c).query H.point u1 _ _ _ 2 _ x0 x1 _ (e0.trans (congrArg _ h0)) (e1.trans h1) (by decide) (by decide)
  case' piece55 =>
    unfold k0_pay35
    exact stored16 (args m c).query H.point u0 _ _ _ 2 _ x0 x1 _ (e0.trans (congrArg _ h0)) (e1.trans h1) (by decide) (by decide)
  case' piece56 =>
    unfold k0_pay34
    exact stored16 (args m c).query H.point u3 _ _ _ 1 _ x0 x1 _ (e0.trans (congrArg _ h0)) (e1.trans h1) (by decide) (by decide)
  case' piece57 =>
    unfold k0_pay33
    exact stored16 (args m c).query H.point u2 _ _ _ 1 _ x0 x1 _ (e0.trans (congrArg _ h0)) (e1.trans h1) (by decide) (by decide)
  case' piece58 =>
    unfold k0_pay32
    exact stored16 (args m c).query H.point u1 _ _ _ 1 _ x0 x1 _ (e0.trans (congrArg _ h0)) (e1.trans h1) (by decide) (by decide)
  case' piece59 =>
    unfold k0_pay31
    exact stored16 (args m c).query H.point u0 _ _ _ 1 _ x0 x1 _ (e0.trans (congrArg _ h0)) (e1.trans h1) (by decide) (by decide)
  case' piece60 =>
    unfold k0_pay30
    exact stored16 (args m c).query H.point u3 _ _ _ 0 _ x0 x1 _ (e0.trans (congrArg _ h0)) (e1.trans h1) (by decide) (by decide)
  case' piece61 =>
    unfold k0_pay29
    exact stored16 (args m c).query H.point u2 _ _ _ 0 _ x0 x1 _ (e0.trans (congrArg _ h0)) (e1.trans h1) (by decide) (by decide)
  case' piece62 =>
    unfold k0_pay28
    exact stored16 (args m c).query H.point u1 _ _ _ 0 _ x0 x1 _ (e0.trans (congrArg _ h0)) (e1.trans h1) (by decide) (by decide)
  case' piece63 =>
    unfold k0_pay27
    exact stored16 (args m c).query H.point u0 _ _ _ 0 _ x0 x1 _ (e0.trans (congrArg _ h0)) (e1.trans (h1.trans (Nat.zero_add _).symm)) (by decide) (by decide)

end Cert.ProjOut

end
-- ==== Proof.ProjKey16.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final10 (c : Dev nD) : (dats m 0 c).arrAt 10 (cfgs 0).N = by16 ((args m c).part 1) := by
  refine (dats m 0 c).arrAt_eq_of_covers 10 _ (by decide +kernel) fun t hf y => ?_
  blk_simp
  rw [after0_10]
  unfold Gen.outsAt0
  have H := holds m c t
  have hp := places t
  have e0 : ((((View.whole main_v4_7).slice (win0_10.rect t)).emb y) 0).val = 32 * t.val + (y 0).val := by blk_simp [hp]; omega
  have e1 : ((((View.whole main_v4_7).slice (win0_10.rect t)).emb y) 1).val = (y 1).val := by blk_simp [hp]
  have u0 := key0 _ _ _ (key_eq H inb_S4x1024x512_S1x1024x512_1_0_0)
  have u1 := key1 _ _ (key_eq H inb_S4x1024x512_S1x1024x512_1_0_0)
  have u2 := key2 _ _ (key_eq H inb_S4x1024x512_S1x1024x512_1_0_0)
  have u3 := key3 _ _ (key_eq H inb_S4x1024x512_S1x1024x512_1_0_0)
  frame_out
  canon_tiles x h
  all_goals idx_vars x
  case' piece0 =>
    unfold k0_pay177
    exact stored16 ((args m c).part 1) H.point u3 _ _ _ 15 _ x0 x1 _ (e0.trans (congrArg _ h0)) (e1.trans h1) (by decide) (by decide)
  case' piece1 =>
    unfold k0_pay176
    exact stored16 ((args m c).part 1) H.point u2 _ _ _ 15 _ x0 x1 _ (e0.trans (congrArg _ h0)) (e1.trans h1) (by decide) (by decide)
  case' piece2 =>
    unfold k0_pay175
    exact stored16 ((args m c).part 1) H.point u1 _ _ _ 15 _ x0 x1 _ (e0.trans (congrArg _ h0)) (e1.trans h1) (by decide) (by decide)
  case' piece3 =>
    unfold k0_pay174
    exact stored16 ((args m c).part 1) H.point u0 _ _ _ 15 _ x0 x1 _ (e0.trans (congrArg _ h0)) (e1.trans h1) (by decide) (by decide)
  case' piece4 =>
    unfold k0_pay173
    exact stored16 ((args m c).part 1) H.point u3 _ _ _ 14 _ x0 x1 _ (e0.trans (congrArg _ h0)) (e1.trans h1) (by decide) (by decide)
  case' piece5 =>
    unfold k0_pay172
    exact stored16 ((args m c).part 1) H.point u2 _ _ _ 14 _ x0 x1 _ (e0.trans (congrArg _ h0)) (e1.trans h1) (by decide) (by decide)
  case' piece6 =>
    unfold k0_pay171
    exact stored16 ((args m c).part 1) H.point u1 _ _ _ 14 _ x0 x1 _ (e0.trans (congrArg _ h0)) (e1.trans h1) (by decide) (by decide)
  case' piece7 =>
    unfold k0_pay170
    exact stored16 ((args m c).part 1) H.point u0 _ _ _ 14 _ x0 x1 _ (e0.trans (congrArg _ h0)) (e1.trans h1) (by decide) (by decide)
  case' piece8 =>
    unfold k0_pay169
    exact stored16 ((args m c).part 1) H.point u3 _ _ _ 13 _ x0 x1 _ (e0.trans (congrArg _ h0)) (e1.trans h1) (by decide) (by decide)
  case' piece9 =>
    unfold k0_pay168
    exact stored16 ((args m c).part 1) H.point u2 _ _ _ 13 _ x0 x1 _ (e0.trans (congrArg _ h0)) (e1.trans h1) (by decide) (by decide)
  case' piece10 =>
    unfold k0_pay167
    exact stored16 ((args m c).part 1) H.point u1 _ _ _ 13 _ x0 x1 _ (e0.trans (congrArg _ h0)) (e1.trans h1) (by decide) (by decide)
  case' piece11 =>
    unfold k0_pay166
    exact stored16 ((args m c).part 1) H.point u0 _ _ _ 13 _ x0 x1 _ (e0.trans (congrArg _ h0)) (e1.trans h1) (by decide) (by decide)
  case' piece12 =>
    unfold k0_pay165
    exact stored16 ((args m c).part 1) H.point u3 _ _ _ 12 _ x0 x1 _ (e0.trans (congrArg _ h0)) (e1.trans h1) (by decide) (by decide)
  case' piece13 =>
    unfold k0_pay164
    exact stored16 ((args m c).part 1) H.point u2 _ _ _ 12 _ x0 x1 _ (e0.trans (congrArg _ h0)) (e1.trans h1) (by decide) (by decide)
  case' piece14 =>
    unfold k0_pay163
    exact stored16 ((args m c).part 1) H.point u1 _ _ _ 12 _ x0 x1 _ (e0.trans (congrArg _ h0)) (e1.trans h1) (by decide) (by decide)
  case' piece15 =>
    unfold k0_pay162
    exact stored16 ((args m c).part 1) H.point u0 _ _ _ 12 _ x0 x1 _ (e0.trans (congrArg _ h0)) (e1.trans h1) (by decide) (by decide)
  case' piece16 =>
    unfold k0_pay161
    exact stored16 ((args m c).part 1) H.point u3 _ _ _ 11 _ x0 x1 _ (e0.trans (congrArg _ h0)) (e1.trans h1) (by decide) (by decide)
  case' piece17 =>
    unfold k0_pay160
    exact stored16 ((args m c).part 1) H.point u2 _ _ _ 11 _ x0 x1 _ (e0.trans (congrArg _ h0)) (e1.trans h1) (by decide) (by decide)
  case' piece18 =>
    unfold k0_pay159
    exact stored16 ((args m c).part 1) H.point u1 _ _ _ 11 _ x0 x1 _ (e0.trans (congrArg _ h0)) (e1.trans h1) (by decide) (by decide)
  case' piece19 =>
    unfold k0_pay158
    exact stored16 ((args m c).part 1) H.point u0 _ _ _ 11 _ x0 x1 _ (e0.trans (congrArg _ h0)) (e1.trans h1) (by decide) (by decide)
  case' piece20 =>
    unfold k0_pay157
    exact stored16 ((args m c).part 1) H.point u3 _ _ _ 10 _ x0 x1 _ (e0.trans (congrArg _ h0)) (e1.trans h1) (by decide) (by decide)
  case' piece21 =>
    unfold k0_pay156
    exact stored16 ((args m c).part 1) H.point u2 _ _ _ 10 _ x0 x1 _ (e0.trans (congrArg _ h0)) (e1.trans h1) (by decide) (by decide)
  case' piece22 =>
    unfold k0_pay155
    exact stored16 ((args m c).part 1) H.point u1 _ _ _ 10 _ x0 x1 _ (e0.trans (congrArg _ h0)) (e1.trans h1) (by decide) (by decide)
  case' piece23 =>
    unfold k0_pay154
    exact stored16 ((args m c).part 1) H.point u0 _ _ _ 10 _ x0 x1 _ (e0.trans (congrArg _ h0)) (e1.trans h1) (by decide) (by decide)
  case' piece24 =>
    unfold k0_pay153
    exact stored16 ((args m c).part 1) H.point u3 _ _ _ 9 _ x0 x1 _ (e0.trans (congrArg _ h0)) (e1.trans h1) (by decide) (by decide)
  case' piece25 =>
    unfold k0_pay152
    exact stored16 ((args m c).part 1) H.point u2 _ _ _ 9 _ x0 x1 _ (e0.trans (congrArg _ h0)) (e1.trans h1) (by decide) (by decide)
  case' piece26 =>
    unfold k0_pay151
    exact stored16 ((args m c).part 1) H.point u1 _ _ _ 9 _ x0 x1 _ (e0.trans (congrArg _ h0)) (e1.trans h1) (by decide) (by decide)
  case' piece27 =>
    unfold k0_pay150
    exact stored16 ((args m c).part 1) H.point u0 _ _ _ 9 _ x0 x1 _ (e0.trans (congrArg _ h0)) (e1.trans h1) (by decide) (by decide)
  case' piece28 =>
    unfold k0_pay149
    exact stored16 ((args m c).part 1) H.point u3 _ _ _ 8 _ x0 x1 _ (e0.trans (congrArg _ h0)) (e1.trans h1) (by decide) (by decide)
  case' piece29 =>
    unfold k0_pay148
    exact stored16 ((args m c).part 1) H.point u2 _ _ _ 8 _ x0 x1 _ (e0.trans (congrArg _ h0)) (e1.trans h1) (by decide) (by decide)
  case' piece30 =>
    unfold k0_pay147
    exact stored16 ((args m c).part 1) H.point u1 _ _ _ 8 _ x0 x1 _ (e0.trans (congrArg _ h0)) (e1.trans h1) (by decide) (by decide)
  case' piece31 =>
    unfold k0_pay146
    exact stored16 ((args m c).part 1) H.point u0 _ _ _ 8 _ x0 x1 _ (e0.trans (congrArg _ h0)) (e1.trans h1) (by decide) (by decide)
  case' piece32 =>
    unfold k0_pay145
    exact stored16 ((args m c).part 1) H.point u3 _ _ _ 7 _ x0 x1 _ (e0.trans (congrArg _ h0)) (e1.trans h1) (by decide) (by decide)
  case' piece33 =>
    unfold k0_pay144
    exact stored16 ((args m c).part 1) H.point u2 _ _ _ 7 _ x0 x1 _ (e0.trans (congrArg _ h0)) (e1.trans h1) (by decide) (by decide)
  case' piece34 =>
    unfold k0_pay143
    exact stored16 ((args m c).part 1) H.point u1 _ _ _ 7 _ x0 x1 _ (e0.trans (congrArg _ h0)) (e1.trans h1) (by decide) (by decide)
  case' piece35 =>
    unfold k0_pay142
    exact stored16 ((args m c).part 1) H.point u0 _ _ _ 7 _ x0 x1 _ (e0.trans (congrArg _ h0)) (e1.trans h1) (by decide) (by decide)
  case' piece36 =>
    unfold k0_pay141
    exact stored16 ((args m c).part 1) H.point u3 _ _ _ 6 _ x0 x1 _ (e0.trans (congrArg _ h0)) (e1.trans h1) (by decide) (by decide)
  case' piece37 =>
    unfold k0_pay140
    exact stored16 ((args m c).part 1) H.point u2 _ _ _ 6 _ x0 x1 _ (e0.trans (congrArg _ h0)) (e1.trans h1) (by decide) (by decide)
  case' piece38 =>
    unfold k0_pay139
    exact stored16 ((args m c).part 1) H.point u1 _ _ _ 6 _ x0 x1 _ (e0.trans (congrArg _ h0)) (e1.trans h1) (by decide) (by decide)
  case' piece39 =>
    unfold k0_pay138
    exact stored16 ((args m c).part 1) H.point u0 _ _ _ 6 _ x0 x1 _ (e0.trans (congrArg _ h0)) (e1.trans h1) (by decide) (by decide)
  case' piece40 =>
    unfold k0_pay137
    exact stored16 ((args m c).part 1) H.point u3 _ _ _ 5 _ x0 x1 _ (e0.trans (congrArg _ h0)) (e1.trans h1) (by decide) (by decide)
  case' piece41 =>
    unfold k0_pay136
    exact stored16 ((args m c).part 1) H.point u2 _ _ _ 5 _ x0 x1 _ (e0.trans (congrArg _ h0)) (e1.trans h1) (by decide) (by decide)
  case' piece42 =>
    unfold k0_pay135
    exact stored16 ((args m c).part 1) H.point u1 _ _ _ 5 _ x0 x1 _ (e0.trans (congrArg _ h0)) (e1.trans h1) (by decide) (by decide)
  case' piece43 =>
    unfold k0_pay134
    exact stored16 ((args m c).part 1) H.point u0 _ _ _ 5 _ x0 x1 _ (e0.trans (congrArg _ h0)) (e1.trans h1) (by decide) (by decide)
  case' piece44 =>
    unfold k0_pay133
    exact stored16 ((args m c).part 1) H.point u3 _ _ _ 4 _ x0 x1 _ (e0.trans (congrArg _ h0)) (e1.trans h1) (by decide) (by decide)
  case' piece45 =>
    unfold k0_pay132
    exact stored16 ((args m c).part 1) H.point u2 _ _ _ 4 _ x0 x1 _ (e0.trans (congrArg _ h0)) (e1.trans h1) (by decide) (by decide)
  case' piece46 =>
    unfold k0_pay131
    exact stored16 ((args m c).part 1) H.point u1 _ _ _ 4 _ x0 x1 _ (e0.trans (congrArg _ h0)) (e1.trans h1) (by decide) (by decide)
  case' piece47 =>
    unfold k0_pay130
    exact stored16 ((args m c).part 1) H.point u0 _ _ _ 4 _ x0 x1 _ (e0.trans (congrArg _ h0)) (e1.trans h1) (by decide) (by decide)
  case' piece48 =>
    unfold k0_pay129
    exact stored16 ((args m c).part 1) H.point u3 _ _ _ 3 _ x0 x1 _ (e0.trans (congrArg _ h0)) (e1.trans h1) (by decide) (by decide)
  case' piece49 =>
    unfold k0_pay128
    exact stored16 ((args m c).part 1) H.point u2 _ _ _ 3 _ x0 x1 _ (e0.trans (congrArg _ h0)) (e1.trans h1) (by decide) (by decide)
  case' piece50 =>
    unfold k0_pay127
    exact stored16 ((args m c).part 1) H.point u1 _ _ _ 3 _ x0 x1 _ (e0.trans (congrArg _ h0)) (e1.trans h1) (by decide) (by decide)
  case' piece51 =>
    unfold k0_pay126
    exact stored16 ((args m c).part 1) H.point u0 _ _ _ 3 _ x0 x1 _ (e0.trans (congrArg _ h0)) (e1.trans h1) (by decide) (by decide)
  case' piece52 =>
    unfold k0_pay125
    exact stored16 ((args m c).part 1) H.point u3 _ _ _ 2 _ x0 x1 _ (e0.trans (congrArg _ h0)) (e1.trans h1) (by decide) (by decide)
  case' piece53 =>
    unfold k0_pay124
    exact stored16 ((args m c).part 1) H.point u2 _ _ _ 2 _ x0 x1 _ (e0.trans (congrArg _ h0)) (e1.trans h1) (by decide) (by decide)
  case' piece54 =>
    unfold k0_pay123
    exact stored16 ((args m c).part 1) H.point u1 _ _ _ 2 _ x0 x1 _ (e0.trans (congrArg _ h0)) (e1.trans h1) (by decide) (by decide)
  case' piece55 =>
    unfold k0_pay122
    exact stored16 ((args m c).part 1) H.point u0 _ _ _ 2 _ x0 x1 _ (e0.trans (congrArg _ h0)) (e1.trans h1) (by decide) (by decide)
  case' piece56 =>
    unfold k0_pay121
    exact stored16 ((args m c).part 1) H.point u3 _ _ _ 1 _ x0 x1 _ (e0.trans (congrArg _ h0)) (e1.trans h1) (by decide) (by decide)
  case' piece57 =>
    unfold k0_pay120
    exact stored16 ((args m c).part 1) H.point u2 _ _ _ 1 _ x0 x1 _ (e0.trans (congrArg _ h0)) (e1.trans h1) (by decide) (by decide)
  case' piece58 =>
    unfold k0_pay119
    exact stored16 ((args m c).part 1) H.point u1 _ _ _ 1 _ x0 x1 _ (e0.trans (congrArg _ h0)) (e1.trans h1) (by decide) (by decide)
  case' piece59 =>
    unfold k0_pay118
    exact stored16 ((args m c).part 1) H.point u0 _ _ _ 1 _ x0 x1 _ (e0.trans (congrArg _ h0)) (e1.trans h1) (by decide) (by decide)
  case' piece60 =>
    unfold k0_pay117
    exact stored16 ((args m c).part 1) H.point u3 _ _ _ 0 _ x0 x1 _ (e0.trans (congrArg _ h0)) (e1.trans h1) (by decide) (by decide)
  case' piece61 =>
    unfold k0_pay116
    exact stored16 ((args m c).part 1) H.point u2 _ _ _ 0 _ x0 x1 _ (e0.trans (congrArg _ h0)) (e1.trans h1) (by decide) (by decide)
  case' piece62 =>
    unfold k0_pay115
    exact stored16 ((args m c).part 1) H.point u1 _ _ _ 0 _ x0 x1 _ (e0.trans (congrArg _ h0)) (e1.trans h1) (by decide) (by decide)
  case' piece63 =>
    unfold k0_pay114
    exact stored16 ((args m c).part 1) H.point u0 _ _ _ 0 _ x0 x1 _ (e0.trans (congrArg _ h0)) (e1.trans (h1.trans (Nat.zero_add _).symm)) (by decide) (by decide)

end Cert.ProjOut

end
-- ==== Proof.ProjValue16.lean ====
/-
  The mixers' inputs: one of the call's arrays in the order of the residues, entry by entry (untrusted).
-/
module

public import proofs.«01_k».proof.Defs
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Idealize.ShloMosaic.Pipeline (Dat)

variable (m : (ℓ : Loc nD τ sig) → Buf (Elt Ideal) ℓ)

set_option maxHeartbeats 4000000 in
theorem final11 (c : Dev nD) : (dats m 0 c).arrAt 11 (cfgs 0).N = by16 ((args m c).part 2) := by
  refine (dats m 0 c).arrAt_eq_of_covers 11 _ (by decide +kernel) fun t hf y => ?_
  blk_simp
  rw [after0_11]
  unfold Gen.outsAt0
  have H := holds m c t
  have hp := places t
  have e0 : ((((View.whole main_v4_8).slice (win0_11.rect t)).emb y) 0).val = 32 * t.val + (y 0).val := by blk_simp [hp]; omega
  have e1 : ((((View.whole main_v4_8).slice (win0_11.rect t)).emb y) 1).val = (y 1).val := by blk_simp [hp]
  have u0 := value0 _ _ _ (value_eq H inb_S4x1024x512_S1x1024x512_2_0_0)
  have u1 := value1 _ _ _ (value_eq H inb_S4x1024x512_S1x1024x512_2_0_0)
  have u2 := value2 _ _ _ (value_eq H inb_S4x1024x512_S1x1024x512_2_0_0)
  have u3 := value3 _ _ _ (value_eq H inb_S4x1024x512_S1x1024x512_2_0_0)
  frame_out
  canon_tiles x h
  all_goals idx_vars x
  case' piece0 =>
    unfold k0_pay1
    exact stored16 ((args m c).part 2) H.point u3 _ _ _ 15 _ x0 x1 _ (e0.trans (congrArg _ h0)) (e1.trans h1) (by decide) (by decide)
  case' piece1 =>
    unfold k0_pay262
    exact stored16 ((args m c).part 2) H.point u2 _ _ _ 15 _ x0 x1 _ (e0.trans (congrArg _ h0)) (e1.trans h1) (by decide) (by decide)
  case' piece2 =>
    unfold k0_pay261
    exact stored16 ((args m c).part 2) H.point u1 _ _ _ 15 _ x0 x1 _ (e0.trans (congrArg _ h0)) (e1.trans h1) (by decide) (by decide)
  case' piece3 =>
    unfold k0_pay260
    exact stored16 ((args m c).part 2) H.point u0 _ _ _ 15 _ x0 x1 _ (e0.trans (congrArg _ h0)) (e1.trans h1) (by decide) (by decide)
  case' piece4 =>
    unfold k0_pay259
    exact stored16 ((args m c).part 2) H.point u3 _ _ _ 14 _ x0 x1 _ (e0.trans (congrArg _ h0)) (e1.trans h1) (by decide) (by decide)
  case' piece5 =>
    unfold k0_pay258
    exact stored16 ((args m c).part 2) H.point u2 _ _ _ 14 _ x0 x1 _ (e0.trans (congrArg _ h0)) (e1.trans h1) (by decide) (by decide)
  case' piece6 =>
    unfold k0_pay257
    exact stored16 ((args m c).part 2) H.point u1 _ _ _ 14 _ x0 x1 _ (e0.trans (congrArg _ h0)) (e1.trans h1) (by decide) (by decide)
  case' piece7 =>
    unfold k0_pay256
    exact stored16 ((args m c).part 2) H.point u0 _ _ _ 14 _ x0 x1 _ (e0.trans (congrArg _ h0)) (e1.trans h1) (by decide) (by decide)
  case' piece8 =>
    unfold k0_pay255
    exact stored16 ((args m c).part 2) H.point u3 _ _ _ 13 _ x0 x1 _ (e0.trans (congrArg _ h0)) (e1.trans h1) (by decide) (by decide)
  case' piece9 =>
    unfold k0_pay254
    exact stored16 ((args m c).part 2) H.point u2 _ _ _ 13 _ x0 x1 _ (e0.trans (congrArg _ h0)) (e1.trans h1) (by decide) (by decide)
  case' piece10 =>
    unfold k0_pay253
    exact stored16 ((args m c).part 2) H.point u1 _ _ _ 13 _ x0 x1 _ (e0.trans (congrArg _ h0)) (e1.trans h1) (by decide) (by decide)
  case' piece11 =>
    unfold k0_pay252
    exact stored16 ((args m c).part 2) H.point u0 _ _ _ 13 _ x0 x1 _ (e0.trans (congrArg _ h0)) (e1.trans h1) (by decide) (by decide)
  case' piece12 =>
    unfold k0_pay251
    exact stored16 ((args m c).part 2) H.point u3 _ _ _ 12 _ x0 x1 _ (e0.trans (congrArg _ h0)) (e1.trans h1) (by decide) (by decide)
  case' piece13 =>
    unfold k0_pay250
    exact stored16 ((args m c).part 2) H.point u2 _ _ _ 12 _ x0 x1 _ (e0.trans (congrArg _ h0)) (e1.trans h1) (by decide) (by decide)
  case' piece14 =>
    unfold k0_pay249
    exact stored16 ((args m c).part 2) H.point u1 _ _ _ 12 _ x0 x1 _ (e0.trans (congrArg _ h0)) (e1.trans h1) (by decide) (by decide)
  case' piece15 =>
    unfold k0_pay248
    exact stored16 ((args m c).part 2) H.point u0 _ _ _ 12 _ x0 x1 _ (e0.trans (congrArg _ h0)) (e1.trans h1) (by decide) (by decide)
  case' piece16 =>
    unfold k0_pay247
    exact stored16 ((args m c).part 2) H.point u3 _ _ _ 11 _ x0 x1 _ (e0.trans (congrArg _ h0)) (e1.trans h1) (by decide) (by decide)
  case' piece17 =>
    unfold k0_pay246
    exact stored16 ((args m c).part 2) H.point u2 _ _ _ 11 _ x0 x1 _ (e0.trans (congrArg _ h0)) (e1.trans h1) (by decide) (by decide)
  case' piece18 =>
    unfold k0_pay245
    exact stored16 ((args m c).part 2) H.point u1 _ _ _ 11 _ x0 x1 _ (e0.trans (congrArg _ h0)) (e1.trans h1) (by decide) (by decide)
  case' piece19 =>
    unfold k0_pay244
    exact stored16 ((args m c).part 2) H.point u0 _ _ _ 11 _ x0 x1 _ (e0.trans (congrArg _ h0)) (e1.trans h1) (by decide) (by decide)
  case' piece20 =>
    unfold k0_pay243
    exact stored16 ((args m c).part 2) H.point u3 _ _ _ 10 _ x0 x1 _ (e0.trans (congrArg _ h0)) (e1.trans h1) (by decide) (by decide)
  case' piece21 =>
    unfold k0_pay242
    exact stored16 ((args m c).part 2) H.point u2 _ _ _ 10 _ x0 x1 _ (e0.trans (congrArg _ h0)) (e1.trans h1) (by decide) (by decide)
  case' piece22 =>
    unfold k0_pay241
    exact stored16 ((args m c).part 2) H.point u1 _ _ _ 10 _ x0 x1 _ (e0.trans (congrArg _ h0)) (e1.trans h1) (by decide) (by decide)
  case' piece23 =>
    unfold k0_pay240
    exact stored16 ((args m c).part 2) H.point u0 _ _ _ 10 _ x0 x1 _ (e0.trans (congrArg _ h0)) (e1.trans h1) (by decide) (by decide)
  case' piece24 =>
    unfold k0_pay239
    exact stored16 ((args m c).part 2) H.point u3 _ _ _ 9 _ x0 x1 _ (e0.trans (congrArg _ h0)) (e1.trans h1) (by decide) (by decide)
  case' piece25 =>
    unfold k0_pay238
    exact stored16 ((args m c).part 2) H.point u2 _ _ _ 9 _ x0 x1 _ (e0.trans (congrArg _ h0)) (e1.trans h1) (by decide) (by decide)
  case' piece26 =>
    unfold k0_pay237
    exact stored16 ((args m c).part 2) H.point u1 _ _ _ 9 _ x0 x1 _ (e0.trans (congrArg _ h0)) (e1.trans h1) (by decide) (by decide)
  case' piece27 =>
    unfold k0_pay236
    exact stored16 ((args m c).part 2) H.point u0 _ _ _ 9 _ x0 x1 _ (e0.trans (congrArg _ h0)) (e1.trans h1) (by decide) (by decide)
  case' piece28 =>
    unfold k0_pay235
    exact stored16 ((args m c).part 2) H.point u3 _ _ _ 8 _ x0 x1 _ (e0.trans (congrArg _ h0)) (e1.trans h1) (by decide) (by decide)
  case' piece29 =>
    unfold k0_pay234
    exact stored16 ((args m c).part 2) H.point u2 _ _ _ 8 _ x0 x1 _ (e0.trans (congrArg _ h0)) (e1.trans h1) (by decide) (by decide)
  case' piece30 =>
    unfold k0_pay233
    exact stored16 ((args m c).part 2) H.point u1 _ _ _ 8 _ x0 x1 _ (e0.trans (congrArg _ h0)) (e1.trans h1) (by decide) (by decide)
  case' piece31 =>
    unfold k0_pay232
    exact stored16 ((args m c).part 2) H.point u0 _ _ _ 8 _ x0 x1 _ (e0.trans (congrArg _ h0)) (e1.trans h1) (by decide) (by decide)
  case' piece32 =>
    unfold k0_pay231
    exact stored16 ((args m c).part 2) H.point u3 _ _ _ 7 _ x0 x1 _ (e0.trans (congrArg _ h0)) (e1.trans h1) (by decide) (by decide)
  case' piece33 =>
    unfold k0_pay230
    exact stored16 ((args m c).part 2) H.point u2 _ _ _ 7 _ x0 x1 _ (e0.trans (congrArg _ h0)) (e1.trans h1) (by decide) (by decide)
  case' piece34 =>
    unfold k0_pay229
    exact stored16 ((args m c).part 2) H.point u1 _ _ _ 7 _ x0 x1 _ (e0.trans (congrArg _ h0)) (e1.trans h1) (by decide) (by decide)
  case' piece35 =>
    unfold k0_pay228
    exact stored16 ((args m c).part 2) H.point u0 _ _ _ 7 _ x0 x1 _ (e0.trans (congrArg _ h0)) (e1.trans h1) (by decide) (by decide)
  case' piece36 =>
    unfold k0_pay227
    exact stored16 ((args m c).part 2) H.point u3 _ _ _ 6 _ x0 x1 _ (e0.trans (congrArg _ h0)) (e1.trans h1) (by decide) (by decide)
  case' piece37 =>
    unfold k0_pay226
    exact stored16 ((args m c).part 2) H.point u2 _ _ _ 6 _ x0 x1 _ (e0.trans (congrArg _ h0)) (e1.trans h1) (by decide) (by decide)
  case' piece38 =>
    unfold k0_pay225
    exact stored16 ((args m c).part 2) H.point u1 _ _ _ 6 _ x0 x1 _ (e0.trans (congrArg _ h0)) (e1.trans h1) (by decide) (by decide)
  case' piece39 =>
    unfold k0_pay224
    exact stored16 ((args m c).part 2) H.point u0 _ _ _ 6 _ x0 x1 _ (e0.trans (congrArg _ h0)) (e1.trans h1) (by decide) (by decide)
  case' piece40 =>
    unfold k0_pay223
    exact stored16 ((args m c).part 2) H.point u3 _ _ _ 5 _ x0 x1 _ (e0.trans (congrArg _ h0)) (e1.trans h1) (by decide) (by decide)
  case' piece41 =>
    unfold k0_pay222
    exact stored16 ((args m c).part 2) H.point u2 _ _ _ 5 _ x0 x1 _ (e0.trans (congrArg _ h0)) (e1.trans h1) (by decide) (by decide)
  case' piece42 =>
    unfold k0_pay221
    exact stored16 ((args m c).part 2) H.point u1 _ _ _ 5 _ x0 x1 _ (e0.trans (congrArg _ h0)) (e1.trans h1) (by decide) (by decide)
  case' piece43 =>
    unfold k0_pay220
    exact stored16 ((args m c).part 2) H.point u0 _ _ _ 5 _ x0 x1 _ (e0.trans (congrArg _ h0)) (e1.trans h1) (by decide) (by decide)
  case' piece44 =>
    unfold k0_pay219
    exact stored16 ((args m c).part 2) H.point u3 _ _ _ 4 _ x0 x1 _ (e0.trans (congrArg _ h0)) (e1.trans h1) (by decide) (by decide)
  case' piece45 =>
    unfold k0_pay218
    exact stored16 ((args m c).part 2) H.point u2 _ _ _ 4 _ x0 x1 _ (e0.trans (congrArg _ h0)) (e1.trans h1) (by decide) (by decide)
  case' piece46 =>
    unfold k0_pay217
    exact stored16 ((args m c).part 2) H.point u1 _ _ _ 4 _ x0 x1 _ (e0.trans (congrArg _ h0)) (e1.trans h1) (by decide) (by decide)
  case' piece47 =>
    unfold k0_pay216
    exact stored16 ((args m c).part 2) H.point u0 _ _ _ 4 _ x0 x1 _ (e0.trans (congrArg _ h0)) (e1.trans h1) (by decide) (by decide)
  case' piece48 =>
    unfold k0_pay215
    exact stored16 ((args m c).part 2) H.point u3 _ _ _ 3 _ x0 x1 _ (e0.trans (congrArg _ h0)) (e1.trans h1) (by decide) (by decide)
  case' piece49 =>
    unfold k0_pay214
    exact stored16 ((args m c).part 2) H.point u2 _ _ _ 3 _ x0 x1 _ (e0.trans (congrArg _ h0)) (e1.trans h1) (by decide) (by decide)
  case' piece50 =>
    unfold k0_pay213
    exact stored16 ((args m c).part 2) H.point u1 _ _ _ 3 _ x0 x1 _ (e0.trans (congrArg _ h0)) (e1.trans h1) (by decide) (by decide)
  case' piece51 =>
    unfold k0_pay212
    exact stored16 ((args m c).part 2) H.point u0 _ _ _ 3 _ x0 x1 _ (e0.trans (congrArg _ h0)) (e1.trans h1) (by decide) (by decide)
  case' piece52 =>
    unfold k0_pay211
    exact stored16 ((args m c).part 2) H.point u3 _ _ _ 2 _ x0 x1 _ (e0.trans (congrArg _ h0)) (e1.trans h1) (by decide) (by decide)
  case' piece53 =>
    unfold k0_pay210
    exact stored16 ((args m c).part 2) H.point u2 _ _ _ 2 _ x0 x1 _ (e0.trans (congrArg _ h0)) (e1.trans h1) (by decide) (by decide)
  case' piece54 =>
    unfold k0_pay209
    exact stored16 ((args m c).part 2) H.point u1 _ _ _ 2 _ x0 x1 _ (e0.trans (congrArg _ h0)) (e1.trans h1) (by decide) (by decide)
  case' piece55 =>
    unfold k0_pay208
    exact stored16 ((args m c).part 2) H.point u0 _ _ _ 2 _ x0 x1 _ (e0.trans (congrArg _ h0)) (e1.trans h1) (by decide) (by decide)
  case' piece56 =>
    unfold k0_pay207
    exact stored16 ((args m c).part 2) H.point u3 _ _ _ 1 _ x0 x1 _ (e0.trans (congrArg _ h0)) (e1.trans h1) (by decide) (by decide)
  case' piece57 =>
    unfold k0_pay206
    exact stored16 ((args m c).part 2) H.point u2 _ _ _ 1 _ x0 x1 _ (e0.trans (congrArg _ h0)) (e1.trans h1) (by decide) (by decide)
  case' piece58 =>
    unfold k0_pay205
    exact stored16 ((args m c).part 2) H.point u1 _ _ _ 1 _ x0 x1 _ (e0.trans (congrArg _ h0)) (e1.trans h1) (by decide) (by decide)
  case' piece59 =>
    unfold k0_pay204
    exact stored16 ((args m c).part 2) H.point u0 _ _ _ 1 _ x0 x1 _ (e0.trans (congrArg _ h0)) (e1.trans h1) (by decide) (by decide)
  case' piece60 =>
    unfold k0_pay203
    exact stored16 ((args m c).part 2) H.point u3 _ _ _ 0 _ x0 x1 _ (e0.trans (congrArg _ h0)) (e1.trans h1) (by decide) (by decide)
  case' piece61 =>
    unfold k0_pay202
    exact stored16 ((args m c).part 2) H.point u2 _ _ _ 0 _ x0 x1 _ (e0.trans (congrArg _ h0)) (e1.trans h1) (by decide) (by decide)
  case' piece62 =>
    unfold k0_pay201
    exact stored16 ((args m c).part 2) H.point u1 _ _ _ 0 _ x0 x1 _ (e0.trans (congrArg _ h0)) (e1.trans h1) (by decide) (by decide)
  case' piece63 =>
    unfold k0_pay200
    exact stored16 ((args m c).part 2) H.point u0 _ _ _ 0 _ x0 x1 _ (e0.trans (congrArg _ h0)) (e1.trans (h1.trans (Nat.zero_add _).symm)) (by decide) (by decide)

end Cert.ProjOut

end
-- ==== Proof.ProjRef.lean ====
/-
  The mixers' inputs: the reference's arrays, entry by entry (untrusted).
-/
module

public import proofs.«01_k».proof.Defs
public import proofs.«01_k».proof.Proof.Gen.ReferenceProjIdeal.Run
public import proofs.«01_k».proof.Proof.ProjOut
public import Idealize.ShloMosaic.Lib.Pipeline.ValueKit

@[expose] public section

set_option maxRecDepth 16384

noncomputable section

namespace Cert.ProjOut

open Idealize.ShloMosaic Idealize.ShloMosaic.TcCoe Idealize.SL.Sem Idealize.ShloMosaic.StableHlo Cert.ReferenceProjIdeal Cert.ReferenceProjIdeal.Gen
open Cert.GradFfn (recip shift)

/-- A norm with its scale, by reference. -/
abbrev refN (x : FVec Ideal S8192x1024 .f32) (g : FVec Ideal S1024 .f32) : FVec Ideal S8192x1024 .f32 :=
  mulf (mulf x (broadcastInDim S8192x1024 ![0, 1] bcast_S8192x1_S8192x1024_0_1 (Host.rsqrt (addf (Host.divf (broadcastInDim S8192x1 ![0]
    bcast_S8192_S8192x1_0 (Host.reduceAdd (mulf x x) (constant S_ .f32 0x00000000#32) reducesTo_S8192x1024_S8192_d1 h_S_)) (broadcastInDim S8192x1
    ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

/-- The product with the input weights, by reference. -/
abbrev refP (n : FVec Ideal S8192x1024 .f32) (w : FVec Ideal S1024x2048 .f32) : FVec Ideal S8192x2048 .f32 :=
  Host.dotGeneral dot_S8192x1024_S1024x2048_S8192x2048_1_0_0_1_n_n none n w
/-- The scaled queries, by reference. -/
abbrev refQ (p : FVec Ideal S8192x2048 .f32) : FVec Ideal S8192x512 .f32 :=
  mulf (extractStridedSlice S8192x512 ![0, 0] p slices_S8192x2048_S8192x512_0_0) (broadcastInDim S8192x512 ![] bcast_S_S8192x512 (constant S_ .f32 0x3E000000#32))
/-- The keys, by reference. -/
abbrev refK (p : FVec Ideal S8192x2048 .f32) : FVec Ideal S8192x512 .f32 := extractStridedSlice S8192x512 ![0, 512] p slices_S8192x2048_S8192x512_0_512
/-- The values, by reference. -/
abbrev refV (p : FVec Ideal S8192x2048 .f32) : FVec Ideal S8192x512 .f32 := extractStridedSlice S8192x512 ![0, 1024] p slices_S8192x2048_S8192x512_0_1024
/-- The pooling mixer's input, by reference. -/
abbrev refO (p : FVec Ideal S8192x2048 .f32) : FVec Ideal S8192x512 .f32 := extractStridedSlice S8192x512 ![0, 1536] p slices_S8192x2048_S8192x512_0_1536

/-- The arguments as the reference's run finds them. -/
def refArgs (m : (ℓ : Loc nD τ sig) → Buf (Elt Ideal) ℓ) (c : Dev nD) : Args where
  x := m ((c.tc : Thread nD τ).loc main_arg0)
  g := m ((c.tc : Thread nD τ).loc main_arg1)
  w := m ((c.tc : Thread nD τ).loc main_arg2)

theorem refN_at (x : FVec Ideal S8192x1024 .f32) (g : FVec Ideal S1024 .f32) (t : Fin 8192) (d : Fin 1024) :
    refN x g (ix2 t d) = x (ix2 t d) * recip (fun l => x (ix2 t l)) * g (ix1 d) := by
  pointwise [refN, recip, shift]

theorem refP_at (n : FVec Ideal S8192x1024 .f32) (w : FVec Ideal S1024x2048 .f32) (t : Fin 8192) (d : Fin 2048) :
    refP n w (ix2 t d) = ∑ k : Fin 1024, n (ix2 t k) * w (ix2 k d) := by
  pointwise [refP]

theorem refP_eq (A : Args) (t : Fin 8192) (b : Fin 4) (j : Fin 512) (J : Fin 2048) (hJ : J.val = 512 * b.val + j.val) :
    refP (refN A.x A.g) A.w (ix2 t J) = A.part b t j := by
  refine (refP_at _ _ t J).trans (Finset.sum_congr rfl fun k _ => congrArg₂ (· * ·) (refN_at _ _ t k) (congrArg (fun J => A.w (ix2 k J)) (Fin.ext hJ)))

theorem refQ_eq (A : Args) (t : Fin 8192) (j : Fin 512) : refQ (refP (refN A.x A.g) A.w) (ix2 t j) = A.query t j := by
  have h := refP_eq A t 0 j ⟨j.val, by omega⟩ (by show j.val = 512 * 0 + j.val; omega)
  unfold Args.query
  rw [← h]
  generalize refP (refN A.x A.g) A.w = p
  pointwise [refQ, eighth]
theorem refK_eq (A : Args) (t : Fin 8192) (j : Fin 512) : refK (refP (refN A.x A.g) A.w) (ix2 t j) = A.part 1 t j := by
  have h := refP_eq A t 1 j ⟨512 + j.val, by omega⟩ rfl
  rw [← h]
  generalize refP (refN A.x A.g) A.w = p
  pointwise [refK]
theorem refV_eq (A : Args) (t : Fin 8192) (j : Fin 512) : refV (refP (refN A.x A.g) A.w) (ix2 t j) = A.part 2 t j := by
  have h := refP_eq A t 2 j ⟨1024 + j.val, by omega⟩ rfl
  rw [← h]
  generalize refP (refN A.x A.g) A.w = p
  pointwise [refV]
theorem refO_eq (A : Args) (t : Fin 8192) (j : Fin 512) : refO (refP (refN A.x A.g) A.w) (ix2 t j) = A.part 3 t j := by
  have h := refP_eq A t 3 j ⟨1536 + j.val, by omega⟩ rfl
  rw [← h]
  generalize refP (refN A.x A.g) A.w = p
  pointwise [refO]

/-- One array in the order of the residues of four. -/
theorem cast4 (q : FVec Ideal S8192x512 .f32) (f : Fin 8192 → Fin 512 → EReal) (h : ∀ t j, q (ix2 t j) = f t j) :
    (truncf .bf16 (shapeCast S2048x2048 q shapeCasts_S8192x512_S2048x2048) bitsLt_bf16_f32 : FVec Ideal S2048x2048 .bf16) = by4 f := by
  funext j
  idx_vars j
  refine Eq.trans (shapeCast_apply q _ _ (ix2 _ _) ?_) (h _ _)
  rw [Shape.rowMajor_val_two, Shape.rowMajor_val_two]
  simp
  omega

/-- The same of sixteen. -/
theorem cast16 (q : FVec Ideal S8192x512 .f32) (f : Fin 8192 → Fin 512 → EReal) (h : ∀ t j, q (ix2 t j) = f t j) :
    (truncf .bf16 (shapeCast S512x8192 q shapeCasts_S8192x512_S512x8192) bitsLt_bf16_f32 : FVec Ideal S512x8192 .bf16) = by16 f := by
  funext j
  idx_vars j
  refine Eq.trans (shapeCast_apply q _ _ (ix2 _ _) ?_) (h _ _)
  rw [Shape.rowMajor_val_two, Shape.rowMajor_val_two]
  simp
  omega

theorem result_Q (A : Args) : (truncf .bf16 (refQ (refP (refN A.x A.g) A.w)) bitsLt_bf16_f32 : FVec Ideal S8192x512 .bf16) = fun j => A.query (j 0) (j 1) := by
  funext j
  idx_vars j
  exact refQ_eq A _ _

theorem result_K (A : Args) : (truncf .bf16 (refK (refP (refN A.x A.g) A.w)) bitsLt_bf16_f32 : FVec Ideal S8192x512 .bf16) = fun j => A.part 1 (j 0) (j 1) := by
  funext j
  idx_vars j
  exact refK_eq A _ _

theorem result_V (A : Args) : (truncf .bf16 (refV (refP (refN A.x A.g) A.w)) bitsLt_bf16_f32 : FVec Ideal S8192x512 .bf16) = fun j => A.part 2 (j 0) (j 1) := by
  funext j
  idx_vars j
  exact refV_eq A _ _

theorem result_O (A : Args) : (refO (refP (refN A.x A.g) A.w) : FVec Ideal S8192x512 .f32) = fun j => A.part 3 (j 0) (j 1) := by
  funext j
  idx_vars j
  exact refO_eq A _ _

theorem result_N (A : Args) : (truncf .bf16 (refN A.x A.g) bitsLt_bf16_f32 : FVec Ideal S8192x1024 .bf16) = fun j => A.nrm (j 0) (j 1) := by
  funext j
  idx_vars j
  exact refN_at _ _ _ _

end Cert.ProjOut

end
-- ==== Proof.ProjClaims.lean ====
/-
  The mixers' inputs: the five claims (untrusted).
-/
module

public import proofs.«01_k».proof.Defs
public import proofs.«01_k».proof.Proof.Gen.KernelProj.Frame
public import proofs.«01_k».proof.Proof.Gen.KernelProjIdeal.Value
public import proofs.«01_k».proof.Proof.ProjQuery4
public import proofs.«01_k».proof.Proof.ProjKey4
public import proofs.«01_k».proof.Proof.ProjValue4
public import proofs.«01_k».proof.Proof.ProjQuery16
public import proofs.«01_k».proof.Proof.ProjKey16
public import proofs.«01_k».proof.Proof.ProjValue16
public import proofs.«01_k».proof.Proof.ProjRef
public import Idealize.ShloMosaic.Lib.Pipeline.ValueKit
public import Idealize.ShloMosaic.Lib.Quiescent

@[expose] public section

set_option maxRecDepth 16384

noncomputable section

namespace Cert.ProjOut

open Idealize.ShloMosaic Idealize.ShloMosaic.TcCoe Idealize.SL.Sem Idealize.ShloMosaic.StableHlo Cert.KernelProjIdeal Cert.KernelProjIdeal.Gen
open Cert.GradFfn (recip shift)
open Idealize.ShloMosaic.Pipeline (Dat)

theorem frame_p : Cert.quiescent_KernelProj := fun m ρ _ => Cert.KernelProj.Gen.frame m ρ
theorem frame_pi : Cert.quiescent_KernelProjIdeal := fun m ρ _ => Cert.KernelProjIdeal.Gen.frame m ρ
theorem frame_ri : Cert.quiescent_ReferenceProjIdeal := fun m ρ _ =>
  (θ_run Cert.ReferenceProjIdeal.defs _ _).mono (fun r h => ⟨fun c => (h c).2.2.2.2.2.2.2.2.2.2.2, Idealize.ShloMosaic.sem_eq_zero_of_no_sems (by decide) r.2⟩)
    (Cert.ReferenceProjIdeal.Value.run (F := Ideal) m ρ)
theorem preserves : Cert.preserves_KernelProj_KernelProjIdeal := trivial

theorem algebraic : Cert.algebraic_KernelProjIdeal_ReferenceProjIdeal := by
  intro m ρ m' ρ' _ hagree
  refine ⟨fun c => (dats m 0 c).arrAt 3 cfg0.N,
    fun c => (dats m 0 c).arrAt 4 cfg0.N,
    fun c => (dats m 0 c).arrAt 5 cfg0.N,
    fun c => (dats m 0 c).arrAt 6 cfg0.N,
    fun c => (dats m 0 c).arrAt 7 cfg0.N,
    fun c => (dats m 0 c).arrAt 8 cfg0.N,
    fun c => (dats m 0 c).arrAt 9 cfg0.N,
    fun c => (dats m 0 c).arrAt 10 cfg0.N,
    fun c => (dats m 0 c).arrAt 11 cfg0.N,
    fun c => (dats m 0 c).arrAt 12 cfg0.N,
    fun c => (dats m 0 c).arrAt 13 cfg0.N, ?_, ?_⟩
  · refine (θ_run _ _ _).mono (fun r h c => ?_) (Cert.KernelProjIdeal.Value.run_blocks m ρ)
    obtain ⟨h0, h1, h2, h3, h4, h5, h6, h7, h8, h9, h10, hk⟩ := h c
    exact ⟨h0, h1, h2, h3, h4, h5, h6, h7, h8, h9, h10, hk⟩
  · refine (θ_run _ _ _).mono (fun r h c => ?_) (Cert.ReferenceProjIdeal.Value.run (F := Ideal) m' ρ')
    obtain ⟨h0, h1, h2, h3, h4, h5, h6, h7, h8, h9, h10, hk⟩ := h c
    obtain ⟨a0, a1, a2⟩ := hagree c
    have hA : refArgs m' c = args m c := by
      unfold refArgs args
      rw [a0, a1, a2]
    refine ⟨h0.trans (Eq.trans ?_ (final3 m c).symm),
      h1.trans (Eq.trans ?_ (final4 m c).symm),
      h2.trans (Eq.trans ?_ (final5 m c).symm),
      h3.trans (Eq.trans ?_ (final6 m c).symm),
      h4.trans (Eq.trans ?_ (final7 m c).symm),
      h5.trans (Eq.trans ?_ (final8 m c).symm),
      h6.trans (Eq.trans ?_ (final9 m c).symm),
      h7.trans (Eq.trans ?_ (final10 m c).symm),
      h8.trans (Eq.trans ?_ (final11 m c).symm),
      h9.trans (Eq.trans ?_ (final12 m c).symm),
      h10.trans (Eq.trans ?_ (final13 m c).symm), hk⟩
    · rw [← hA]; exact result_Q (refArgs m' c)
    · rw [← hA]; exact result_K (refArgs m' c)
    · rw [← hA]; exact result_V (refArgs m' c)
    · rw [← hA]; exact cast4 _ _ (refQ_eq (refArgs m' c))
    · rw [← hA]; exact cast4 _ _ (refK_eq (refArgs m' c))
    · rw [← hA]; exact cast4 _ _ (refV_eq (refArgs m' c))
    · rw [← hA]; exact cast16 _ _ (refQ_eq (refArgs m' c))
    · rw [← hA]; exact cast16 _ _ (refK_eq (refArgs m' c))
    · rw [← hA]; exact cast16 _ _ (refV_eq (refArgs m' c))
    · rw [← hA]; exact result_O (refArgs m' c)
    · rw [← hA]; exact result_N (refArgs m' c)

end Cert.ProjOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Final
public import proofs.«01_k».proof.Proof.GradUp
public import proofs.«01_k».proof.Proof.GradDown
public import proofs.«01_k».proof.Proof.GradOut
public import proofs.«01_k».proof.Proof.GradIn
public import proofs.«01_k».proof.Proof.GradFfn
public import proofs.«01_k».proof.Proof.MixClaims
public import proofs.«01_k».proof.Proof.ProjClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelFfn.Gen.facts, Cert.KernelFfnIdeal.Gen.facts, Cert.ReferenceFfnIdeal.Gen.facts,
  Cert.KernelMix.Gen.facts, Cert.KernelMixIdeal.Gen.facts, Cert.ReferenceMixIdeal.Gen.facts,
  Cert.KernelProj.Gen.facts, Cert.KernelProjIdeal.Gen.facts, Cert.ReferenceProjIdeal.Gen.facts,
  Cert.Pre_finite.Gen.facts,
  Cert.MixAttn.frame_p, Cert.MixAttn.frame_pi, Cert.MixAttn.frame_pi_finite,
  Cert.MixAttn.frame_ri, Cert.MixAttn.frame_ri_finite, Cert.GradUp.frame_p,
  Cert.GradUp.frame_pi, Cert.GradUp.frame_ri, Cert.GradDown.frame_p,
  Cert.GradDown.frame_pi, Cert.GradDown.frame_ri, Cert.GradOut.frame_p,
  Cert.GradOut.frame_pi, Cert.GradOut.frame_ri, Cert.GradIn.frame_p,
  Cert.GradIn.frame_pi, Cert.GradIn.frame_ri,
  Cert.GradFfn.frame_p, Cert.GradFfn.frame_pi, Cert.GradFfn.frame_ri,
  Cert.MixOut.frame_p, Cert.MixOut.frame_pi, Cert.MixOut.frame_ri,
  Cert.ProjOut.frame_p, Cert.ProjOut.frame_pi, Cert.ProjOut.frame_ri,
  Cert.MixAttn.preserves, Cert.MixAttn.algebraic, Cert.GradUp.preserves,
  Cert.GradUp.algebraic, Cert.GradDown.preserves, Cert.GradDown.algebraic,
  Cert.GradOut.preserves, Cert.GradOut.algebraic, Cert.GradIn.preserves,
  Cert.GradIn.algebraic,
  Cert.GradFfn.preserves, Cert.GradFfn.algebraic,
  Cert.MixOut.preserves, Cert.MixOut.algebraic,
  Cert.ProjOut.preserves, Cert.ProjOut.algebraic⟩

end Cert.Proof

end
